-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x96x1x224x224 : Shape := ⟨5, ![1, 96, 1, 224, 224]⟩
abbrev S128x99 : Shape := ⟨2, ![128, 99]⟩
abbrev S128 : Shape := ⟨1, ![128]⟩
abbrev S1x96x224x224 : Shape := ⟨4, ![1, 96, 224, 224]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S1x224x224 : Shape := ⟨3, ![1, 224, 224]⟩
abbrev S3x224x224 : Shape := ⟨3, ![3, 224, 224]⟩
abbrev S3x50176 : Shape := ⟨2, ![3, 50176]⟩
abbrev S128x128 : Shape := ⟨2, ![128, 128]⟩
abbrev S1x128 : Shape := ⟨2, ![1, 128]⟩
abbrev S96x224x224 : Shape := ⟨3, ![96, 224, 224]⟩
abbrev S96x50176 : Shape := ⟨2, ![96, 50176]⟩
abbrev S99x50176 : Shape := ⟨2, ![99, 50176]⟩
abbrev S50176x99 : Shape := ⟨2, ![50176, 99]⟩
abbrev S50176x128 : Shape := ⟨2, ![50176, 128]⟩
abbrev S50176 : Shape := ⟨1, ![50176]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S128x1 : Shape := ⟨2, ![128, 1]⟩
abbrev S7168x128 : Shape := ⟨2, ![7168, 128]⟩
abbrev S7168 : Shape := ⟨1, ![7168]⟩
abbrev S7168x1 : Shape := ⟨2, ![7168, 1]⟩
abbrev S1x128x128 : Shape := ⟨3, ![1, 128, 128]⟩

abbrev nBuf : Space → Nat
  | .hbm => 1067
  | .vmem => 8
  | .smem => 0
  | _ => 0

abbrev hbmTy0_0 (i : Nat) : BufTy := match i % 128 with
  | 0 => ⟨S1x96x1x224x224, .f32⟩
  | 1 => ⟨S128x99, .f32⟩
  | 2 => ⟨S128, .f32⟩
  | 3 => ⟨S1x96x224x224, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S223, .f32⟩
  | 12 => ⟨S_, .f32⟩
  | 13 => ⟨S223, .f32⟩
  | 14 => ⟨S223, .f32⟩
  | 15 => ⟨S1, .f32⟩
  | 16 => ⟨S_, .f32⟩
  | 17 => ⟨S223, .f32⟩
  | 18 => ⟨S223, .f32⟩
  | 19 => ⟨S223, .f32⟩
  | 20 => ⟨S223, .f32⟩
  | 21 => ⟨S1, .f32⟩
  | 22 => ⟨S223, .f32⟩
  | 23 => ⟨S223, .f32⟩
  | 24 => ⟨S223, .f32⟩
  | 25 => ⟨S1, .f32⟩
  | 26 => ⟨S224, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S223, .f32⟩
  | 35 => ⟨S_, .f32⟩
  | 36 => ⟨S223, .f32⟩
  | 37 => ⟨S223, .f32⟩
  | 38 => ⟨S1, .f32⟩
  | 39 => ⟨S_, .f32⟩
  | 40 => ⟨S223, .f32⟩
  | 41 => ⟨S223, .f32⟩
  | 42 => ⟨S223, .f32⟩
  | 43 => ⟨S223, .f32⟩
  | 44 => ⟨S1, .f32⟩
  | 45 => ⟨S223, .f32⟩
  | 46 => ⟨S223, .f32⟩
  | 47 => ⟨S223, .f32⟩
  | 48 => ⟨S1, .f32⟩
  | 49 => ⟨S224, .f32⟩
  | 50 => ⟨S224x224, .f32⟩
  | 51 => ⟨S224x224, .f32⟩
  | 52 => ⟨S_, .f32⟩
  | 53 => ⟨S224x224, .f32⟩
  | 54 => ⟨S1x224x224, .f32⟩
  | 55 => ⟨S1x224x224, .f32⟩
  | 56 => ⟨S1x224x224, .f32⟩
  | 57 => ⟨S3x224x224, .f32⟩
  | 58 => ⟨S3x50176, .f32⟩
  | 59 => ⟨S_, .f32⟩
  | 60 => ⟨S3x50176, .f32⟩
  | 61 => ⟨S3x50176, .f32⟩
  | 62 => ⟨S_, .f32⟩
  | 63 => ⟨S128x128, .f32⟩
  | 64 => ⟨S_, .i32⟩
  | 65 => ⟨S1, .i32⟩
  | 66 => ⟨S128x128, .f32⟩
  | 67 => ⟨S1x128, .f32⟩
  | 68 => ⟨S96x224x224, .f32⟩
  | 69 => ⟨S96x50176, .f32⟩
  | 70 => ⟨S99x50176, .f32⟩
  | 71 => ⟨S50176x99, .f32⟩
  | 72 => ⟨S_, .f32⟩
  | 73 => ⟨S50176x128, .f32⟩
  | 74 => ⟨S_, .i32⟩
  | 75 => ⟨S1, .i32⟩
  | 76 => ⟨S50176x128, .f32⟩
  | 77 => ⟨S_, .i32⟩
  | 78 => ⟨S1, .i32⟩
  | 79 => ⟨S_, .f32⟩
  | 80 => ⟨S50176, .f32⟩
  | 81 => ⟨S50176x128, .f32⟩
  | 82 => ⟨S_, .i32⟩
  | 83 => ⟨S_, .i32⟩
  | 84 => ⟨S_, .i32⟩
  | 85 => ⟨S_, .i32⟩
  | 86 => ⟨S1, .i32⟩
  | 87 => ⟨S_, .i32⟩
  | 88 => ⟨S_, .i32⟩
  | 89 => ⟨S_, .i32⟩
  | 90 => ⟨S1, .i32⟩
  | 91 => ⟨S2, .i32⟩
  | 92 => ⟨S50176, .i32⟩
  | 93 => ⟨S1, .i32⟩
  | 94 => ⟨S_, .i32⟩
  | 95 => ⟨S1, .i32⟩
  | 96 => ⟨S_, .i32⟩
  | 97 => ⟨S2, .i64⟩
  | 98 => ⟨S_, .i64⟩
  | 99 => ⟨S2, .i64⟩
  | 100 => ⟨S2, .i64⟩
  | 101 => ⟨S_, .i64⟩
  | 102 => ⟨S2, .i64⟩
  | 103 => ⟨S2, .i64⟩
  | 104 => ⟨S2, .i32⟩
  | 105 => ⟨S2, .i32⟩
  | 106 => ⟨S_, .i32⟩
  | 107 => ⟨S_, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S1x96x1x224x224, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S1x96x1x224x224, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S2x1, .i32⟩
  | 73 => ⟨S2x1, .i32⟩
  | 74 => ⟨S2x2, .i32⟩
  | 75 => ⟨S1x2, .i32⟩
  | 76 => ⟨S2, .i32⟩
  | 77 => ⟨S1x2, .i32⟩
  | 78 => ⟨S2, .i32⟩
  | 79 => ⟨S1, .i32⟩
  | 80 => ⟨S_, .i32⟩
  | 81 => ⟨S1, .i32⟩
  | 82 => ⟨S_, .i32⟩
  | 83 => ⟨S50176, .i64⟩
  | 84 => ⟨S_, .i64⟩
  | 85 => ⟨S50176, .i64⟩
  | 86 => ⟨S50176, .i64⟩
  | 87 => ⟨S_, .i64⟩
  | 88 => ⟨S50176, .i64⟩
  | 89 => ⟨S50176, .i64⟩
  | 90 => ⟨S50176, .i32⟩
  | 91 => ⟨S50176, .i32⟩
  | 92 => ⟨S_, .i32⟩
  | 93 => ⟨S_, .i32⟩
  | 94 => ⟨S_, .i32⟩
  | 95 => ⟨S50176, .i32⟩
  | 96 => ⟨S50176, .i32⟩
  | 97 => ⟨S50176, .i32⟩
  | 98 => ⟨S50176, .i32⟩
  | 99 => ⟨S50176, .i32⟩
  | 100 => ⟨S_, .i32⟩
  | 101 => ⟨S50176, .i32⟩
  | 102 => ⟨S50176, .i32⟩
  | 103 => ⟨S_, .i32⟩
  | 104 => ⟨S50176, .i32⟩
  | 105 => ⟨S50176, .i32⟩
  | 106 => ⟨S50176, .i32⟩
  | 107 => ⟨S50176, .i32⟩
  | 108 => ⟨S50176, .i32⟩
  | 109 => ⟨S_, .i32⟩
  | 110 => ⟨S50176, .i32⟩
  | 111 => ⟨S50176, .i32⟩
  | 112 => ⟨S_, .i32⟩
  | 113 => ⟨S50176, .i32⟩
  | 114 => ⟨S50176, .i32⟩
  | 115 => ⟨S50176, .i32⟩
  | 116 => ⟨S50176, .i32⟩
  | 117 => ⟨S50176, .i32⟩
  | 118 => ⟨S_, .i32⟩
  | 119 => ⟨S50176, .i32⟩
  | 120 => ⟨S50176, .i32⟩
  | 121 => ⟨S_, .i32⟩
  | 122 => ⟨S50176, .i32⟩
  | 123 => ⟨S50176, .i32⟩
  | 124 => ⟨S50176, .i32⟩
  | 125 => ⟨S50176, .i32⟩
  | 126 => ⟨S50176, .i32⟩
  | 127 => ⟨S_, .i32⟩
  | _ => ⟨S1x96x1x224x224, .f32⟩

abbrev hbmTy0_3 (i : Nat) : BufTy := match i % 128 with
  | 0 => ⟨S50176, .i32⟩
  | 1 => ⟨S50176, .i32⟩
  | 2 => ⟨S_, .i32⟩
  | 3 => ⟨S50176, .i32⟩
  | 4 => ⟨S50176, .i32⟩
  | 5 => ⟨S50176, .i32⟩
  | 6 => ⟨S50176, .i32⟩
  | 7 => ⟨S50176, .i32⟩
  | 8 => ⟨S50176, .i32⟩
  | 9 => ⟨S50176, .i32⟩
  | 10 => ⟨S50176, .i32⟩
  | 11 => ⟨S_, .i32⟩
  | 12 => ⟨S50176, .i32⟩
  | 13 => ⟨S50176, .i32⟩
  | 14 => ⟨S50176, .i32⟩
  | 15 => ⟨S_, .i32⟩
  | 16 => ⟨S50176, .i32⟩
  | 17 => ⟨S50176, .i32⟩
  | 18 => ⟨S_, .i32⟩
  | 19 => ⟨S50176, .i32⟩
  | 20 => ⟨S50176, .i32⟩
  | 21 => ⟨S50176, .i32⟩
  | 22 => ⟨S50176, .i32⟩
  | 23 => ⟨S50176, .i32⟩
  | 24 => ⟨S_, .i32⟩
  | 25 => ⟨S50176, .i32⟩
  | 26 => ⟨S50176, .i32⟩
  | 27 => ⟨S_, .i32⟩
  | 28 => ⟨S50176, .i32⟩
  | 29 => ⟨S50176, .i32⟩
  | 30 => ⟨S50176, .i32⟩
  | 31 => ⟨S50176, .i32⟩
  | 32 => ⟨S50176, .i32⟩
  | 33 => ⟨S_, .i32⟩
  | 34 => ⟨S50176, .i32⟩
  | 35 => ⟨S50176, .i32⟩
  | 36 => ⟨S_, .i32⟩
  | 37 => ⟨S50176, .i32⟩
  | 38 => ⟨S50176, .i32⟩
  | 39 => ⟨S50176, .i32⟩
  | 40 => ⟨S50176, .i32⟩
  | 41 => ⟨S50176, .i32⟩
  | 42 => ⟨S_, .i32⟩
  | 43 => ⟨S50176, .i32⟩
  | 44 => ⟨S50176, .i32⟩
  | 45 => ⟨S_, .i32⟩
  | 46 => ⟨S50176, .i32⟩
  | 47 => ⟨S50176, .i32⟩
  | 48 => ⟨S50176, .i32⟩
  | 49 => ⟨S50176, .i32⟩
  | 50 => ⟨S50176, .i32⟩
  | 51 => ⟨S50176, .i32⟩
  | 52 => ⟨S50176, .i32⟩
  | 53 => ⟨S50176, .i32⟩
  | 54 => ⟨S_, .i32⟩
  | 55 => ⟨S50176, .i32⟩
  | 56 => ⟨S50176, .i32⟩
  | 57 => ⟨S50176, .i32⟩
  | 58 => ⟨S_, .i32⟩
  | 59 => ⟨S50176, .i32⟩
  | 60 => ⟨S50176, .i32⟩
  | 61 => ⟨S_, .i32⟩
  | 62 => ⟨S50176, .i32⟩
  | 63 => ⟨S50176, .i32⟩
  | 64 => ⟨S50176, .i32⟩
  | 65 => ⟨S50176, .i32⟩
  | 66 => ⟨S50176, .i32⟩
  | 67 => ⟨S_, .i32⟩
  | 68 => ⟨S50176, .i32⟩
  | 69 => ⟨S50176, .i32⟩
  | 70 => ⟨S_, .i32⟩
  | 71 => ⟨S50176, .i32⟩
  | 72 => ⟨S50176, .i32⟩
  | 73 => ⟨S50176, .i32⟩
  | 74 => ⟨S50176, .i32⟩
  | 75 => ⟨S50176, .i32⟩
  | 76 => ⟨S_, .i32⟩
  | 77 => ⟨S50176, .i32⟩
  | 78 => ⟨S50176, .i32⟩
  | 79 => ⟨S_, .i32⟩
  | 80 => ⟨S50176, .i32⟩
  | 81 => ⟨S50176, .i32⟩
  | 82 => ⟨S50176, .i32⟩
  | 83 => ⟨S50176, .i32⟩
  | 84 => ⟨S50176, .i32⟩
  | 85 => ⟨S_, .i32⟩
  | 86 => ⟨S50176, .i32⟩
  | 87 => ⟨S50176, .i32⟩
  | 88 => ⟨S_, .i32⟩
  | 89 => ⟨S50176, .i32⟩
  | 90 => ⟨S50176, .i32⟩
  | 91 => ⟨S50176, .i32⟩
  | 92 => ⟨S50176, .i32⟩
  | 93 => ⟨S50176, .i32⟩
  | 94 => ⟨S50176, .i32⟩
  | 95 => ⟨S50176, .i32⟩
  | 96 => ⟨S50176, .i32⟩
  | 97 => ⟨S_, .i32⟩
  | 98 => ⟨S50176, .i32⟩
  | 99 => ⟨S50176, .i32⟩
  | 100 => ⟨S50176, .i32⟩
  | 101 => ⟨S_, .i32⟩
  | 102 => ⟨S50176, .i32⟩
  | 103 => ⟨S50176, .i32⟩
  | 104 => ⟨S_, .i32⟩
  | 105 => ⟨S50176, .i32⟩
  | 106 => ⟨S50176, .i32⟩
  | 107 => ⟨S50176, .i32⟩
  | 108 => ⟨S50176, .i32⟩
  | 109 => ⟨S50176, .i32⟩
  | 110 => ⟨S_, .i32⟩
  | 111 => ⟨S50176, .i32⟩
  | 112 => ⟨S50176, .i32⟩
  | 113 => ⟨S_, .i32⟩
  | 114 => ⟨S50176, .i32⟩
  | 115 => ⟨S50176, .i32⟩
  | 116 => ⟨S50176, .i32⟩
  | 117 => ⟨S50176, .i32⟩
  | 118 => ⟨S50176, .i32⟩
  | 119 => ⟨S_, .i32⟩
  | 120 => ⟨S50176, .i32⟩
  | 121 => ⟨S50176, .i32⟩
  | 122 => ⟨S_, .i32⟩
  | 123 => ⟨S50176, .i32⟩
  | 124 => ⟨S50176, .i32⟩
  | 125 => ⟨S50176, .i32⟩
  | 126 => ⟨S50176, .i32⟩
  | 127 => ⟨S50176, .i32⟩
  | _ => ⟨S1x96x1x224x224, .f32⟩

abbrev hbmTy0_4 (i : Nat) : BufTy := match i % 128 with
  | 0 => ⟨S_, .i32⟩
  | 1 => ⟨S50176, .i32⟩
  | 2 => ⟨S50176, .i32⟩
  | 3 => ⟨S_, .i32⟩
  | 4 => ⟨S50176, .i32⟩
  | 5 => ⟨S50176, .i32⟩
  | 6 => ⟨S50176, .i32⟩
  | 7 => ⟨S50176, .i32⟩
  | 8 => ⟨S50176, .i32⟩
  | 9 => ⟨S50176, .i32⟩
  | 10 => ⟨S50176, .i32⟩
  | 11 => ⟨S50176, .i32⟩
  | 12 => ⟨S_, .i32⟩
  | 13 => ⟨S50176, .i32⟩
  | 14 => ⟨S50176, .i32⟩
  | 15 => ⟨S50176, .i32⟩
  | 16 => ⟨S_, .i32⟩
  | 17 => ⟨S50176, .i32⟩
  | 18 => ⟨S50176, .i32⟩
  | 19 => ⟨S_, .i32⟩
  | 20 => ⟨S50176, .i32⟩
  | 21 => ⟨S50176, .i32⟩
  | 22 => ⟨S50176, .i32⟩
  | 23 => ⟨S50176, .i32⟩
  | 24 => ⟨S50176, .i32⟩
  | 25 => ⟨S_, .i32⟩
  | 26 => ⟨S50176, .i32⟩
  | 27 => ⟨S50176, .i32⟩
  | 28 => ⟨S_, .i32⟩
  | 29 => ⟨S50176, .i32⟩
  | 30 => ⟨S50176, .i32⟩
  | 31 => ⟨S50176, .i32⟩
  | 32 => ⟨S50176, .i32⟩
  | 33 => ⟨S50176, .i32⟩
  | 34 => ⟨S_, .i32⟩
  | 35 => ⟨S50176, .i32⟩
  | 36 => ⟨S50176, .i32⟩
  | 37 => ⟨S_, .i32⟩
  | 38 => ⟨S50176, .i32⟩
  | 39 => ⟨S50176, .i32⟩
  | 40 => ⟨S50176, .i32⟩
  | 41 => ⟨S50176, .i32⟩
  | 42 => ⟨S50176, .i32⟩
  | 43 => ⟨S_, .i32⟩
  | 44 => ⟨S50176, .i32⟩
  | 45 => ⟨S50176, .i32⟩
  | 46 => ⟨S_, .i32⟩
  | 47 => ⟨S50176, .i32⟩
  | 48 => ⟨S50176, .i32⟩
  | 49 => ⟨S50176, .i32⟩
  | 50 => ⟨S50176, .i32⟩
  | 51 => ⟨S50176, .i32⟩
  | 52 => ⟨S50176, .i32⟩
  | 53 => ⟨S50176, .i32⟩
  | 54 => ⟨S50176, .i32⟩
  | 55 => ⟨S_, .i32⟩
  | 56 => ⟨S50176, .i32⟩
  | 57 => ⟨S50176, .i32⟩
  | 58 => ⟨S50176, .i32⟩
  | 59 => ⟨S50176, .i32⟩
  | 60 => ⟨S50176, .i32⟩
  | 61 => ⟨S1, .i32⟩
  | 62 => ⟨S_, .i32⟩
  | 63 => ⟨S1, .i32⟩
  | 64 => ⟨S_, .i32⟩
  | 65 => ⟨S2, .i64⟩
  | 66 => ⟨S_, .i64⟩
  | 67 => ⟨S2, .i64⟩
  | 68 => ⟨S2, .i64⟩
  | 69 => ⟨S_, .i64⟩
  | 70 => ⟨S2, .i64⟩
  | 71 => ⟨S2, .i64⟩
  | 72 => ⟨S2, .i32⟩
  | 73 => ⟨S2, .i32⟩
  | 74 => ⟨S_, .i32⟩
  | 75 => ⟨S_, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S1x96x1x224x224, .f32⟩

abbrev hbmTy0_5 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S_, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S_, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S_, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S_, .i32⟩
  | 127 => ⟨S2, .i32⟩
  | _ => ⟨S1x96x1x224x224, .f32⟩

abbrev hbmTy0_6 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S_, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S2, .i32⟩
  | 15 => ⟨S2, .i32⟩
  | 16 => ⟨S_, .i32⟩
  | 17 => ⟨S2, .i32⟩
  | 18 => ⟨S2, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S2x1, .i32⟩
  | 41 => ⟨S2x1, .i32⟩
  | 42 => ⟨S2x2, .i32⟩
  | 43 => ⟨S1x2, .i32⟩
  | 44 => ⟨S2, .i32⟩
  | 45 => ⟨S1x2, .i32⟩
  | 46 => ⟨S2, .i32⟩
  | 47 => ⟨S1, .i32⟩
  | 48 => ⟨S_, .i32⟩
  | 49 => ⟨S1, .i32⟩
  | 50 => ⟨S_, .i32⟩
  | 51 => ⟨S50176, .i64⟩
  | 52 => ⟨S_, .i64⟩
  | 53 => ⟨S50176, .i64⟩
  | 54 => ⟨S50176, .i64⟩
  | 55 => ⟨S_, .i64⟩
  | 56 => ⟨S50176, .i64⟩
  | 57 => ⟨S50176, .i64⟩
  | 58 => ⟨S50176, .i32⟩
  | 59 => ⟨S50176, .i32⟩
  | 60 => ⟨S_, .i32⟩
  | 61 => ⟨S_, .i32⟩
  | 62 => ⟨S_, .i32⟩
  | 63 => ⟨S50176, .i32⟩
  | 64 => ⟨S50176, .i32⟩
  | 65 => ⟨S50176, .i32⟩
  | 66 => ⟨S50176, .i32⟩
  | 67 => ⟨S50176, .i32⟩
  | 68 => ⟨S_, .i32⟩
  | 69 => ⟨S50176, .i32⟩
  | 70 => ⟨S50176, .i32⟩
  | 71 => ⟨S_, .i32⟩
  | 72 => ⟨S50176, .i32⟩
  | 73 => ⟨S50176, .i32⟩
  | 74 => ⟨S50176, .i32⟩
  | 75 => ⟨S50176, .i32⟩
  | 76 => ⟨S50176, .i32⟩
  | 77 => ⟨S_, .i32⟩
  | 78 => ⟨S50176, .i32⟩
  | 79 => ⟨S50176, .i32⟩
  | 80 => ⟨S_, .i32⟩
  | 81 => ⟨S50176, .i32⟩
  | 82 => ⟨S50176, .i32⟩
  | 83 => ⟨S50176, .i32⟩
  | 84 => ⟨S50176, .i32⟩
  | 85 => ⟨S50176, .i32⟩
  | 86 => ⟨S_, .i32⟩
  | 87 => ⟨S50176, .i32⟩
  | 88 => ⟨S50176, .i32⟩
  | 89 => ⟨S_, .i32⟩
  | 90 => ⟨S50176, .i32⟩
  | 91 => ⟨S50176, .i32⟩
  | 92 => ⟨S50176, .i32⟩
  | 93 => ⟨S50176, .i32⟩
  | 94 => ⟨S50176, .i32⟩
  | 95 => ⟨S_, .i32⟩
  | 96 => ⟨S50176, .i32⟩
  | 97 => ⟨S50176, .i32⟩
  | 98 => ⟨S_, .i32⟩
  | 99 => ⟨S50176, .i32⟩
  | 100 => ⟨S50176, .i32⟩
  | 101 => ⟨S50176, .i32⟩
  | 102 => ⟨S50176, .i32⟩
  | 103 => ⟨S50176, .i32⟩
  | 104 => ⟨S50176, .i32⟩
  | 105 => ⟨S50176, .i32⟩
  | 106 => ⟨S50176, .i32⟩
  | 107 => ⟨S_, .i32⟩
  | 108 => ⟨S50176, .i32⟩
  | 109 => ⟨S50176, .i32⟩
  | 110 => ⟨S50176, .i32⟩
  | 111 => ⟨S_, .i32⟩
  | 112 => ⟨S50176, .i32⟩
  | 113 => ⟨S50176, .i32⟩
  | 114 => ⟨S_, .i32⟩
  | 115 => ⟨S50176, .i32⟩
  | 116 => ⟨S50176, .i32⟩
  | 117 => ⟨S50176, .i32⟩
  | 118 => ⟨S50176, .i32⟩
  | 119 => ⟨S50176, .i32⟩
  | 120 => ⟨S_, .i32⟩
  | 121 => ⟨S50176, .i32⟩
  | 122 => ⟨S50176, .i32⟩
  | 123 => ⟨S_, .i32⟩
  | 124 => ⟨S50176, .i32⟩
  | 125 => ⟨S50176, .i32⟩
  | 126 => ⟨S50176, .i32⟩
  | 127 => ⟨S50176, .i32⟩
  | _ => ⟨S1x96x1x224x224, .f32⟩

abbrev hbmTy0_7 (i : Nat) : BufTy := match i % 128 with
  | 0 => ⟨S50176, .i32⟩
  | 1 => ⟨S_, .i32⟩
  | 2 => ⟨S50176, .i32⟩
  | 3 => ⟨S50176, .i32⟩
  | 4 => ⟨S_, .i32⟩
  | 5 => ⟨S50176, .i32⟩
  | 6 => ⟨S50176, .i32⟩
  | 7 => ⟨S50176, .i32⟩
  | 8 => ⟨S50176, .i32⟩
  | 9 => ⟨S50176, .i32⟩
  | 10 => ⟨S_, .i32⟩
  | 11 => ⟨S50176, .i32⟩
  | 12 => ⟨S50176, .i32⟩
  | 13 => ⟨S_, .i32⟩
  | 14 => ⟨S50176, .i32⟩
  | 15 => ⟨S50176, .i32⟩
  | 16 => ⟨S50176, .i32⟩
  | 17 => ⟨S50176, .i32⟩
  | 18 => ⟨S50176, .i32⟩
  | 19 => ⟨S50176, .i32⟩
  | 20 => ⟨S50176, .i32⟩
  | 21 => ⟨S50176, .i32⟩
  | 22 => ⟨S_, .i32⟩
  | 23 => ⟨S50176, .i32⟩
  | 24 => ⟨S50176, .i32⟩
  | 25 => ⟨S50176, .i32⟩
  | 26 => ⟨S_, .i32⟩
  | 27 => ⟨S50176, .i32⟩
  | 28 => ⟨S50176, .i32⟩
  | 29 => ⟨S_, .i32⟩
  | 30 => ⟨S50176, .i32⟩
  | 31 => ⟨S50176, .i32⟩
  | 32 => ⟨S50176, .i32⟩
  | 33 => ⟨S50176, .i32⟩
  | 34 => ⟨S50176, .i32⟩
  | 35 => ⟨S_, .i32⟩
  | 36 => ⟨S50176, .i32⟩
  | 37 => ⟨S50176, .i32⟩
  | 38 => ⟨S_, .i32⟩
  | 39 => ⟨S50176, .i32⟩
  | 40 => ⟨S50176, .i32⟩
  | 41 => ⟨S50176, .i32⟩
  | 42 => ⟨S50176, .i32⟩
  | 43 => ⟨S50176, .i32⟩
  | 44 => ⟨S_, .i32⟩
  | 45 => ⟨S50176, .i32⟩
  | 46 => ⟨S50176, .i32⟩
  | 47 => ⟨S_, .i32⟩
  | 48 => ⟨S50176, .i32⟩
  | 49 => ⟨S50176, .i32⟩
  | 50 => ⟨S50176, .i32⟩
  | 51 => ⟨S50176, .i32⟩
  | 52 => ⟨S50176, .i32⟩
  | 53 => ⟨S_, .i32⟩
  | 54 => ⟨S50176, .i32⟩
  | 55 => ⟨S50176, .i32⟩
  | 56 => ⟨S_, .i32⟩
  | 57 => ⟨S50176, .i32⟩
  | 58 => ⟨S50176, .i32⟩
  | 59 => ⟨S50176, .i32⟩
  | 60 => ⟨S50176, .i32⟩
  | 61 => ⟨S50176, .i32⟩
  | 62 => ⟨S50176, .i32⟩
  | 63 => ⟨S50176, .i32⟩
  | 64 => ⟨S50176, .i32⟩
  | 65 => ⟨S_, .i32⟩
  | 66 => ⟨S50176, .i32⟩
  | 67 => ⟨S50176, .i32⟩
  | 68 => ⟨S50176, .i32⟩
  | 69 => ⟨S_, .i32⟩
  | 70 => ⟨S50176, .i32⟩
  | 71 => ⟨S50176, .i32⟩
  | 72 => ⟨S_, .i32⟩
  | 73 => ⟨S50176, .i32⟩
  | 74 => ⟨S50176, .i32⟩
  | 75 => ⟨S50176, .i32⟩
  | 76 => ⟨S50176, .i32⟩
  | 77 => ⟨S50176, .i32⟩
  | 78 => ⟨S_, .i32⟩
  | 79 => ⟨S50176, .i32⟩
  | 80 => ⟨S50176, .i32⟩
  | 81 => ⟨S_, .i32⟩
  | 82 => ⟨S50176, .i32⟩
  | 83 => ⟨S50176, .i32⟩
  | 84 => ⟨S50176, .i32⟩
  | 85 => ⟨S50176, .i32⟩
  | 86 => ⟨S50176, .i32⟩
  | 87 => ⟨S_, .i32⟩
  | 88 => ⟨S50176, .i32⟩
  | 89 => ⟨S50176, .i32⟩
  | 90 => ⟨S_, .i32⟩
  | 91 => ⟨S50176, .i32⟩
  | 92 => ⟨S50176, .i32⟩
  | 93 => ⟨S50176, .i32⟩
  | 94 => ⟨S50176, .i32⟩
  | 95 => ⟨S50176, .i32⟩
  | 96 => ⟨S_, .i32⟩
  | 97 => ⟨S50176, .i32⟩
  | 98 => ⟨S50176, .i32⟩
  | 99 => ⟨S_, .i32⟩
  | 100 => ⟨S50176, .i32⟩
  | 101 => ⟨S50176, .i32⟩
  | 102 => ⟨S50176, .i32⟩
  | 103 => ⟨S50176, .i32⟩
  | 104 => ⟨S50176, .i32⟩
  | 105 => ⟨S50176, .i32⟩
  | 106 => ⟨S50176, .i32⟩
  | 107 => ⟨S50176, .i32⟩
  | 108 => ⟨S_, .i32⟩
  | 109 => ⟨S50176, .i32⟩
  | 110 => ⟨S50176, .i32⟩
  | 111 => ⟨S50176, .i32⟩
  | 112 => ⟨S_, .i32⟩
  | 113 => ⟨S50176, .i32⟩
  | 114 => ⟨S50176, .i32⟩
  | 115 => ⟨S_, .i32⟩
  | 116 => ⟨S50176, .i32⟩
  | 117 => ⟨S50176, .i32⟩
  | 118 => ⟨S50176, .i32⟩
  | 119 => ⟨S50176, .i32⟩
  | 120 => ⟨S50176, .i32⟩
  | 121 => ⟨S_, .i32⟩
  | 122 => ⟨S50176, .i32⟩
  | 123 => ⟨S50176, .i32⟩
  | 124 => ⟨S_, .i32⟩
  | 125 => ⟨S50176, .i32⟩
  | 126 => ⟨S50176, .i32⟩
  | 127 => ⟨S50176, .i32⟩
  | _ => ⟨S1x96x1x224x224, .f32⟩

abbrev hbmTy0_8 (i : Nat) : BufTy := match i % 128 with
  | 0 => ⟨S50176, .i32⟩
  | 1 => ⟨S50176, .i32⟩
  | 2 => ⟨S_, .i32⟩
  | 3 => ⟨S50176, .i32⟩
  | 4 => ⟨S50176, .i32⟩
  | 5 => ⟨S_, .i32⟩
  | 6 => ⟨S50176, .i32⟩
  | 7 => ⟨S50176, .i32⟩
  | 8 => ⟨S50176, .i32⟩
  | 9 => ⟨S50176, .i32⟩
  | 10 => ⟨S50176, .i32⟩
  | 11 => ⟨S_, .i32⟩
  | 12 => ⟨S50176, .i32⟩
  | 13 => ⟨S50176, .i32⟩
  | 14 => ⟨S_, .i32⟩
  | 15 => ⟨S50176, .i32⟩
  | 16 => ⟨S50176, .i32⟩
  | 17 => ⟨S50176, .i32⟩
  | 18 => ⟨S50176, .i32⟩
  | 19 => ⟨S50176, .i32⟩
  | 20 => ⟨S50176, .i32⟩
  | 21 => ⟨S50176, .i32⟩
  | 22 => ⟨S50176, .i32⟩
  | 23 => ⟨S_, .i32⟩
  | 24 => ⟨S50176, .i32⟩
  | 25 => ⟨S50176, .i32⟩
  | 26 => ⟨S50176, .i32⟩
  | 27 => ⟨S50176, .i32⟩
  | 28 => ⟨S50176, .i32⟩
  | 29 => ⟨S128, .i32⟩
  | 30 => ⟨S_, .i32⟩
  | 31 => ⟨S128, .i32⟩
  | 32 => ⟨S128, .i1⟩
  | 33 => ⟨S_, .i32⟩
  | 34 => ⟨S128, .i32⟩
  | 35 => ⟨S128, .i32⟩
  | 36 => ⟨S128, .i32⟩
  | 37 => ⟨S128x1, .i32⟩
  | 38 => ⟨S128x128, .f32⟩
  | 39 => ⟨S128x128, .f32⟩
  | 40 => ⟨S128x128, .f32⟩
  | 41 => ⟨S1x128x128, .f32⟩
  | 42 => ⟨S1x128x128, .f32⟩
  | _ => ⟨S1x96x1x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x96x1x224x224, .f32⟩

abbrev bufTy : (tb : Table) → Fin (tcTables nBuf tb) → BufTy
  | .hbm, ⟨i, _⟩ => hbmTy i
  | .local _ .vmem, ⟨0, _⟩ => ⟨S50176x128, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S50176x128, .f32⟩
  | _, _ => ⟨S1x96x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v1 : Ref sig .tc := ⟨.hbm, 26, rfl⟩
abbrev main_cst_1 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_v15 : Ref sig .tc := ⟨.hbm, 47, rfl⟩
abbrev main_call1_v16 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_cst_3 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_4 : Ref sig .tc := ⟨.hbm, 59, rfl⟩
abbrev main_v11 : Ref sig .tc := ⟨.hbm, 60, rfl⟩
abbrev main_v12 : Ref sig .tc := ⟨.hbm, 61, rfl⟩
abbrev main_cst_5 : Ref sig .tc := ⟨.hbm, 62, rfl⟩
abbrev main_v13 : Ref sig .tc := ⟨.hbm, 63, rfl⟩
abbrev main_c : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_6 : Ref sig .tc := ⟨.hbm, 72, rfl⟩
abbrev main_v21 : Ref sig .tc := ⟨.hbm, 73, rfl⟩
abbrev main_c_7 : Ref sig .tc := ⟨.hbm, 74, rfl⟩
abbrev main_v22 : Ref sig .tc := ⟨.hbm, 75, rfl⟩
abbrev main_v23 : Ref sig .tc := ⟨.hbm, 76, rfl⟩
abbrev main_c_8 : Ref sig .tc := ⟨.hbm, 77, rfl⟩
abbrev main_v24 : Ref sig .tc := ⟨.hbm, 78, rfl⟩
abbrev main_cst_9 : Ref sig .tc := ⟨.hbm, 79, rfl⟩
abbrev main_v25 : Ref sig .tc := ⟨.hbm, 80, rfl⟩
abbrev main_v26 : Ref sig .tc := ⟨.hbm, 81, rfl⟩
abbrev main_c_10 : Ref sig .tc := ⟨.hbm, 82, rfl⟩
abbrev main_c_11 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_c_12 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_call2_call0_v0 : Ref sig .tc := ⟨.hbm, 93, rfl⟩
abbrev main_call2_call0_v1 : Ref sig .tc := ⟨.hbm, 94, rfl⟩
abbrev main_call2_call0_v2 : Ref sig .tc := ⟨.hbm, 95, rfl⟩
abbrev main_call2_call0_v3 : Ref sig .tc := ⟨.hbm, 96, rfl⟩
abbrev main_call2_call0_v4 : Ref sig .tc := ⟨.hbm, 97, rfl⟩
abbrev main_call2_call0_c : Ref sig .tc := ⟨.hbm, 98, rfl⟩
abbrev main_call2_call0_v5 : Ref sig .tc := ⟨.hbm, 99, rfl⟩
abbrev main_call2_call0_v6 : Ref sig .tc := ⟨.hbm, 100, rfl⟩
abbrev main_call2_call0_c_0 : Ref sig .tc := ⟨.hbm, 101, rfl⟩
abbrev main_call2_call0_v7 : Ref sig .tc := ⟨.hbm, 102, rfl⟩
abbrev main_call2_call0_v8 : Ref sig .tc := ⟨.hbm, 103, rfl⟩
abbrev main_call2_call0_v9 : Ref sig .tc := ⟨.hbm, 104, rfl⟩
abbrev main_call2_call0_v10 : Ref sig .tc := ⟨.hbm, 105, rfl⟩
abbrev main_call2_call0_call0_v0 : Ref sig .tc := ⟨.hbm, 106, rfl⟩
abbrev main_call2_call0_call0_c : Ref sig .tc := ⟨.hbm, 107, rfl⟩
abbrev main_call2_call0_call0_v1 : Ref sig .tc := ⟨.hbm, 108, rfl⟩
abbrev main_call2_call0_call0_v2 : Ref sig .tc := ⟨.hbm, 109, rfl⟩
abbrev main_call2_call0_call0_v3 : Ref sig .tc := ⟨.hbm, 110, rfl⟩
abbrev main_call2_call0_call0_v4 : Ref sig .tc := ⟨.hbm, 111, rfl⟩
abbrev main_call2_call0_call0_v5 : Ref sig .tc := ⟨.hbm, 112, rfl⟩
abbrev main_call2_call0_call0_v6 : Ref sig .tc := ⟨.hbm, 113, rfl⟩
abbrev main_call2_call0_call0_c_0 : Ref sig .tc := ⟨.hbm, 114, rfl⟩
abbrev main_call2_call0_call0_v7 : Ref sig .tc := ⟨.hbm, 115, rfl⟩
abbrev main_call2_call0_call0_v8 : Ref sig .tc := ⟨.hbm, 116, rfl⟩
abbrev main_call2_call0_call0_c_1 : Ref sig .tc := ⟨.hbm, 117, rfl⟩
abbrev main_call2_call0_call0_v9 : Ref sig .tc := ⟨.hbm, 118, rfl⟩
abbrev main_call2_call0_call0_v10 : Ref sig .tc := ⟨.hbm, 119, rfl⟩
abbrev main_call2_call0_call0_v11 : Ref sig .tc := ⟨.hbm, 120, rfl⟩
abbrev main_call2_call0_call0_v12 : Ref sig .tc := ⟨.hbm, 121, rfl⟩
abbrev main_call2_call0_call0_v13 : Ref sig .tc := ⟨.hbm, 122, rfl⟩
abbrev main_call2_call0_call0_c_2 : Ref sig .tc := ⟨.hbm, 123, rfl⟩
abbrev main_call2_call0_call0_v14 : Ref sig .tc := ⟨.hbm, 124, rfl⟩
abbrev main_call2_call0_call0_v15 : Ref sig .tc := ⟨.hbm, 125, rfl⟩
abbrev main_call2_call0_call0_c_3 : Ref sig .tc := ⟨.hbm, 126, rfl⟩
abbrev main_call2_call0_call0_v16 : Ref sig .tc := ⟨.hbm, 127, rfl⟩
abbrev main_call2_call0_call0_v17 : Ref sig .tc := ⟨.hbm, 128, rfl⟩
abbrev main_call2_call0_call0_v18 : Ref sig .tc := ⟨.hbm, 129, rfl⟩
abbrev main_call2_call0_call0_v19 : Ref sig .tc := ⟨.hbm, 130, rfl⟩
abbrev main_call2_call0_call0_v20 : Ref sig .tc := ⟨.hbm, 131, rfl⟩
abbrev main_call2_call0_call0_c_4 : Ref sig .tc := ⟨.hbm, 132, rfl⟩
abbrev main_call2_call0_call0_v21 : Ref sig .tc := ⟨.hbm, 133, rfl⟩
abbrev main_call2_call0_call0_v22 : Ref sig .tc := ⟨.hbm, 134, rfl⟩
abbrev main_call2_call0_call0_c_5 : Ref sig .tc := ⟨.hbm, 135, rfl⟩
abbrev main_call2_call0_call0_v23 : Ref sig .tc := ⟨.hbm, 136, rfl⟩
abbrev main_call2_call0_call0_v24 : Ref sig .tc := ⟨.hbm, 137, rfl⟩
abbrev main_call2_call0_call0_v25 : Ref sig .tc := ⟨.hbm, 138, rfl⟩
abbrev main_call2_call0_call0_v26 : Ref sig .tc := ⟨.hbm, 139, rfl⟩
abbrev main_call2_call0_call0_v27 : Ref sig .tc := ⟨.hbm, 140, rfl⟩
abbrev main_call2_call0_call0_c_6 : Ref sig .tc := ⟨.hbm, 141, rfl⟩
abbrev main_call2_call0_call0_v28 : Ref sig .tc := ⟨.hbm, 142, rfl⟩
abbrev main_call2_call0_call0_v29 : Ref sig .tc := ⟨.hbm, 143, rfl⟩
abbrev main_call2_call0_call0_c_7 : Ref sig .tc := ⟨.hbm, 144, rfl⟩
abbrev main_call2_call0_call0_v30 : Ref sig .tc := ⟨.hbm, 145, rfl⟩
abbrev main_call2_call0_call0_v31 : Ref sig .tc := ⟨.hbm, 146, rfl⟩
abbrev main_call2_call0_call0_v32 : Ref sig .tc := ⟨.hbm, 147, rfl⟩
abbrev main_call2_call0_call0_v33 : Ref sig .tc := ⟨.hbm, 148, rfl⟩
abbrev main_call2_call0_call0_v34 : Ref sig .tc := ⟨.hbm, 149, rfl⟩
abbrev main_call2_call0_call0_v35 : Ref sig .tc := ⟨.hbm, 150, rfl⟩
abbrev main_call2_call0_call0_v36 : Ref sig .tc := ⟨.hbm, 151, rfl⟩
abbrev main_call2_call0_call0_v37 : Ref sig .tc := ⟨.hbm, 152, rfl⟩
abbrev main_call2_call0_call0_c_8 : Ref sig .tc := ⟨.hbm, 153, rfl⟩
abbrev main_call2_call0_call0_v38 : Ref sig .tc := ⟨.hbm, 154, rfl⟩
abbrev main_call2_call0_call0_v39 : Ref sig .tc := ⟨.hbm, 155, rfl⟩
abbrev main_call2_call0_call0_v40 : Ref sig .tc := ⟨.hbm, 156, rfl⟩
abbrev main_call2_call0_call0_c_9 : Ref sig .tc := ⟨.hbm, 157, rfl⟩
abbrev main_call2_call0_call0_v41 : Ref sig .tc := ⟨.hbm, 158, rfl⟩
abbrev main_call2_call0_call0_v42 : Ref sig .tc := ⟨.hbm, 159, rfl⟩
abbrev main_call2_call0_call0_c_10 : Ref sig .tc := ⟨.hbm, 160, rfl⟩
abbrev main_call2_call0_call0_v43 : Ref sig .tc := ⟨.hbm, 161, rfl⟩
abbrev main_call2_call0_call0_v44 : Ref sig .tc := ⟨.hbm, 162, rfl⟩
abbrev main_call2_call0_call0_v45 : Ref sig .tc := ⟨.hbm, 163, rfl⟩
abbrev main_call2_call0_call0_v46 : Ref sig .tc := ⟨.hbm, 164, rfl⟩
abbrev main_call2_call0_call0_v47 : Ref sig .tc := ⟨.hbm, 165, rfl⟩
abbrev main_call2_call0_call0_c_11 : Ref sig .tc := ⟨.hbm, 166, rfl⟩
abbrev main_call2_call0_call0_v48 : Ref sig .tc := ⟨.hbm, 167, rfl⟩
abbrev main_call2_call0_call0_v49 : Ref sig .tc := ⟨.hbm, 168, rfl⟩
abbrev main_call2_call0_call0_c_12 : Ref sig .tc := ⟨.hbm, 169, rfl⟩
abbrev main_call2_call0_call0_v50 : Ref sig .tc := ⟨.hbm, 170, rfl⟩
abbrev main_call2_call0_call0_v51 : Ref sig .tc := ⟨.hbm, 171, rfl⟩
abbrev main_call2_call0_call0_v52 : Ref sig .tc := ⟨.hbm, 172, rfl⟩
abbrev main_call2_call0_call0_v53 : Ref sig .tc := ⟨.hbm, 173, rfl⟩
abbrev main_call2_call0_call0_v54 : Ref sig .tc := ⟨.hbm, 174, rfl⟩
abbrev main_call2_call0_call0_c_13 : Ref sig .tc := ⟨.hbm, 175, rfl⟩
abbrev main_call2_call0_call0_v55 : Ref sig .tc := ⟨.hbm, 176, rfl⟩
abbrev main_call2_call0_call0_v56 : Ref sig .tc := ⟨.hbm, 177, rfl⟩
abbrev main_call2_call0_call0_c_14 : Ref sig .tc := ⟨.hbm, 178, rfl⟩
abbrev main_call2_call0_call0_v57 : Ref sig .tc := ⟨.hbm, 179, rfl⟩
abbrev main_call2_call0_call0_v58 : Ref sig .tc := ⟨.hbm, 180, rfl⟩
abbrev main_call2_call0_call0_v59 : Ref sig .tc := ⟨.hbm, 181, rfl⟩
abbrev main_call2_call0_call0_v60 : Ref sig .tc := ⟨.hbm, 182, rfl⟩
abbrev main_call2_call0_call0_v61 : Ref sig .tc := ⟨.hbm, 183, rfl⟩
abbrev main_call2_call0_call0_c_15 : Ref sig .tc := ⟨.hbm, 184, rfl⟩
abbrev main_call2_call0_call0_v62 : Ref sig .tc := ⟨.hbm, 185, rfl⟩
abbrev main_call2_call0_call0_v63 : Ref sig .tc := ⟨.hbm, 186, rfl⟩
abbrev main_call2_call0_call0_c_16 : Ref sig .tc := ⟨.hbm, 187, rfl⟩
abbrev main_call2_call0_call0_v64 : Ref sig .tc := ⟨.hbm, 188, rfl⟩
abbrev main_call2_call0_call0_v65 : Ref sig .tc := ⟨.hbm, 189, rfl⟩
abbrev main_call2_call0_call0_v66 : Ref sig .tc := ⟨.hbm, 190, rfl⟩
abbrev main_call2_call0_call0_v67 : Ref sig .tc := ⟨.hbm, 191, rfl⟩
abbrev main_call2_call0_call0_v68 : Ref sig .tc := ⟨.hbm, 192, rfl⟩
abbrev main_call2_call0_call0_v69 : Ref sig .tc := ⟨.hbm, 193, rfl⟩
abbrev main_call2_call0_call0_v70 : Ref sig .tc := ⟨.hbm, 194, rfl⟩
abbrev main_call2_call0_call0_v71 : Ref sig .tc := ⟨.hbm, 195, rfl⟩
abbrev main_call2_call0_call0_c_17 : Ref sig .tc := ⟨.hbm, 196, rfl⟩
abbrev main_call2_call0_call0_v72 : Ref sig .tc := ⟨.hbm, 197, rfl⟩
abbrev main_call2_call0_call0_v73 : Ref sig .tc := ⟨.hbm, 198, rfl⟩
abbrev main_call2_call0_call0_v74 : Ref sig .tc := ⟨.hbm, 199, rfl⟩
abbrev main_call2_call0_call0_c_18 : Ref sig .tc := ⟨.hbm, 200, rfl⟩
abbrev main_call2_call0_call0_v75 : Ref sig .tc := ⟨.hbm, 201, rfl⟩
abbrev main_call2_call0_call0_v76 : Ref sig .tc := ⟨.hbm, 202, rfl⟩
abbrev main_call2_call0_call0_c_19 : Ref sig .tc := ⟨.hbm, 203, rfl⟩
abbrev main_call2_call0_call0_v77 : Ref sig .tc := ⟨.hbm, 204, rfl⟩
abbrev main_call2_call0_call0_v78 : Ref sig .tc := ⟨.hbm, 205, rfl⟩
abbrev main_call2_call0_call0_v79 : Ref sig .tc := ⟨.hbm, 206, rfl⟩
abbrev main_call2_call0_call0_v80 : Ref sig .tc := ⟨.hbm, 207, rfl⟩
abbrev main_call2_call0_call0_v81 : Ref sig .tc := ⟨.hbm, 208, rfl⟩
abbrev main_call2_call0_call0_c_20 : Ref sig .tc := ⟨.hbm, 209, rfl⟩
abbrev main_call2_call0_call0_v82 : Ref sig .tc := ⟨.hbm, 210, rfl⟩
abbrev main_call2_call0_call0_v83 : Ref sig .tc := ⟨.hbm, 211, rfl⟩
abbrev main_call2_call0_call0_c_21 : Ref sig .tc := ⟨.hbm, 212, rfl⟩
abbrev main_call2_call0_call0_v84 : Ref sig .tc := ⟨.hbm, 213, rfl⟩
abbrev main_call2_call0_call0_v85 : Ref sig .tc := ⟨.hbm, 214, rfl⟩
abbrev main_call2_call0_call0_v86 : Ref sig .tc := ⟨.hbm, 215, rfl⟩
abbrev main_call2_call0_call0_v87 : Ref sig .tc := ⟨.hbm, 216, rfl⟩
abbrev main_call2_call0_call0_v88 : Ref sig .tc := ⟨.hbm, 217, rfl⟩
abbrev main_call2_call0_call0_c_22 : Ref sig .tc := ⟨.hbm, 218, rfl⟩
abbrev main_call2_call0_call0_v89 : Ref sig .tc := ⟨.hbm, 219, rfl⟩
abbrev main_call2_call0_call0_v90 : Ref sig .tc := ⟨.hbm, 220, rfl⟩
abbrev main_call2_call0_call0_c_23 : Ref sig .tc := ⟨.hbm, 221, rfl⟩
abbrev main_call2_call0_call0_v91 : Ref sig .tc := ⟨.hbm, 222, rfl⟩
abbrev main_call2_call0_call0_v92 : Ref sig .tc := ⟨.hbm, 223, rfl⟩
abbrev main_call2_call0_call0_v93 : Ref sig .tc := ⟨.hbm, 224, rfl⟩
abbrev main_call2_call0_call0_v94 : Ref sig .tc := ⟨.hbm, 225, rfl⟩
abbrev main_call2_call0_call0_v95 : Ref sig .tc := ⟨.hbm, 226, rfl⟩
abbrev main_call2_call0_call0_c_24 : Ref sig .tc := ⟨.hbm, 227, rfl⟩
abbrev main_call2_call0_call0_v96 : Ref sig .tc := ⟨.hbm, 228, rfl⟩
abbrev main_call2_call0_call0_v97 : Ref sig .tc := ⟨.hbm, 229, rfl⟩
abbrev main_call2_call0_call0_c_25 : Ref sig .tc := ⟨.hbm, 230, rfl⟩
abbrev main_call2_call0_call0_v98 : Ref sig .tc := ⟨.hbm, 231, rfl⟩
abbrev main_call2_call0_call0_v99 : Ref sig .tc := ⟨.hbm, 232, rfl⟩
abbrev main_call2_call0_call0_v100 : Ref sig .tc := ⟨.hbm, 233, rfl⟩
abbrev main_call2_call0_call0_v101 : Ref sig .tc := ⟨.hbm, 234, rfl⟩
abbrev main_call2_call0_call0_v102 : Ref sig .tc := ⟨.hbm, 235, rfl⟩
abbrev main_call2_call0_call0_v103 : Ref sig .tc := ⟨.hbm, 236, rfl⟩
abbrev main_call2_call0_call0_v104 : Ref sig .tc := ⟨.hbm, 237, rfl⟩
abbrev main_call2_call0_call0_v105 : Ref sig .tc := ⟨.hbm, 238, rfl⟩
abbrev main_call2_call0_call0_c_26 : Ref sig .tc := ⟨.hbm, 239, rfl⟩
abbrev main_call2_call0_call0_v106 : Ref sig .tc := ⟨.hbm, 240, rfl⟩
abbrev main_call2_call0_call0_v107 : Ref sig .tc := ⟨.hbm, 241, rfl⟩
abbrev main_call2_call0_call0_v108 : Ref sig .tc := ⟨.hbm, 242, rfl⟩
abbrev main_call2_call0_call0_c_27 : Ref sig .tc := ⟨.hbm, 243, rfl⟩
abbrev main_call2_call0_call0_v109 : Ref sig .tc := ⟨.hbm, 244, rfl⟩
abbrev main_call2_call0_call0_v110 : Ref sig .tc := ⟨.hbm, 245, rfl⟩
abbrev main_call2_call0_call0_c_28 : Ref sig .tc := ⟨.hbm, 246, rfl⟩
abbrev main_call2_call0_call0_v111 : Ref sig .tc := ⟨.hbm, 247, rfl⟩
abbrev main_call2_call0_call0_v112 : Ref sig .tc := ⟨.hbm, 248, rfl⟩
abbrev main_call2_call0_call0_v113 : Ref sig .tc := ⟨.hbm, 249, rfl⟩
abbrev main_call2_call0_call0_v114 : Ref sig .tc := ⟨.hbm, 250, rfl⟩
abbrev main_call2_call0_call0_v115 : Ref sig .tc := ⟨.hbm, 251, rfl⟩
abbrev main_call2_call0_call0_c_29 : Ref sig .tc := ⟨.hbm, 252, rfl⟩
abbrev main_call2_call0_call0_v116 : Ref sig .tc := ⟨.hbm, 253, rfl⟩
abbrev main_call2_call0_call0_v117 : Ref sig .tc := ⟨.hbm, 254, rfl⟩
abbrev main_call2_call0_call0_c_30 : Ref sig .tc := ⟨.hbm, 255, rfl⟩
abbrev main_call2_call0_call0_v118 : Ref sig .tc := ⟨.hbm, 256, rfl⟩
abbrev main_call2_call0_call0_v119 : Ref sig .tc := ⟨.hbm, 257, rfl⟩
abbrev main_call2_call0_call0_v120 : Ref sig .tc := ⟨.hbm, 258, rfl⟩
abbrev main_call2_call0_call0_v121 : Ref sig .tc := ⟨.hbm, 259, rfl⟩
abbrev main_call2_call0_call0_v122 : Ref sig .tc := ⟨.hbm, 260, rfl⟩
abbrev main_call2_call0_call0_c_31 : Ref sig .tc := ⟨.hbm, 261, rfl⟩
abbrev main_call2_call0_call0_v123 : Ref sig .tc := ⟨.hbm, 262, rfl⟩
abbrev main_call2_call0_call0_v124 : Ref sig .tc := ⟨.hbm, 263, rfl⟩
abbrev main_call2_call0_call0_c_32 : Ref sig .tc := ⟨.hbm, 264, rfl⟩
abbrev main_call2_call0_call0_v125 : Ref sig .tc := ⟨.hbm, 265, rfl⟩
abbrev main_call2_call0_call0_v126 : Ref sig .tc := ⟨.hbm, 266, rfl⟩
abbrev main_call2_call0_call0_v127 : Ref sig .tc := ⟨.hbm, 267, rfl⟩
abbrev main_call2_call0_call0_v128 : Ref sig .tc := ⟨.hbm, 268, rfl⟩
abbrev main_call2_call0_call0_v129 : Ref sig .tc := ⟨.hbm, 269, rfl⟩
abbrev main_call2_call0_call0_c_33 : Ref sig .tc := ⟨.hbm, 270, rfl⟩
abbrev main_call2_call0_call0_v130 : Ref sig .tc := ⟨.hbm, 271, rfl⟩
abbrev main_call2_call0_call0_v131 : Ref sig .tc := ⟨.hbm, 272, rfl⟩
abbrev main_call2_call0_call0_c_34 : Ref sig .tc := ⟨.hbm, 273, rfl⟩
abbrev main_call2_call0_call0_v132 : Ref sig .tc := ⟨.hbm, 274, rfl⟩
abbrev main_call2_call0_call0_v133 : Ref sig .tc := ⟨.hbm, 275, rfl⟩
abbrev main_call2_call0_call0_v134 : Ref sig .tc := ⟨.hbm, 276, rfl⟩
abbrev main_call2_call0_call0_v135 : Ref sig .tc := ⟨.hbm, 277, rfl⟩
abbrev main_call2_call0_call0_v136 : Ref sig .tc := ⟨.hbm, 278, rfl⟩
abbrev main_call2_call0_call0_v137 : Ref sig .tc := ⟨.hbm, 279, rfl⟩
abbrev main_call2_call0_call0_v138 : Ref sig .tc := ⟨.hbm, 280, rfl⟩
abbrev main_call2_call0_call0_v139 : Ref sig .tc := ⟨.hbm, 281, rfl⟩
abbrev main_call2_call0_call0_c_35 : Ref sig .tc := ⟨.hbm, 282, rfl⟩
abbrev main_call2_call0_call0_v140 : Ref sig .tc := ⟨.hbm, 283, rfl⟩
abbrev main_call2_call0_call0_v141 : Ref sig .tc := ⟨.hbm, 284, rfl⟩
abbrev main_call2_call0_call0_v142 : Ref sig .tc := ⟨.hbm, 285, rfl⟩
abbrev main_call2_call0_call0_c_36 : Ref sig .tc := ⟨.hbm, 286, rfl⟩
abbrev main_call2_call0_call0_v143 : Ref sig .tc := ⟨.hbm, 287, rfl⟩
abbrev main_call2_call0_call0_v144 : Ref sig .tc := ⟨.hbm, 288, rfl⟩
abbrev main_call2_call0_call0_c_37 : Ref sig .tc := ⟨.hbm, 289, rfl⟩
abbrev main_call2_call0_call0_v145 : Ref sig .tc := ⟨.hbm, 290, rfl⟩
abbrev main_call2_call0_call0_v146 : Ref sig .tc := ⟨.hbm, 291, rfl⟩
abbrev main_call2_call0_call0_v147 : Ref sig .tc := ⟨.hbm, 292, rfl⟩
abbrev main_call2_call0_call0_v148 : Ref sig .tc := ⟨.hbm, 293, rfl⟩
abbrev main_call2_call0_call0_v149 : Ref sig .tc := ⟨.hbm, 294, rfl⟩
abbrev main_call2_call0_call0_c_38 : Ref sig .tc := ⟨.hbm, 295, rfl⟩
abbrev main_call2_call0_call0_v150 : Ref sig .tc := ⟨.hbm, 296, rfl⟩
abbrev main_call2_call0_call0_v151 : Ref sig .tc := ⟨.hbm, 297, rfl⟩
abbrev main_call2_call0_call0_c_39 : Ref sig .tc := ⟨.hbm, 298, rfl⟩
abbrev main_call2_call0_call0_v152 : Ref sig .tc := ⟨.hbm, 299, rfl⟩
abbrev main_call2_call0_call0_v153 : Ref sig .tc := ⟨.hbm, 300, rfl⟩
abbrev main_call2_call0_call0_v154 : Ref sig .tc := ⟨.hbm, 301, rfl⟩
abbrev main_call2_call0_call0_v155 : Ref sig .tc := ⟨.hbm, 302, rfl⟩
abbrev main_call2_call0_call0_v156 : Ref sig .tc := ⟨.hbm, 303, rfl⟩
abbrev main_call2_call0_call0_c_40 : Ref sig .tc := ⟨.hbm, 304, rfl⟩
abbrev main_call2_call0_call0_v157 : Ref sig .tc := ⟨.hbm, 305, rfl⟩
abbrev main_call2_call0_call0_v158 : Ref sig .tc := ⟨.hbm, 306, rfl⟩
abbrev main_call2_call0_call0_c_41 : Ref sig .tc := ⟨.hbm, 307, rfl⟩
abbrev main_call2_call0_call0_v159 : Ref sig .tc := ⟨.hbm, 308, rfl⟩
abbrev main_call2_call0_call0_v160 : Ref sig .tc := ⟨.hbm, 309, rfl⟩
abbrev main_call2_call0_call0_v161 : Ref sig .tc := ⟨.hbm, 310, rfl⟩
abbrev main_call2_call0_call0_v162 : Ref sig .tc := ⟨.hbm, 311, rfl⟩
abbrev main_call2_call0_call0_v163 : Ref sig .tc := ⟨.hbm, 312, rfl⟩
abbrev main_call2_call0_call0_c_42 : Ref sig .tc := ⟨.hbm, 313, rfl⟩
abbrev main_call2_call0_call0_v164 : Ref sig .tc := ⟨.hbm, 314, rfl⟩
abbrev main_call2_call0_call0_v165 : Ref sig .tc := ⟨.hbm, 315, rfl⟩
abbrev main_call2_call0_call0_c_43 : Ref sig .tc := ⟨.hbm, 316, rfl⟩
abbrev main_call2_call0_call0_v166 : Ref sig .tc := ⟨.hbm, 317, rfl⟩
abbrev main_call2_call0_call0_v167 : Ref sig .tc := ⟨.hbm, 318, rfl⟩
abbrev main_call2_call0_call0_v168 : Ref sig .tc := ⟨.hbm, 319, rfl⟩
abbrev main_call2_call0_call0_v169 : Ref sig .tc := ⟨.hbm, 320, rfl⟩
abbrev main_call2_call0_call0_v170 : Ref sig .tc := ⟨.hbm, 321, rfl⟩
abbrev main_call2_call0_v11_0 : Ref sig .tc := ⟨.hbm, 322, rfl⟩
abbrev main_call2_call0_call0_v172 : Ref sig .tc := ⟨.hbm, 323, rfl⟩
abbrev main_call2_call0_call0_v173 : Ref sig .tc := ⟨.hbm, 324, rfl⟩
abbrev main_call2_call0_call0_c_44 : Ref sig .tc := ⟨.hbm, 325, rfl⟩
abbrev main_call2_call0_call0_v174 : Ref sig .tc := ⟨.hbm, 326, rfl⟩
abbrev main_call2_call0_v11_1 : Ref sig .tc := ⟨.hbm, 327, rfl⟩
abbrev main_call2_call0_v12 : Ref sig .tc := ⟨.hbm, 328, rfl⟩
abbrev main_call2_call0_v13 : Ref sig .tc := ⟨.hbm, 329, rfl⟩
abbrev main_call2_v0 : Ref sig .tc := ⟨.hbm, 330, rfl⟩
abbrev main_call2_v1 : Ref sig .tc := ⟨.hbm, 331, rfl⟩
abbrev main_call2_v2 : Ref sig .tc := ⟨.hbm, 332, rfl⟩
abbrev main_call2_v3 : Ref sig .tc := ⟨.hbm, 333, rfl⟩
abbrev main_call2_v4 : Ref sig .tc := ⟨.hbm, 334, rfl⟩
abbrev main_call2_v5 : Ref sig .tc := ⟨.hbm, 335, rfl⟩
abbrev main_call2_v6 : Ref sig .tc := ⟨.hbm, 336, rfl⟩
abbrev main_call2_v7 : Ref sig .tc := ⟨.hbm, 337, rfl⟩
abbrev main_call2_v8 : Ref sig .tc := ⟨.hbm, 338, rfl⟩
abbrev main_call2_v9 : Ref sig .tc := ⟨.hbm, 339, rfl⟩
abbrev main_call2_c : Ref sig .tc := ⟨.hbm, 340, rfl⟩
abbrev main_call2_v10 : Ref sig .tc := ⟨.hbm, 341, rfl⟩
abbrev main_call2_v11 : Ref sig .tc := ⟨.hbm, 342, rfl⟩
abbrev main_call2_c_0 : Ref sig .tc := ⟨.hbm, 343, rfl⟩
abbrev main_call2_v12 : Ref sig .tc := ⟨.hbm, 344, rfl⟩
abbrev main_call2_v13 : Ref sig .tc := ⟨.hbm, 345, rfl⟩
abbrev main_call2_v14 : Ref sig .tc := ⟨.hbm, 346, rfl⟩
abbrev main_call2_v15 : Ref sig .tc := ⟨.hbm, 347, rfl⟩
abbrev main_call2_call1_v0 : Ref sig .tc := ⟨.hbm, 348, rfl⟩
abbrev main_call2_call1_c : Ref sig .tc := ⟨.hbm, 349, rfl⟩
abbrev main_call2_call1_v1 : Ref sig .tc := ⟨.hbm, 350, rfl⟩
abbrev main_call2_call1_v2 : Ref sig .tc := ⟨.hbm, 351, rfl⟩
abbrev main_call2_call1_v3 : Ref sig .tc := ⟨.hbm, 352, rfl⟩
abbrev main_call2_call1_v4 : Ref sig .tc := ⟨.hbm, 353, rfl⟩
abbrev main_call2_call1_v5 : Ref sig .tc := ⟨.hbm, 354, rfl⟩
abbrev main_call2_call1_v6 : Ref sig .tc := ⟨.hbm, 355, rfl⟩
abbrev main_call2_call1_c_0 : Ref sig .tc := ⟨.hbm, 356, rfl⟩
abbrev main_call2_call1_v7 : Ref sig .tc := ⟨.hbm, 357, rfl⟩
abbrev main_call2_call1_v8 : Ref sig .tc := ⟨.hbm, 358, rfl⟩
abbrev main_call2_call1_c_1 : Ref sig .tc := ⟨.hbm, 359, rfl⟩
abbrev main_call2_call1_v9 : Ref sig .tc := ⟨.hbm, 360, rfl⟩
abbrev main_call2_call1_v10 : Ref sig .tc := ⟨.hbm, 361, rfl⟩
abbrev main_call2_call1_v11 : Ref sig .tc := ⟨.hbm, 362, rfl⟩
abbrev main_call2_call1_v12 : Ref sig .tc := ⟨.hbm, 363, rfl⟩
abbrev main_call2_call1_v13 : Ref sig .tc := ⟨.hbm, 364, rfl⟩
abbrev main_call2_call1_c_2 : Ref sig .tc := ⟨.hbm, 365, rfl⟩
abbrev main_call2_call1_v14 : Ref sig .tc := ⟨.hbm, 366, rfl⟩
abbrev main_call2_call1_v15 : Ref sig .tc := ⟨.hbm, 367, rfl⟩
abbrev main_call2_call1_c_3 : Ref sig .tc := ⟨.hbm, 368, rfl⟩
abbrev main_call2_call1_v16 : Ref sig .tc := ⟨.hbm, 369, rfl⟩
abbrev main_call2_call1_v17 : Ref sig .tc := ⟨.hbm, 370, rfl⟩
abbrev main_call2_call1_v18 : Ref sig .tc := ⟨.hbm, 371, rfl⟩
abbrev main_call2_call1_v19 : Ref sig .tc := ⟨.hbm, 372, rfl⟩
abbrev main_call2_call1_v20 : Ref sig .tc := ⟨.hbm, 373, rfl⟩
abbrev main_call2_call1_c_4 : Ref sig .tc := ⟨.hbm, 374, rfl⟩
abbrev main_call2_call1_v21 : Ref sig .tc := ⟨.hbm, 375, rfl⟩
abbrev main_call2_call1_v22 : Ref sig .tc := ⟨.hbm, 376, rfl⟩
abbrev main_call2_call1_c_5 : Ref sig .tc := ⟨.hbm, 377, rfl⟩
abbrev main_call2_call1_v23 : Ref sig .tc := ⟨.hbm, 378, rfl⟩
abbrev main_call2_call1_v24 : Ref sig .tc := ⟨.hbm, 379, rfl⟩
abbrev main_call2_call1_v25 : Ref sig .tc := ⟨.hbm, 380, rfl⟩
abbrev main_call2_call1_v26 : Ref sig .tc := ⟨.hbm, 381, rfl⟩
abbrev main_call2_call1_v27 : Ref sig .tc := ⟨.hbm, 382, rfl⟩
abbrev main_call2_call1_c_6 : Ref sig .tc := ⟨.hbm, 383, rfl⟩
abbrev main_call2_call1_v28 : Ref sig .tc := ⟨.hbm, 384, rfl⟩
abbrev main_call2_call1_v29 : Ref sig .tc := ⟨.hbm, 385, rfl⟩
abbrev main_call2_call1_c_7 : Ref sig .tc := ⟨.hbm, 386, rfl⟩
abbrev main_call2_call1_v30 : Ref sig .tc := ⟨.hbm, 387, rfl⟩
abbrev main_call2_call1_v31 : Ref sig .tc := ⟨.hbm, 388, rfl⟩
abbrev main_call2_call1_v32 : Ref sig .tc := ⟨.hbm, 389, rfl⟩
abbrev main_call2_call1_v33 : Ref sig .tc := ⟨.hbm, 390, rfl⟩
abbrev main_call2_call1_v34 : Ref sig .tc := ⟨.hbm, 391, rfl⟩
abbrev main_call2_call1_v35 : Ref sig .tc := ⟨.hbm, 392, rfl⟩
abbrev main_call2_call1_v36 : Ref sig .tc := ⟨.hbm, 393, rfl⟩
abbrev main_call2_call1_v37 : Ref sig .tc := ⟨.hbm, 394, rfl⟩
abbrev main_call2_call1_c_8 : Ref sig .tc := ⟨.hbm, 395, rfl⟩
abbrev main_call2_call1_v38 : Ref sig .tc := ⟨.hbm, 396, rfl⟩
abbrev main_call2_call1_v39 : Ref sig .tc := ⟨.hbm, 397, rfl⟩
abbrev main_call2_call1_v40 : Ref sig .tc := ⟨.hbm, 398, rfl⟩
abbrev main_call2_call1_c_9 : Ref sig .tc := ⟨.hbm, 399, rfl⟩
abbrev main_call2_call1_v41 : Ref sig .tc := ⟨.hbm, 400, rfl⟩
abbrev main_call2_call1_v42 : Ref sig .tc := ⟨.hbm, 401, rfl⟩
abbrev main_call2_call1_c_10 : Ref sig .tc := ⟨.hbm, 402, rfl⟩
abbrev main_call2_call1_v43 : Ref sig .tc := ⟨.hbm, 403, rfl⟩
abbrev main_call2_call1_v44 : Ref sig .tc := ⟨.hbm, 404, rfl⟩
abbrev main_call2_call1_v45 : Ref sig .tc := ⟨.hbm, 405, rfl⟩
abbrev main_call2_call1_v46 : Ref sig .tc := ⟨.hbm, 406, rfl⟩
abbrev main_call2_call1_v47 : Ref sig .tc := ⟨.hbm, 407, rfl⟩
abbrev main_call2_call1_c_11 : Ref sig .tc := ⟨.hbm, 408, rfl⟩
abbrev main_call2_call1_v48 : Ref sig .tc := ⟨.hbm, 409, rfl⟩
abbrev main_call2_call1_v49 : Ref sig .tc := ⟨.hbm, 410, rfl⟩
abbrev main_call2_call1_c_12 : Ref sig .tc := ⟨.hbm, 411, rfl⟩
abbrev main_call2_call1_v50 : Ref sig .tc := ⟨.hbm, 412, rfl⟩
abbrev main_call2_call1_v51 : Ref sig .tc := ⟨.hbm, 413, rfl⟩
abbrev main_call2_call1_v52 : Ref sig .tc := ⟨.hbm, 414, rfl⟩
abbrev main_call2_call1_v53 : Ref sig .tc := ⟨.hbm, 415, rfl⟩
abbrev main_call2_call1_v54 : Ref sig .tc := ⟨.hbm, 416, rfl⟩
abbrev main_call2_call1_c_13 : Ref sig .tc := ⟨.hbm, 417, rfl⟩
abbrev main_call2_call1_v55 : Ref sig .tc := ⟨.hbm, 418, rfl⟩
abbrev main_call2_call1_v56 : Ref sig .tc := ⟨.hbm, 419, rfl⟩
abbrev main_call2_call1_c_14 : Ref sig .tc := ⟨.hbm, 420, rfl⟩
abbrev main_call2_call1_v57 : Ref sig .tc := ⟨.hbm, 421, rfl⟩
abbrev main_call2_call1_v58 : Ref sig .tc := ⟨.hbm, 422, rfl⟩
abbrev main_call2_call1_v59 : Ref sig .tc := ⟨.hbm, 423, rfl⟩
abbrev main_call2_call1_v60 : Ref sig .tc := ⟨.hbm, 424, rfl⟩
abbrev main_call2_call1_v61 : Ref sig .tc := ⟨.hbm, 425, rfl⟩
abbrev main_call2_call1_c_15 : Ref sig .tc := ⟨.hbm, 426, rfl⟩
abbrev main_call2_call1_v62 : Ref sig .tc := ⟨.hbm, 427, rfl⟩
abbrev main_call2_call1_v63 : Ref sig .tc := ⟨.hbm, 428, rfl⟩
abbrev main_call2_call1_c_16 : Ref sig .tc := ⟨.hbm, 429, rfl⟩
abbrev main_call2_call1_v64 : Ref sig .tc := ⟨.hbm, 430, rfl⟩
abbrev main_call2_call1_v65 : Ref sig .tc := ⟨.hbm, 431, rfl⟩
abbrev main_call2_call1_v66 : Ref sig .tc := ⟨.hbm, 432, rfl⟩
abbrev main_call2_call1_v67 : Ref sig .tc := ⟨.hbm, 433, rfl⟩
abbrev main_call2_call1_v68 : Ref sig .tc := ⟨.hbm, 434, rfl⟩
abbrev main_call2_call1_v69 : Ref sig .tc := ⟨.hbm, 435, rfl⟩
abbrev main_call2_call1_v70 : Ref sig .tc := ⟨.hbm, 436, rfl⟩
abbrev main_call2_call1_v71 : Ref sig .tc := ⟨.hbm, 437, rfl⟩
abbrev main_call2_call1_c_17 : Ref sig .tc := ⟨.hbm, 438, rfl⟩
abbrev main_call2_call1_v72 : Ref sig .tc := ⟨.hbm, 439, rfl⟩
abbrev main_call2_call1_v73 : Ref sig .tc := ⟨.hbm, 440, rfl⟩
abbrev main_call2_call1_v74 : Ref sig .tc := ⟨.hbm, 441, rfl⟩
abbrev main_call2_call1_c_18 : Ref sig .tc := ⟨.hbm, 442, rfl⟩
abbrev main_call2_call1_v75 : Ref sig .tc := ⟨.hbm, 443, rfl⟩
abbrev main_call2_call1_v76 : Ref sig .tc := ⟨.hbm, 444, rfl⟩
abbrev main_call2_call1_c_19 : Ref sig .tc := ⟨.hbm, 445, rfl⟩
abbrev main_call2_call1_v77 : Ref sig .tc := ⟨.hbm, 446, rfl⟩
abbrev main_call2_call1_v78 : Ref sig .tc := ⟨.hbm, 447, rfl⟩
abbrev main_call2_call1_v79 : Ref sig .tc := ⟨.hbm, 448, rfl⟩
abbrev main_call2_call1_v80 : Ref sig .tc := ⟨.hbm, 449, rfl⟩
abbrev main_call2_call1_v81 : Ref sig .tc := ⟨.hbm, 450, rfl⟩
abbrev main_call2_call1_c_20 : Ref sig .tc := ⟨.hbm, 451, rfl⟩
abbrev main_call2_call1_v82 : Ref sig .tc := ⟨.hbm, 452, rfl⟩
abbrev main_call2_call1_v83 : Ref sig .tc := ⟨.hbm, 453, rfl⟩
abbrev main_call2_call1_c_21 : Ref sig .tc := ⟨.hbm, 454, rfl⟩
abbrev main_call2_call1_v84 : Ref sig .tc := ⟨.hbm, 455, rfl⟩
abbrev main_call2_call1_v85 : Ref sig .tc := ⟨.hbm, 456, rfl⟩
abbrev main_call2_call1_v86 : Ref sig .tc := ⟨.hbm, 457, rfl⟩
abbrev main_call2_call1_v87 : Ref sig .tc := ⟨.hbm, 458, rfl⟩
abbrev main_call2_call1_v88 : Ref sig .tc := ⟨.hbm, 459, rfl⟩
abbrev main_call2_call1_c_22 : Ref sig .tc := ⟨.hbm, 460, rfl⟩
abbrev main_call2_call1_v89 : Ref sig .tc := ⟨.hbm, 461, rfl⟩
abbrev main_call2_call1_v90 : Ref sig .tc := ⟨.hbm, 462, rfl⟩
abbrev main_call2_call1_c_23 : Ref sig .tc := ⟨.hbm, 463, rfl⟩
abbrev main_call2_call1_v91 : Ref sig .tc := ⟨.hbm, 464, rfl⟩
abbrev main_call2_call1_v92 : Ref sig .tc := ⟨.hbm, 465, rfl⟩
abbrev main_call2_call1_v93 : Ref sig .tc := ⟨.hbm, 466, rfl⟩
abbrev main_call2_call1_v94 : Ref sig .tc := ⟨.hbm, 467, rfl⟩
abbrev main_call2_call1_v95 : Ref sig .tc := ⟨.hbm, 468, rfl⟩
abbrev main_call2_call1_c_24 : Ref sig .tc := ⟨.hbm, 469, rfl⟩
abbrev main_call2_call1_v96 : Ref sig .tc := ⟨.hbm, 470, rfl⟩
abbrev main_call2_call1_v97 : Ref sig .tc := ⟨.hbm, 471, rfl⟩
abbrev main_call2_call1_c_25 : Ref sig .tc := ⟨.hbm, 472, rfl⟩
abbrev main_call2_call1_v98 : Ref sig .tc := ⟨.hbm, 473, rfl⟩
abbrev main_call2_call1_v99 : Ref sig .tc := ⟨.hbm, 474, rfl⟩
abbrev main_call2_call1_v100 : Ref sig .tc := ⟨.hbm, 475, rfl⟩
abbrev main_call2_call1_v101 : Ref sig .tc := ⟨.hbm, 476, rfl⟩
abbrev main_call2_call1_v102 : Ref sig .tc := ⟨.hbm, 477, rfl⟩
abbrev main_call2_call1_v103 : Ref sig .tc := ⟨.hbm, 478, rfl⟩
abbrev main_call2_call1_v104 : Ref sig .tc := ⟨.hbm, 479, rfl⟩
abbrev main_call2_call1_v105 : Ref sig .tc := ⟨.hbm, 480, rfl⟩
abbrev main_call2_call1_c_26 : Ref sig .tc := ⟨.hbm, 481, rfl⟩
abbrev main_call2_call1_v106 : Ref sig .tc := ⟨.hbm, 482, rfl⟩
abbrev main_call2_call1_v107 : Ref sig .tc := ⟨.hbm, 483, rfl⟩
abbrev main_call2_call1_v108 : Ref sig .tc := ⟨.hbm, 484, rfl⟩
abbrev main_call2_call1_c_27 : Ref sig .tc := ⟨.hbm, 485, rfl⟩
abbrev main_call2_call1_v109 : Ref sig .tc := ⟨.hbm, 486, rfl⟩
abbrev main_call2_call1_v110 : Ref sig .tc := ⟨.hbm, 487, rfl⟩
abbrev main_call2_call1_c_28 : Ref sig .tc := ⟨.hbm, 488, rfl⟩
abbrev main_call2_call1_v111 : Ref sig .tc := ⟨.hbm, 489, rfl⟩
abbrev main_call2_call1_v112 : Ref sig .tc := ⟨.hbm, 490, rfl⟩
abbrev main_call2_call1_v113 : Ref sig .tc := ⟨.hbm, 491, rfl⟩
abbrev main_call2_call1_v114 : Ref sig .tc := ⟨.hbm, 492, rfl⟩
abbrev main_call2_call1_v115 : Ref sig .tc := ⟨.hbm, 493, rfl⟩
abbrev main_call2_call1_c_29 : Ref sig .tc := ⟨.hbm, 494, rfl⟩
abbrev main_call2_call1_v116 : Ref sig .tc := ⟨.hbm, 495, rfl⟩
abbrev main_call2_call1_v117 : Ref sig .tc := ⟨.hbm, 496, rfl⟩
abbrev main_call2_call1_c_30 : Ref sig .tc := ⟨.hbm, 497, rfl⟩
abbrev main_call2_call1_v118 : Ref sig .tc := ⟨.hbm, 498, rfl⟩
abbrev main_call2_call1_v119 : Ref sig .tc := ⟨.hbm, 499, rfl⟩
abbrev main_call2_call1_v120 : Ref sig .tc := ⟨.hbm, 500, rfl⟩
abbrev main_call2_call1_v121 : Ref sig .tc := ⟨.hbm, 501, rfl⟩
abbrev main_call2_call1_v122 : Ref sig .tc := ⟨.hbm, 502, rfl⟩
abbrev main_call2_call1_c_31 : Ref sig .tc := ⟨.hbm, 503, rfl⟩
abbrev main_call2_call1_v123 : Ref sig .tc := ⟨.hbm, 504, rfl⟩
abbrev main_call2_call1_v124 : Ref sig .tc := ⟨.hbm, 505, rfl⟩
abbrev main_call2_call1_c_32 : Ref sig .tc := ⟨.hbm, 506, rfl⟩
abbrev main_call2_call1_v125 : Ref sig .tc := ⟨.hbm, 507, rfl⟩
abbrev main_call2_call1_v126 : Ref sig .tc := ⟨.hbm, 508, rfl⟩
abbrev main_call2_call1_v127 : Ref sig .tc := ⟨.hbm, 509, rfl⟩
abbrev main_call2_call1_v128 : Ref sig .tc := ⟨.hbm, 510, rfl⟩
abbrev main_call2_call1_v129 : Ref sig .tc := ⟨.hbm, 511, rfl⟩
abbrev main_call2_call1_c_33 : Ref sig .tc := ⟨.hbm, 512, rfl⟩
abbrev main_call2_call1_v130 : Ref sig .tc := ⟨.hbm, 513, rfl⟩
abbrev main_call2_call1_v131 : Ref sig .tc := ⟨.hbm, 514, rfl⟩
abbrev main_call2_call1_c_34 : Ref sig .tc := ⟨.hbm, 515, rfl⟩
abbrev main_call2_call1_v132 : Ref sig .tc := ⟨.hbm, 516, rfl⟩
abbrev main_call2_call1_v133 : Ref sig .tc := ⟨.hbm, 517, rfl⟩
abbrev main_call2_call1_v134 : Ref sig .tc := ⟨.hbm, 518, rfl⟩
abbrev main_call2_call1_v135 : Ref sig .tc := ⟨.hbm, 519, rfl⟩
abbrev main_call2_call1_v136 : Ref sig .tc := ⟨.hbm, 520, rfl⟩
abbrev main_call2_call1_v137 : Ref sig .tc := ⟨.hbm, 521, rfl⟩
abbrev main_call2_call1_v138 : Ref sig .tc := ⟨.hbm, 522, rfl⟩
abbrev main_call2_call1_v139 : Ref sig .tc := ⟨.hbm, 523, rfl⟩
abbrev main_call2_call1_c_35 : Ref sig .tc := ⟨.hbm, 524, rfl⟩
abbrev main_call2_call1_v140 : Ref sig .tc := ⟨.hbm, 525, rfl⟩
abbrev main_call2_call1_v141 : Ref sig .tc := ⟨.hbm, 526, rfl⟩
abbrev main_call2_call1_v142 : Ref sig .tc := ⟨.hbm, 527, rfl⟩
abbrev main_call2_call1_c_36 : Ref sig .tc := ⟨.hbm, 528, rfl⟩
abbrev main_call2_call1_v143 : Ref sig .tc := ⟨.hbm, 529, rfl⟩
abbrev main_call2_call1_v144 : Ref sig .tc := ⟨.hbm, 530, rfl⟩
abbrev main_call2_call1_c_37 : Ref sig .tc := ⟨.hbm, 531, rfl⟩
abbrev main_call2_call1_v145 : Ref sig .tc := ⟨.hbm, 532, rfl⟩
abbrev main_call2_call1_v146 : Ref sig .tc := ⟨.hbm, 533, rfl⟩
abbrev main_call2_call1_v147 : Ref sig .tc := ⟨.hbm, 534, rfl⟩
abbrev main_call2_call1_v148 : Ref sig .tc := ⟨.hbm, 535, rfl⟩
abbrev main_call2_call1_v149 : Ref sig .tc := ⟨.hbm, 536, rfl⟩
abbrev main_call2_call1_c_38 : Ref sig .tc := ⟨.hbm, 537, rfl⟩
abbrev main_call2_call1_v150 : Ref sig .tc := ⟨.hbm, 538, rfl⟩
abbrev main_call2_call1_v151 : Ref sig .tc := ⟨.hbm, 539, rfl⟩
abbrev main_call2_call1_c_39 : Ref sig .tc := ⟨.hbm, 540, rfl⟩
abbrev main_call2_call1_v152 : Ref sig .tc := ⟨.hbm, 541, rfl⟩
abbrev main_call2_call1_v153 : Ref sig .tc := ⟨.hbm, 542, rfl⟩
abbrev main_call2_call1_v154 : Ref sig .tc := ⟨.hbm, 543, rfl⟩
abbrev main_call2_call1_v155 : Ref sig .tc := ⟨.hbm, 544, rfl⟩
abbrev main_call2_call1_v156 : Ref sig .tc := ⟨.hbm, 545, rfl⟩
abbrev main_call2_call1_c_40 : Ref sig .tc := ⟨.hbm, 546, rfl⟩
abbrev main_call2_call1_v157 : Ref sig .tc := ⟨.hbm, 547, rfl⟩
abbrev main_call2_call1_v158 : Ref sig .tc := ⟨.hbm, 548, rfl⟩
abbrev main_call2_call1_c_41 : Ref sig .tc := ⟨.hbm, 549, rfl⟩
abbrev main_call2_call1_v159 : Ref sig .tc := ⟨.hbm, 550, rfl⟩
abbrev main_call2_call1_v160 : Ref sig .tc := ⟨.hbm, 551, rfl⟩
abbrev main_call2_call1_v161 : Ref sig .tc := ⟨.hbm, 552, rfl⟩
abbrev main_call2_call1_v162 : Ref sig .tc := ⟨.hbm, 553, rfl⟩
abbrev main_call2_call1_v163 : Ref sig .tc := ⟨.hbm, 554, rfl⟩
abbrev main_call2_call1_c_42 : Ref sig .tc := ⟨.hbm, 555, rfl⟩
abbrev main_call2_call1_v164 : Ref sig .tc := ⟨.hbm, 556, rfl⟩
abbrev main_call2_call1_v165 : Ref sig .tc := ⟨.hbm, 557, rfl⟩
abbrev main_call2_call1_c_43 : Ref sig .tc := ⟨.hbm, 558, rfl⟩
abbrev main_call2_call1_v166 : Ref sig .tc := ⟨.hbm, 559, rfl⟩
abbrev main_call2_call1_v167 : Ref sig .tc := ⟨.hbm, 560, rfl⟩
abbrev main_call2_call1_v168 : Ref sig .tc := ⟨.hbm, 561, rfl⟩
abbrev main_call2_call1_v169 : Ref sig .tc := ⟨.hbm, 562, rfl⟩
abbrev main_call2_call1_v170 : Ref sig .tc := ⟨.hbm, 563, rfl⟩
abbrev main_call2_v16_0 : Ref sig .tc := ⟨.hbm, 564, rfl⟩
abbrev main_call2_call1_v172 : Ref sig .tc := ⟨.hbm, 565, rfl⟩
abbrev main_call2_call1_v173 : Ref sig .tc := ⟨.hbm, 566, rfl⟩
abbrev main_call2_call1_c_44 : Ref sig .tc := ⟨.hbm, 567, rfl⟩
abbrev main_call2_call1_v174 : Ref sig .tc := ⟨.hbm, 568, rfl⟩
abbrev main_call2_v16_1 : Ref sig .tc := ⟨.hbm, 569, rfl⟩
abbrev main_call2_v17 : Ref sig .tc := ⟨.hbm, 570, rfl⟩
abbrev main_call2_v18_0 : Ref sig .tc := ⟨.hbm, 571, rfl⟩
abbrev main_call2_v18_1 : Ref sig .tc := ⟨.hbm, 572, rfl⟩
abbrev main_call2_call2_v0 : Ref sig .tc := ⟨.hbm, 573, rfl⟩
abbrev main_call2_call2_v1 : Ref sig .tc := ⟨.hbm, 574, rfl⟩
abbrev main_call2_call2_v2 : Ref sig .tc := ⟨.hbm, 575, rfl⟩
abbrev main_call2_call2_v3 : Ref sig .tc := ⟨.hbm, 576, rfl⟩
abbrev main_call2_call2_v4 : Ref sig .tc := ⟨.hbm, 577, rfl⟩
abbrev main_call2_call2_c : Ref sig .tc := ⟨.hbm, 578, rfl⟩
abbrev main_call2_call2_v5 : Ref sig .tc := ⟨.hbm, 579, rfl⟩
abbrev main_call2_call2_v6 : Ref sig .tc := ⟨.hbm, 580, rfl⟩
abbrev main_call2_call2_c_0 : Ref sig .tc := ⟨.hbm, 581, rfl⟩
abbrev main_call2_call2_v7 : Ref sig .tc := ⟨.hbm, 582, rfl⟩
abbrev main_call2_call2_v8 : Ref sig .tc := ⟨.hbm, 583, rfl⟩
abbrev main_call2_call2_v9 : Ref sig .tc := ⟨.hbm, 584, rfl⟩
abbrev main_call2_call2_v10 : Ref sig .tc := ⟨.hbm, 585, rfl⟩
abbrev main_call2_call2_call0_v0 : Ref sig .tc := ⟨.hbm, 586, rfl⟩
abbrev main_call2_call2_call0_c : Ref sig .tc := ⟨.hbm, 587, rfl⟩
abbrev main_call2_call2_call0_v1 : Ref sig .tc := ⟨.hbm, 588, rfl⟩
abbrev main_call2_call2_call0_v2 : Ref sig .tc := ⟨.hbm, 589, rfl⟩
abbrev main_call2_call2_call0_v3 : Ref sig .tc := ⟨.hbm, 590, rfl⟩
abbrev main_call2_call2_call0_v4 : Ref sig .tc := ⟨.hbm, 591, rfl⟩
abbrev main_call2_call2_call0_v5 : Ref sig .tc := ⟨.hbm, 592, rfl⟩
abbrev main_call2_call2_call0_v6 : Ref sig .tc := ⟨.hbm, 593, rfl⟩
abbrev main_call2_call2_call0_c_0 : Ref sig .tc := ⟨.hbm, 594, rfl⟩
abbrev main_call2_call2_call0_v7 : Ref sig .tc := ⟨.hbm, 595, rfl⟩
abbrev main_call2_call2_call0_v8 : Ref sig .tc := ⟨.hbm, 596, rfl⟩
abbrev main_call2_call2_call0_c_1 : Ref sig .tc := ⟨.hbm, 597, rfl⟩
abbrev main_call2_call2_call0_v9 : Ref sig .tc := ⟨.hbm, 598, rfl⟩
abbrev main_call2_call2_call0_v10 : Ref sig .tc := ⟨.hbm, 599, rfl⟩
abbrev main_call2_call2_call0_v11 : Ref sig .tc := ⟨.hbm, 600, rfl⟩
abbrev main_call2_call2_call0_v12 : Ref sig .tc := ⟨.hbm, 601, rfl⟩
abbrev main_call2_call2_call0_v13 : Ref sig .tc := ⟨.hbm, 602, rfl⟩
abbrev main_call2_call2_call0_c_2 : Ref sig .tc := ⟨.hbm, 603, rfl⟩
abbrev main_call2_call2_call0_v14 : Ref sig .tc := ⟨.hbm, 604, rfl⟩
abbrev main_call2_call2_call0_v15 : Ref sig .tc := ⟨.hbm, 605, rfl⟩
abbrev main_call2_call2_call0_c_3 : Ref sig .tc := ⟨.hbm, 606, rfl⟩
abbrev main_call2_call2_call0_v16 : Ref sig .tc := ⟨.hbm, 607, rfl⟩
abbrev main_call2_call2_call0_v17 : Ref sig .tc := ⟨.hbm, 608, rfl⟩
abbrev main_call2_call2_call0_v18 : Ref sig .tc := ⟨.hbm, 609, rfl⟩
abbrev main_call2_call2_call0_v19 : Ref sig .tc := ⟨.hbm, 610, rfl⟩
abbrev main_call2_call2_call0_v20 : Ref sig .tc := ⟨.hbm, 611, rfl⟩
abbrev main_call2_call2_call0_c_4 : Ref sig .tc := ⟨.hbm, 612, rfl⟩
abbrev main_call2_call2_call0_v21 : Ref sig .tc := ⟨.hbm, 613, rfl⟩
abbrev main_call2_call2_call0_v22 : Ref sig .tc := ⟨.hbm, 614, rfl⟩
abbrev main_call2_call2_call0_c_5 : Ref sig .tc := ⟨.hbm, 615, rfl⟩
abbrev main_call2_call2_call0_v23 : Ref sig .tc := ⟨.hbm, 616, rfl⟩
abbrev main_call2_call2_call0_v24 : Ref sig .tc := ⟨.hbm, 617, rfl⟩
abbrev main_call2_call2_call0_v25 : Ref sig .tc := ⟨.hbm, 618, rfl⟩
abbrev main_call2_call2_call0_v26 : Ref sig .tc := ⟨.hbm, 619, rfl⟩
abbrev main_call2_call2_call0_v27 : Ref sig .tc := ⟨.hbm, 620, rfl⟩
abbrev main_call2_call2_call0_c_6 : Ref sig .tc := ⟨.hbm, 621, rfl⟩
abbrev main_call2_call2_call0_v28 : Ref sig .tc := ⟨.hbm, 622, rfl⟩
abbrev main_call2_call2_call0_v29 : Ref sig .tc := ⟨.hbm, 623, rfl⟩
abbrev main_call2_call2_call0_c_7 : Ref sig .tc := ⟨.hbm, 624, rfl⟩
abbrev main_call2_call2_call0_v30 : Ref sig .tc := ⟨.hbm, 625, rfl⟩
abbrev main_call2_call2_call0_v31 : Ref sig .tc := ⟨.hbm, 626, rfl⟩
abbrev main_call2_call2_call0_v32 : Ref sig .tc := ⟨.hbm, 627, rfl⟩
abbrev main_call2_call2_call0_v33 : Ref sig .tc := ⟨.hbm, 628, rfl⟩
abbrev main_call2_call2_call0_v34 : Ref sig .tc := ⟨.hbm, 629, rfl⟩
abbrev main_call2_call2_call0_v35 : Ref sig .tc := ⟨.hbm, 630, rfl⟩
abbrev main_call2_call2_call0_v36 : Ref sig .tc := ⟨.hbm, 631, rfl⟩
abbrev main_call2_call2_call0_v37 : Ref sig .tc := ⟨.hbm, 632, rfl⟩
abbrev main_call2_call2_call0_c_8 : Ref sig .tc := ⟨.hbm, 633, rfl⟩
abbrev main_call2_call2_call0_v38 : Ref sig .tc := ⟨.hbm, 634, rfl⟩
abbrev main_call2_call2_call0_v39 : Ref sig .tc := ⟨.hbm, 635, rfl⟩
abbrev main_call2_call2_call0_v40 : Ref sig .tc := ⟨.hbm, 636, rfl⟩
abbrev main_call2_call2_call0_c_9 : Ref sig .tc := ⟨.hbm, 637, rfl⟩
abbrev main_call2_call2_call0_v41 : Ref sig .tc := ⟨.hbm, 638, rfl⟩
abbrev main_call2_call2_call0_v42 : Ref sig .tc := ⟨.hbm, 639, rfl⟩
abbrev main_call2_call2_call0_c_10 : Ref sig .tc := ⟨.hbm, 640, rfl⟩
abbrev main_call2_call2_call0_v43 : Ref sig .tc := ⟨.hbm, 641, rfl⟩
abbrev main_call2_call2_call0_v44 : Ref sig .tc := ⟨.hbm, 642, rfl⟩
abbrev main_call2_call2_call0_v45 : Ref sig .tc := ⟨.hbm, 643, rfl⟩
abbrev main_call2_call2_call0_v46 : Ref sig .tc := ⟨.hbm, 644, rfl⟩
abbrev main_call2_call2_call0_v47 : Ref sig .tc := ⟨.hbm, 645, rfl⟩
abbrev main_call2_call2_call0_c_11 : Ref sig .tc := ⟨.hbm, 646, rfl⟩
abbrev main_call2_call2_call0_v48 : Ref sig .tc := ⟨.hbm, 647, rfl⟩
abbrev main_call2_call2_call0_v49 : Ref sig .tc := ⟨.hbm, 648, rfl⟩
abbrev main_call2_call2_call0_c_12 : Ref sig .tc := ⟨.hbm, 649, rfl⟩
abbrev main_call2_call2_call0_v50 : Ref sig .tc := ⟨.hbm, 650, rfl⟩
abbrev main_call2_call2_call0_v51 : Ref sig .tc := ⟨.hbm, 651, rfl⟩
abbrev main_call2_call2_call0_v52 : Ref sig .tc := ⟨.hbm, 652, rfl⟩
abbrev main_call2_call2_call0_v53 : Ref sig .tc := ⟨.hbm, 653, rfl⟩
abbrev main_call2_call2_call0_v54 : Ref sig .tc := ⟨.hbm, 654, rfl⟩
abbrev main_call2_call2_call0_c_13 : Ref sig .tc := ⟨.hbm, 655, rfl⟩
abbrev main_call2_call2_call0_v55 : Ref sig .tc := ⟨.hbm, 656, rfl⟩
abbrev main_call2_call2_call0_v56 : Ref sig .tc := ⟨.hbm, 657, rfl⟩
abbrev main_call2_call2_call0_c_14 : Ref sig .tc := ⟨.hbm, 658, rfl⟩
abbrev main_call2_call2_call0_v57 : Ref sig .tc := ⟨.hbm, 659, rfl⟩
abbrev main_call2_call2_call0_v58 : Ref sig .tc := ⟨.hbm, 660, rfl⟩
abbrev main_call2_call2_call0_v59 : Ref sig .tc := ⟨.hbm, 661, rfl⟩
abbrev main_call2_call2_call0_v60 : Ref sig .tc := ⟨.hbm, 662, rfl⟩
abbrev main_call2_call2_call0_v61 : Ref sig .tc := ⟨.hbm, 663, rfl⟩
abbrev main_call2_call2_call0_c_15 : Ref sig .tc := ⟨.hbm, 664, rfl⟩
abbrev main_call2_call2_call0_v62 : Ref sig .tc := ⟨.hbm, 665, rfl⟩
abbrev main_call2_call2_call0_v63 : Ref sig .tc := ⟨.hbm, 666, rfl⟩
abbrev main_call2_call2_call0_c_16 : Ref sig .tc := ⟨.hbm, 667, rfl⟩
abbrev main_call2_call2_call0_v64 : Ref sig .tc := ⟨.hbm, 668, rfl⟩
abbrev main_call2_call2_call0_v65 : Ref sig .tc := ⟨.hbm, 669, rfl⟩
abbrev main_call2_call2_call0_v66 : Ref sig .tc := ⟨.hbm, 670, rfl⟩
abbrev main_call2_call2_call0_v67 : Ref sig .tc := ⟨.hbm, 671, rfl⟩
abbrev main_call2_call2_call0_v68 : Ref sig .tc := ⟨.hbm, 672, rfl⟩
abbrev main_call2_call2_call0_v69 : Ref sig .tc := ⟨.hbm, 673, rfl⟩
abbrev main_call2_call2_call0_v70 : Ref sig .tc := ⟨.hbm, 674, rfl⟩
abbrev main_call2_call2_call0_v71 : Ref sig .tc := ⟨.hbm, 675, rfl⟩
abbrev main_call2_call2_call0_c_17 : Ref sig .tc := ⟨.hbm, 676, rfl⟩
abbrev main_call2_call2_call0_v72 : Ref sig .tc := ⟨.hbm, 677, rfl⟩
abbrev main_call2_call2_call0_v73 : Ref sig .tc := ⟨.hbm, 678, rfl⟩
abbrev main_call2_call2_call0_v74 : Ref sig .tc := ⟨.hbm, 679, rfl⟩
abbrev main_call2_call2_call0_c_18 : Ref sig .tc := ⟨.hbm, 680, rfl⟩
abbrev main_call2_call2_call0_v75 : Ref sig .tc := ⟨.hbm, 681, rfl⟩
abbrev main_call2_call2_call0_v76 : Ref sig .tc := ⟨.hbm, 682, rfl⟩
abbrev main_call2_call2_call0_c_19 : Ref sig .tc := ⟨.hbm, 683, rfl⟩
abbrev main_call2_call2_call0_v77 : Ref sig .tc := ⟨.hbm, 684, rfl⟩
abbrev main_call2_call2_call0_v78 : Ref sig .tc := ⟨.hbm, 685, rfl⟩
abbrev main_call2_call2_call0_v79 : Ref sig .tc := ⟨.hbm, 686, rfl⟩
abbrev main_call2_call2_call0_v80 : Ref sig .tc := ⟨.hbm, 687, rfl⟩
abbrev main_call2_call2_call0_v81 : Ref sig .tc := ⟨.hbm, 688, rfl⟩
abbrev main_call2_call2_call0_c_20 : Ref sig .tc := ⟨.hbm, 689, rfl⟩
abbrev main_call2_call2_call0_v82 : Ref sig .tc := ⟨.hbm, 690, rfl⟩
abbrev main_call2_call2_call0_v83 : Ref sig .tc := ⟨.hbm, 691, rfl⟩
abbrev main_call2_call2_call0_c_21 : Ref sig .tc := ⟨.hbm, 692, rfl⟩
abbrev main_call2_call2_call0_v84 : Ref sig .tc := ⟨.hbm, 693, rfl⟩
abbrev main_call2_call2_call0_v85 : Ref sig .tc := ⟨.hbm, 694, rfl⟩
abbrev main_call2_call2_call0_v86 : Ref sig .tc := ⟨.hbm, 695, rfl⟩
abbrev main_call2_call2_call0_v87 : Ref sig .tc := ⟨.hbm, 696, rfl⟩
abbrev main_call2_call2_call0_v88 : Ref sig .tc := ⟨.hbm, 697, rfl⟩
abbrev main_call2_call2_call0_c_22 : Ref sig .tc := ⟨.hbm, 698, rfl⟩
abbrev main_call2_call2_call0_v89 : Ref sig .tc := ⟨.hbm, 699, rfl⟩
abbrev main_call2_call2_call0_v90 : Ref sig .tc := ⟨.hbm, 700, rfl⟩
abbrev main_call2_call2_call0_c_23 : Ref sig .tc := ⟨.hbm, 701, rfl⟩
abbrev main_call2_call2_call0_v91 : Ref sig .tc := ⟨.hbm, 702, rfl⟩
abbrev main_call2_call2_call0_v92 : Ref sig .tc := ⟨.hbm, 703, rfl⟩
abbrev main_call2_call2_call0_v93 : Ref sig .tc := ⟨.hbm, 704, rfl⟩
abbrev main_call2_call2_call0_v94 : Ref sig .tc := ⟨.hbm, 705, rfl⟩
abbrev main_call2_call2_call0_v95 : Ref sig .tc := ⟨.hbm, 706, rfl⟩
abbrev main_call2_call2_call0_c_24 : Ref sig .tc := ⟨.hbm, 707, rfl⟩
abbrev main_call2_call2_call0_v96 : Ref sig .tc := ⟨.hbm, 708, rfl⟩
abbrev main_call2_call2_call0_v97 : Ref sig .tc := ⟨.hbm, 709, rfl⟩
abbrev main_call2_call2_call0_c_25 : Ref sig .tc := ⟨.hbm, 710, rfl⟩
abbrev main_call2_call2_call0_v98 : Ref sig .tc := ⟨.hbm, 711, rfl⟩
abbrev main_call2_call2_call0_v99 : Ref sig .tc := ⟨.hbm, 712, rfl⟩
abbrev main_call2_call2_call0_v100 : Ref sig .tc := ⟨.hbm, 713, rfl⟩
abbrev main_call2_call2_call0_v101 : Ref sig .tc := ⟨.hbm, 714, rfl⟩
abbrev main_call2_call2_call0_v102 : Ref sig .tc := ⟨.hbm, 715, rfl⟩
abbrev main_call2_call2_call0_v103 : Ref sig .tc := ⟨.hbm, 716, rfl⟩
abbrev main_call2_call2_call0_v104 : Ref sig .tc := ⟨.hbm, 717, rfl⟩
abbrev main_call2_call2_call0_v105 : Ref sig .tc := ⟨.hbm, 718, rfl⟩
abbrev main_call2_call2_call0_c_26 : Ref sig .tc := ⟨.hbm, 719, rfl⟩
abbrev main_call2_call2_call0_v106 : Ref sig .tc := ⟨.hbm, 720, rfl⟩
abbrev main_call2_call2_call0_v107 : Ref sig .tc := ⟨.hbm, 721, rfl⟩
abbrev main_call2_call2_call0_v108 : Ref sig .tc := ⟨.hbm, 722, rfl⟩
abbrev main_call2_call2_call0_c_27 : Ref sig .tc := ⟨.hbm, 723, rfl⟩
abbrev main_call2_call2_call0_v109 : Ref sig .tc := ⟨.hbm, 724, rfl⟩
abbrev main_call2_call2_call0_v110 : Ref sig .tc := ⟨.hbm, 725, rfl⟩
abbrev main_call2_call2_call0_c_28 : Ref sig .tc := ⟨.hbm, 726, rfl⟩
abbrev main_call2_call2_call0_v111 : Ref sig .tc := ⟨.hbm, 727, rfl⟩
abbrev main_call2_call2_call0_v112 : Ref sig .tc := ⟨.hbm, 728, rfl⟩
abbrev main_call2_call2_call0_v113 : Ref sig .tc := ⟨.hbm, 729, rfl⟩
abbrev main_call2_call2_call0_v114 : Ref sig .tc := ⟨.hbm, 730, rfl⟩
abbrev main_call2_call2_call0_v115 : Ref sig .tc := ⟨.hbm, 731, rfl⟩
abbrev main_call2_call2_call0_c_29 : Ref sig .tc := ⟨.hbm, 732, rfl⟩
abbrev main_call2_call2_call0_v116 : Ref sig .tc := ⟨.hbm, 733, rfl⟩
abbrev main_call2_call2_call0_v117 : Ref sig .tc := ⟨.hbm, 734, rfl⟩
abbrev main_call2_call2_call0_c_30 : Ref sig .tc := ⟨.hbm, 735, rfl⟩
abbrev main_call2_call2_call0_v118 : Ref sig .tc := ⟨.hbm, 736, rfl⟩
abbrev main_call2_call2_call0_v119 : Ref sig .tc := ⟨.hbm, 737, rfl⟩
abbrev main_call2_call2_call0_v120 : Ref sig .tc := ⟨.hbm, 738, rfl⟩
abbrev main_call2_call2_call0_v121 : Ref sig .tc := ⟨.hbm, 739, rfl⟩
abbrev main_call2_call2_call0_v122 : Ref sig .tc := ⟨.hbm, 740, rfl⟩
abbrev main_call2_call2_call0_c_31 : Ref sig .tc := ⟨.hbm, 741, rfl⟩
abbrev main_call2_call2_call0_v123 : Ref sig .tc := ⟨.hbm, 742, rfl⟩
abbrev main_call2_call2_call0_v124 : Ref sig .tc := ⟨.hbm, 743, rfl⟩
abbrev main_call2_call2_call0_c_32 : Ref sig .tc := ⟨.hbm, 744, rfl⟩
abbrev main_call2_call2_call0_v125 : Ref sig .tc := ⟨.hbm, 745, rfl⟩
abbrev main_call2_call2_call0_v126 : Ref sig .tc := ⟨.hbm, 746, rfl⟩
abbrev main_call2_call2_call0_v127 : Ref sig .tc := ⟨.hbm, 747, rfl⟩
abbrev main_call2_call2_call0_v128 : Ref sig .tc := ⟨.hbm, 748, rfl⟩
abbrev main_call2_call2_call0_v129 : Ref sig .tc := ⟨.hbm, 749, rfl⟩
abbrev main_call2_call2_call0_c_33 : Ref sig .tc := ⟨.hbm, 750, rfl⟩
abbrev main_call2_call2_call0_v130 : Ref sig .tc := ⟨.hbm, 751, rfl⟩
abbrev main_call2_call2_call0_v131 : Ref sig .tc := ⟨.hbm, 752, rfl⟩
abbrev main_call2_call2_call0_c_34 : Ref sig .tc := ⟨.hbm, 753, rfl⟩
abbrev main_call2_call2_call0_v132 : Ref sig .tc := ⟨.hbm, 754, rfl⟩
abbrev main_call2_call2_call0_v133 : Ref sig .tc := ⟨.hbm, 755, rfl⟩
abbrev main_call2_call2_call0_v134 : Ref sig .tc := ⟨.hbm, 756, rfl⟩
abbrev main_call2_call2_call0_v135 : Ref sig .tc := ⟨.hbm, 757, rfl⟩
abbrev main_call2_call2_call0_v136 : Ref sig .tc := ⟨.hbm, 758, rfl⟩
abbrev main_call2_call2_call0_v137 : Ref sig .tc := ⟨.hbm, 759, rfl⟩
abbrev main_call2_call2_call0_v138 : Ref sig .tc := ⟨.hbm, 760, rfl⟩
abbrev main_call2_call2_call0_v139 : Ref sig .tc := ⟨.hbm, 761, rfl⟩
abbrev main_call2_call2_call0_c_35 : Ref sig .tc := ⟨.hbm, 762, rfl⟩
abbrev main_call2_call2_call0_v140 : Ref sig .tc := ⟨.hbm, 763, rfl⟩
abbrev main_call2_call2_call0_v141 : Ref sig .tc := ⟨.hbm, 764, rfl⟩
abbrev main_call2_call2_call0_v142 : Ref sig .tc := ⟨.hbm, 765, rfl⟩
abbrev main_call2_call2_call0_c_36 : Ref sig .tc := ⟨.hbm, 766, rfl⟩
abbrev main_call2_call2_call0_v143 : Ref sig .tc := ⟨.hbm, 767, rfl⟩
abbrev main_call2_call2_call0_v144 : Ref sig .tc := ⟨.hbm, 768, rfl⟩
abbrev main_call2_call2_call0_c_37 : Ref sig .tc := ⟨.hbm, 769, rfl⟩
abbrev main_call2_call2_call0_v145 : Ref sig .tc := ⟨.hbm, 770, rfl⟩
abbrev main_call2_call2_call0_v146 : Ref sig .tc := ⟨.hbm, 771, rfl⟩
abbrev main_call2_call2_call0_v147 : Ref sig .tc := ⟨.hbm, 772, rfl⟩
abbrev main_call2_call2_call0_v148 : Ref sig .tc := ⟨.hbm, 773, rfl⟩
abbrev main_call2_call2_call0_v149 : Ref sig .tc := ⟨.hbm, 774, rfl⟩
abbrev main_call2_call2_call0_c_38 : Ref sig .tc := ⟨.hbm, 775, rfl⟩
abbrev main_call2_call2_call0_v150 : Ref sig .tc := ⟨.hbm, 776, rfl⟩
abbrev main_call2_call2_call0_v151 : Ref sig .tc := ⟨.hbm, 777, rfl⟩
abbrev main_call2_call2_call0_c_39 : Ref sig .tc := ⟨.hbm, 778, rfl⟩
abbrev main_call2_call2_call0_v152 : Ref sig .tc := ⟨.hbm, 779, rfl⟩
abbrev main_call2_call2_call0_v153 : Ref sig .tc := ⟨.hbm, 780, rfl⟩
abbrev main_call2_call2_call0_v154 : Ref sig .tc := ⟨.hbm, 781, rfl⟩
abbrev main_call2_call2_call0_v155 : Ref sig .tc := ⟨.hbm, 782, rfl⟩
abbrev main_call2_call2_call0_v156 : Ref sig .tc := ⟨.hbm, 783, rfl⟩
abbrev main_call2_call2_call0_c_40 : Ref sig .tc := ⟨.hbm, 784, rfl⟩
abbrev main_call2_call2_call0_v157 : Ref sig .tc := ⟨.hbm, 785, rfl⟩
abbrev main_call2_call2_call0_v158 : Ref sig .tc := ⟨.hbm, 786, rfl⟩
abbrev main_call2_call2_call0_c_41 : Ref sig .tc := ⟨.hbm, 787, rfl⟩
abbrev main_call2_call2_call0_v159 : Ref sig .tc := ⟨.hbm, 788, rfl⟩
abbrev main_call2_call2_call0_v160 : Ref sig .tc := ⟨.hbm, 789, rfl⟩
abbrev main_call2_call2_call0_v161 : Ref sig .tc := ⟨.hbm, 790, rfl⟩
abbrev main_call2_call2_call0_v162 : Ref sig .tc := ⟨.hbm, 791, rfl⟩
abbrev main_call2_call2_call0_v163 : Ref sig .tc := ⟨.hbm, 792, rfl⟩
abbrev main_call2_call2_call0_c_42 : Ref sig .tc := ⟨.hbm, 793, rfl⟩
abbrev main_call2_call2_call0_v164 : Ref sig .tc := ⟨.hbm, 794, rfl⟩
abbrev main_call2_call2_call0_v165 : Ref sig .tc := ⟨.hbm, 795, rfl⟩
abbrev main_call2_call2_call0_c_43 : Ref sig .tc := ⟨.hbm, 796, rfl⟩
abbrev main_call2_call2_call0_v166 : Ref sig .tc := ⟨.hbm, 797, rfl⟩
abbrev main_call2_call2_call0_v167 : Ref sig .tc := ⟨.hbm, 798, rfl⟩
abbrev main_call2_call2_call0_v168 : Ref sig .tc := ⟨.hbm, 799, rfl⟩
abbrev main_call2_call2_call0_v169 : Ref sig .tc := ⟨.hbm, 800, rfl⟩
abbrev main_call2_call2_call0_v170 : Ref sig .tc := ⟨.hbm, 801, rfl⟩
abbrev main_call2_call2_v11_0 : Ref sig .tc := ⟨.hbm, 802, rfl⟩
abbrev main_call2_call2_call0_v172 : Ref sig .tc := ⟨.hbm, 803, rfl⟩
abbrev main_call2_call2_call0_v173 : Ref sig .tc := ⟨.hbm, 804, rfl⟩
abbrev main_call2_call2_call0_c_44 : Ref sig .tc := ⟨.hbm, 805, rfl⟩
abbrev main_call2_call2_call0_v174 : Ref sig .tc := ⟨.hbm, 806, rfl⟩
abbrev main_call2_call2_v11_1 : Ref sig .tc := ⟨.hbm, 807, rfl⟩
abbrev main_call2_call2_v12 : Ref sig .tc := ⟨.hbm, 808, rfl⟩
abbrev main_call2_call2_v13 : Ref sig .tc := ⟨.hbm, 809, rfl⟩
abbrev main_call2_v19 : Ref sig .tc := ⟨.hbm, 810, rfl⟩
abbrev main_call2_v20 : Ref sig .tc := ⟨.hbm, 811, rfl⟩
abbrev main_call2_v21 : Ref sig .tc := ⟨.hbm, 812, rfl⟩
abbrev main_call2_v22 : Ref sig .tc := ⟨.hbm, 813, rfl⟩
abbrev main_call2_v23 : Ref sig .tc := ⟨.hbm, 814, rfl⟩
abbrev main_call2_v24 : Ref sig .tc := ⟨.hbm, 815, rfl⟩
abbrev main_call2_v25 : Ref sig .tc := ⟨.hbm, 816, rfl⟩
abbrev main_call2_v26 : Ref sig .tc := ⟨.hbm, 817, rfl⟩
abbrev main_call2_v27 : Ref sig .tc := ⟨.hbm, 818, rfl⟩
abbrev main_call2_v28 : Ref sig .tc := ⟨.hbm, 819, rfl⟩
abbrev main_call2_c_1 : Ref sig .tc := ⟨.hbm, 820, rfl⟩
abbrev main_call2_v29 : Ref sig .tc := ⟨.hbm, 821, rfl⟩
abbrev main_call2_v30 : Ref sig .tc := ⟨.hbm, 822, rfl⟩
abbrev main_call2_c_2 : Ref sig .tc := ⟨.hbm, 823, rfl⟩
abbrev main_call2_v31 : Ref sig .tc := ⟨.hbm, 824, rfl⟩
abbrev main_call2_v32 : Ref sig .tc := ⟨.hbm, 825, rfl⟩
abbrev main_call2_v33 : Ref sig .tc := ⟨.hbm, 826, rfl⟩
abbrev main_call2_v34 : Ref sig .tc := ⟨.hbm, 827, rfl⟩
abbrev main_call2_call3_v0 : Ref sig .tc := ⟨.hbm, 828, rfl⟩
abbrev main_call2_call3_c : Ref sig .tc := ⟨.hbm, 829, rfl⟩
abbrev main_call2_call3_v1 : Ref sig .tc := ⟨.hbm, 830, rfl⟩
abbrev main_call2_call3_v2 : Ref sig .tc := ⟨.hbm, 831, rfl⟩
abbrev main_call2_call3_v3 : Ref sig .tc := ⟨.hbm, 832, rfl⟩
abbrev main_call2_call3_v4 : Ref sig .tc := ⟨.hbm, 833, rfl⟩
abbrev main_call2_call3_v5 : Ref sig .tc := ⟨.hbm, 834, rfl⟩
abbrev main_call2_call3_v6 : Ref sig .tc := ⟨.hbm, 835, rfl⟩
abbrev main_call2_call3_c_0 : Ref sig .tc := ⟨.hbm, 836, rfl⟩
abbrev main_call2_call3_v7 : Ref sig .tc := ⟨.hbm, 837, rfl⟩
abbrev main_call2_call3_v8 : Ref sig .tc := ⟨.hbm, 838, rfl⟩
abbrev main_call2_call3_c_1 : Ref sig .tc := ⟨.hbm, 839, rfl⟩
abbrev main_call2_call3_v9 : Ref sig .tc := ⟨.hbm, 840, rfl⟩
abbrev main_call2_call3_v10 : Ref sig .tc := ⟨.hbm, 841, rfl⟩
abbrev main_call2_call3_v11 : Ref sig .tc := ⟨.hbm, 842, rfl⟩
abbrev main_call2_call3_v12 : Ref sig .tc := ⟨.hbm, 843, rfl⟩
abbrev main_call2_call3_v13 : Ref sig .tc := ⟨.hbm, 844, rfl⟩
abbrev main_call2_call3_c_2 : Ref sig .tc := ⟨.hbm, 845, rfl⟩
abbrev main_call2_call3_v14 : Ref sig .tc := ⟨.hbm, 846, rfl⟩
abbrev main_call2_call3_v15 : Ref sig .tc := ⟨.hbm, 847, rfl⟩
abbrev main_call2_call3_c_3 : Ref sig .tc := ⟨.hbm, 848, rfl⟩
abbrev main_call2_call3_v16 : Ref sig .tc := ⟨.hbm, 849, rfl⟩
abbrev main_call2_call3_v17 : Ref sig .tc := ⟨.hbm, 850, rfl⟩
abbrev main_call2_call3_v18 : Ref sig .tc := ⟨.hbm, 851, rfl⟩
abbrev main_call2_call3_v19 : Ref sig .tc := ⟨.hbm, 852, rfl⟩
abbrev main_call2_call3_v20 : Ref sig .tc := ⟨.hbm, 853, rfl⟩
abbrev main_call2_call3_c_4 : Ref sig .tc := ⟨.hbm, 854, rfl⟩
abbrev main_call2_call3_v21 : Ref sig .tc := ⟨.hbm, 855, rfl⟩
abbrev main_call2_call3_v22 : Ref sig .tc := ⟨.hbm, 856, rfl⟩
abbrev main_call2_call3_c_5 : Ref sig .tc := ⟨.hbm, 857, rfl⟩
abbrev main_call2_call3_v23 : Ref sig .tc := ⟨.hbm, 858, rfl⟩
abbrev main_call2_call3_v24 : Ref sig .tc := ⟨.hbm, 859, rfl⟩
abbrev main_call2_call3_v25 : Ref sig .tc := ⟨.hbm, 860, rfl⟩
abbrev main_call2_call3_v26 : Ref sig .tc := ⟨.hbm, 861, rfl⟩
abbrev main_call2_call3_v27 : Ref sig .tc := ⟨.hbm, 862, rfl⟩
abbrev main_call2_call3_c_6 : Ref sig .tc := ⟨.hbm, 863, rfl⟩
abbrev main_call2_call3_v28 : Ref sig .tc := ⟨.hbm, 864, rfl⟩
abbrev main_call2_call3_v29 : Ref sig .tc := ⟨.hbm, 865, rfl⟩
abbrev main_call2_call3_c_7 : Ref sig .tc := ⟨.hbm, 866, rfl⟩
abbrev main_call2_call3_v30 : Ref sig .tc := ⟨.hbm, 867, rfl⟩
abbrev main_call2_call3_v31 : Ref sig .tc := ⟨.hbm, 868, rfl⟩
abbrev main_call2_call3_v32 : Ref sig .tc := ⟨.hbm, 869, rfl⟩
abbrev main_call2_call3_v33 : Ref sig .tc := ⟨.hbm, 870, rfl⟩
abbrev main_call2_call3_v34 : Ref sig .tc := ⟨.hbm, 871, rfl⟩
abbrev main_call2_call3_v35 : Ref sig .tc := ⟨.hbm, 872, rfl⟩
abbrev main_call2_call3_v36 : Ref sig .tc := ⟨.hbm, 873, rfl⟩
abbrev main_call2_call3_v37 : Ref sig .tc := ⟨.hbm, 874, rfl⟩
abbrev main_call2_call3_c_8 : Ref sig .tc := ⟨.hbm, 875, rfl⟩
abbrev main_call2_call3_v38 : Ref sig .tc := ⟨.hbm, 876, rfl⟩
abbrev main_call2_call3_v39 : Ref sig .tc := ⟨.hbm, 877, rfl⟩
abbrev main_call2_call3_v40 : Ref sig .tc := ⟨.hbm, 878, rfl⟩
abbrev main_call2_call3_c_9 : Ref sig .tc := ⟨.hbm, 879, rfl⟩
abbrev main_call2_call3_v41 : Ref sig .tc := ⟨.hbm, 880, rfl⟩
abbrev main_call2_call3_v42 : Ref sig .tc := ⟨.hbm, 881, rfl⟩
abbrev main_call2_call3_c_10 : Ref sig .tc := ⟨.hbm, 882, rfl⟩
abbrev main_call2_call3_v43 : Ref sig .tc := ⟨.hbm, 883, rfl⟩
abbrev main_call2_call3_v44 : Ref sig .tc := ⟨.hbm, 884, rfl⟩
abbrev main_call2_call3_v45 : Ref sig .tc := ⟨.hbm, 885, rfl⟩
abbrev main_call2_call3_v46 : Ref sig .tc := ⟨.hbm, 886, rfl⟩
abbrev main_call2_call3_v47 : Ref sig .tc := ⟨.hbm, 887, rfl⟩
abbrev main_call2_call3_c_11 : Ref sig .tc := ⟨.hbm, 888, rfl⟩
abbrev main_call2_call3_v48 : Ref sig .tc := ⟨.hbm, 889, rfl⟩
abbrev main_call2_call3_v49 : Ref sig .tc := ⟨.hbm, 890, rfl⟩
abbrev main_call2_call3_c_12 : Ref sig .tc := ⟨.hbm, 891, rfl⟩
abbrev main_call2_call3_v50 : Ref sig .tc := ⟨.hbm, 892, rfl⟩
abbrev main_call2_call3_v51 : Ref sig .tc := ⟨.hbm, 893, rfl⟩
abbrev main_call2_call3_v52 : Ref sig .tc := ⟨.hbm, 894, rfl⟩
abbrev main_call2_call3_v53 : Ref sig .tc := ⟨.hbm, 895, rfl⟩
abbrev main_call2_call3_v54 : Ref sig .tc := ⟨.hbm, 896, rfl⟩
abbrev main_call2_call3_c_13 : Ref sig .tc := ⟨.hbm, 897, rfl⟩
abbrev main_call2_call3_v55 : Ref sig .tc := ⟨.hbm, 898, rfl⟩
abbrev main_call2_call3_v56 : Ref sig .tc := ⟨.hbm, 899, rfl⟩
abbrev main_call2_call3_c_14 : Ref sig .tc := ⟨.hbm, 900, rfl⟩
abbrev main_call2_call3_v57 : Ref sig .tc := ⟨.hbm, 901, rfl⟩
abbrev main_call2_call3_v58 : Ref sig .tc := ⟨.hbm, 902, rfl⟩
abbrev main_call2_call3_v59 : Ref sig .tc := ⟨.hbm, 903, rfl⟩
abbrev main_call2_call3_v60 : Ref sig .tc := ⟨.hbm, 904, rfl⟩
abbrev main_call2_call3_v61 : Ref sig .tc := ⟨.hbm, 905, rfl⟩
abbrev main_call2_call3_c_15 : Ref sig .tc := ⟨.hbm, 906, rfl⟩
abbrev main_call2_call3_v62 : Ref sig .tc := ⟨.hbm, 907, rfl⟩
abbrev main_call2_call3_v63 : Ref sig .tc := ⟨.hbm, 908, rfl⟩
abbrev main_call2_call3_c_16 : Ref sig .tc := ⟨.hbm, 909, rfl⟩
abbrev main_call2_call3_v64 : Ref sig .tc := ⟨.hbm, 910, rfl⟩
abbrev main_call2_call3_v65 : Ref sig .tc := ⟨.hbm, 911, rfl⟩
abbrev main_call2_call3_v66 : Ref sig .tc := ⟨.hbm, 912, rfl⟩
abbrev main_call2_call3_v67 : Ref sig .tc := ⟨.hbm, 913, rfl⟩
abbrev main_call2_call3_v68 : Ref sig .tc := ⟨.hbm, 914, rfl⟩
abbrev main_call2_call3_v69 : Ref sig .tc := ⟨.hbm, 915, rfl⟩
abbrev main_call2_call3_v70 : Ref sig .tc := ⟨.hbm, 916, rfl⟩
abbrev main_call2_call3_v71 : Ref sig .tc := ⟨.hbm, 917, rfl⟩
abbrev main_call2_call3_c_17 : Ref sig .tc := ⟨.hbm, 918, rfl⟩
abbrev main_call2_call3_v72 : Ref sig .tc := ⟨.hbm, 919, rfl⟩
abbrev main_call2_call3_v73 : Ref sig .tc := ⟨.hbm, 920, rfl⟩
abbrev main_call2_call3_v74 : Ref sig .tc := ⟨.hbm, 921, rfl⟩
abbrev main_call2_call3_c_18 : Ref sig .tc := ⟨.hbm, 922, rfl⟩
abbrev main_call2_call3_v75 : Ref sig .tc := ⟨.hbm, 923, rfl⟩
abbrev main_call2_call3_v76 : Ref sig .tc := ⟨.hbm, 924, rfl⟩
abbrev main_call2_call3_c_19 : Ref sig .tc := ⟨.hbm, 925, rfl⟩
abbrev main_call2_call3_v77 : Ref sig .tc := ⟨.hbm, 926, rfl⟩
abbrev main_call2_call3_v78 : Ref sig .tc := ⟨.hbm, 927, rfl⟩
abbrev main_call2_call3_v79 : Ref sig .tc := ⟨.hbm, 928, rfl⟩
abbrev main_call2_call3_v80 : Ref sig .tc := ⟨.hbm, 929, rfl⟩
abbrev main_call2_call3_v81 : Ref sig .tc := ⟨.hbm, 930, rfl⟩
abbrev main_call2_call3_c_20 : Ref sig .tc := ⟨.hbm, 931, rfl⟩
abbrev main_call2_call3_v82 : Ref sig .tc := ⟨.hbm, 932, rfl⟩
abbrev main_call2_call3_v83 : Ref sig .tc := ⟨.hbm, 933, rfl⟩
abbrev main_call2_call3_c_21 : Ref sig .tc := ⟨.hbm, 934, rfl⟩
abbrev main_call2_call3_v84 : Ref sig .tc := ⟨.hbm, 935, rfl⟩
abbrev main_call2_call3_v85 : Ref sig .tc := ⟨.hbm, 936, rfl⟩
abbrev main_call2_call3_v86 : Ref sig .tc := ⟨.hbm, 937, rfl⟩
abbrev main_call2_call3_v87 : Ref sig .tc := ⟨.hbm, 938, rfl⟩
abbrev main_call2_call3_v88 : Ref sig .tc := ⟨.hbm, 939, rfl⟩
abbrev main_call2_call3_c_22 : Ref sig .tc := ⟨.hbm, 940, rfl⟩
abbrev main_call2_call3_v89 : Ref sig .tc := ⟨.hbm, 941, rfl⟩
abbrev main_call2_call3_v90 : Ref sig .tc := ⟨.hbm, 942, rfl⟩
abbrev main_call2_call3_c_23 : Ref sig .tc := ⟨.hbm, 943, rfl⟩
abbrev main_call2_call3_v91 : Ref sig .tc := ⟨.hbm, 944, rfl⟩
abbrev main_call2_call3_v92 : Ref sig .tc := ⟨.hbm, 945, rfl⟩
abbrev main_call2_call3_v93 : Ref sig .tc := ⟨.hbm, 946, rfl⟩
abbrev main_call2_call3_v94 : Ref sig .tc := ⟨.hbm, 947, rfl⟩
abbrev main_call2_call3_v95 : Ref sig .tc := ⟨.hbm, 948, rfl⟩
abbrev main_call2_call3_c_24 : Ref sig .tc := ⟨.hbm, 949, rfl⟩
abbrev main_call2_call3_v96 : Ref sig .tc := ⟨.hbm, 950, rfl⟩
abbrev main_call2_call3_v97 : Ref sig .tc := ⟨.hbm, 951, rfl⟩
abbrev main_call2_call3_c_25 : Ref sig .tc := ⟨.hbm, 952, rfl⟩
abbrev main_call2_call3_v98 : Ref sig .tc := ⟨.hbm, 953, rfl⟩
abbrev main_call2_call3_v99 : Ref sig .tc := ⟨.hbm, 954, rfl⟩
abbrev main_call2_call3_v100 : Ref sig .tc := ⟨.hbm, 955, rfl⟩
abbrev main_call2_call3_v101 : Ref sig .tc := ⟨.hbm, 956, rfl⟩
abbrev main_call2_call3_v102 : Ref sig .tc := ⟨.hbm, 957, rfl⟩
abbrev main_call2_call3_v103 : Ref sig .tc := ⟨.hbm, 958, rfl⟩
abbrev main_call2_call3_v104 : Ref sig .tc := ⟨.hbm, 959, rfl⟩
abbrev main_call2_call3_v105 : Ref sig .tc := ⟨.hbm, 960, rfl⟩
abbrev main_call2_call3_c_26 : Ref sig .tc := ⟨.hbm, 961, rfl⟩
abbrev main_call2_call3_v106 : Ref sig .tc := ⟨.hbm, 962, rfl⟩
abbrev main_call2_call3_v107 : Ref sig .tc := ⟨.hbm, 963, rfl⟩
abbrev main_call2_call3_v108 : Ref sig .tc := ⟨.hbm, 964, rfl⟩
abbrev main_call2_call3_c_27 : Ref sig .tc := ⟨.hbm, 965, rfl⟩
abbrev main_call2_call3_v109 : Ref sig .tc := ⟨.hbm, 966, rfl⟩
abbrev main_call2_call3_v110 : Ref sig .tc := ⟨.hbm, 967, rfl⟩
abbrev main_call2_call3_c_28 : Ref sig .tc := ⟨.hbm, 968, rfl⟩
abbrev main_call2_call3_v111 : Ref sig .tc := ⟨.hbm, 969, rfl⟩
abbrev main_call2_call3_v112 : Ref sig .tc := ⟨.hbm, 970, rfl⟩
abbrev main_call2_call3_v113 : Ref sig .tc := ⟨.hbm, 971, rfl⟩
abbrev main_call2_call3_v114 : Ref sig .tc := ⟨.hbm, 972, rfl⟩
abbrev main_call2_call3_v115 : Ref sig .tc := ⟨.hbm, 973, rfl⟩
abbrev main_call2_call3_c_29 : Ref sig .tc := ⟨.hbm, 974, rfl⟩
abbrev main_call2_call3_v116 : Ref sig .tc := ⟨.hbm, 975, rfl⟩
abbrev main_call2_call3_v117 : Ref sig .tc := ⟨.hbm, 976, rfl⟩
abbrev main_call2_call3_c_30 : Ref sig .tc := ⟨.hbm, 977, rfl⟩
abbrev main_call2_call3_v118 : Ref sig .tc := ⟨.hbm, 978, rfl⟩
abbrev main_call2_call3_v119 : Ref sig .tc := ⟨.hbm, 979, rfl⟩
abbrev main_call2_call3_v120 : Ref sig .tc := ⟨.hbm, 980, rfl⟩
abbrev main_call2_call3_v121 : Ref sig .tc := ⟨.hbm, 981, rfl⟩
abbrev main_call2_call3_v122 : Ref sig .tc := ⟨.hbm, 982, rfl⟩
abbrev main_call2_call3_c_31 : Ref sig .tc := ⟨.hbm, 983, rfl⟩
abbrev main_call2_call3_v123 : Ref sig .tc := ⟨.hbm, 984, rfl⟩
abbrev main_call2_call3_v124 : Ref sig .tc := ⟨.hbm, 985, rfl⟩
abbrev main_call2_call3_c_32 : Ref sig .tc := ⟨.hbm, 986, rfl⟩
abbrev main_call2_call3_v125 : Ref sig .tc := ⟨.hbm, 987, rfl⟩
abbrev main_call2_call3_v126 : Ref sig .tc := ⟨.hbm, 988, rfl⟩
abbrev main_call2_call3_v127 : Ref sig .tc := ⟨.hbm, 989, rfl⟩
abbrev main_call2_call3_v128 : Ref sig .tc := ⟨.hbm, 990, rfl⟩
abbrev main_call2_call3_v129 : Ref sig .tc := ⟨.hbm, 991, rfl⟩
abbrev main_call2_call3_c_33 : Ref sig .tc := ⟨.hbm, 992, rfl⟩
abbrev main_call2_call3_v130 : Ref sig .tc := ⟨.hbm, 993, rfl⟩
abbrev main_call2_call3_v131 : Ref sig .tc := ⟨.hbm, 994, rfl⟩
abbrev main_call2_call3_c_34 : Ref sig .tc := ⟨.hbm, 995, rfl⟩
abbrev main_call2_call3_v132 : Ref sig .tc := ⟨.hbm, 996, rfl⟩
abbrev main_call2_call3_v133 : Ref sig .tc := ⟨.hbm, 997, rfl⟩
abbrev main_call2_call3_v134 : Ref sig .tc := ⟨.hbm, 998, rfl⟩
abbrev main_call2_call3_v135 : Ref sig .tc := ⟨.hbm, 999, rfl⟩
abbrev main_call2_call3_v136 : Ref sig .tc := ⟨.hbm, 1000, rfl⟩
abbrev main_call2_call3_v137 : Ref sig .tc := ⟨.hbm, 1001, rfl⟩
abbrev main_call2_call3_v138 : Ref sig .tc := ⟨.hbm, 1002, rfl⟩
abbrev main_call2_call3_v139 : Ref sig .tc := ⟨.hbm, 1003, rfl⟩
abbrev main_call2_call3_c_35 : Ref sig .tc := ⟨.hbm, 1004, rfl⟩
abbrev main_call2_call3_v140 : Ref sig .tc := ⟨.hbm, 1005, rfl⟩
abbrev main_call2_call3_v141 : Ref sig .tc := ⟨.hbm, 1006, rfl⟩
abbrev main_call2_call3_v142 : Ref sig .tc := ⟨.hbm, 1007, rfl⟩
abbrev main_call2_call3_c_36 : Ref sig .tc := ⟨.hbm, 1008, rfl⟩
abbrev main_call2_call3_v143 : Ref sig .tc := ⟨.hbm, 1009, rfl⟩
abbrev main_call2_call3_v144 : Ref sig .tc := ⟨.hbm, 1010, rfl⟩
abbrev main_call2_call3_c_37 : Ref sig .tc := ⟨.hbm, 1011, rfl⟩
abbrev main_call2_call3_v145 : Ref sig .tc := ⟨.hbm, 1012, rfl⟩
abbrev main_call2_call3_v146 : Ref sig .tc := ⟨.hbm, 1013, rfl⟩
abbrev main_call2_call3_v147 : Ref sig .tc := ⟨.hbm, 1014, rfl⟩
abbrev main_call2_call3_v148 : Ref sig .tc := ⟨.hbm, 1015, rfl⟩
abbrev main_call2_call3_v149 : Ref sig .tc := ⟨.hbm, 1016, rfl⟩
abbrev main_call2_call3_c_38 : Ref sig .tc := ⟨.hbm, 1017, rfl⟩
abbrev main_call2_call3_v150 : Ref sig .tc := ⟨.hbm, 1018, rfl⟩
abbrev main_call2_call3_v151 : Ref sig .tc := ⟨.hbm, 1019, rfl⟩
abbrev main_call2_call3_c_39 : Ref sig .tc := ⟨.hbm, 1020, rfl⟩
abbrev main_call2_call3_v152 : Ref sig .tc := ⟨.hbm, 1021, rfl⟩
abbrev main_call2_call3_v153 : Ref sig .tc := ⟨.hbm, 1022, rfl⟩
abbrev main_call2_call3_v154 : Ref sig .tc := ⟨.hbm, 1023, rfl⟩
abbrev main_call2_call3_v155 : Ref sig .tc := ⟨.hbm, 1024, rfl⟩
abbrev main_call2_call3_v156 : Ref sig .tc := ⟨.hbm, 1025, rfl⟩
abbrev main_call2_call3_c_40 : Ref sig .tc := ⟨.hbm, 1026, rfl⟩
abbrev main_call2_call3_v157 : Ref sig .tc := ⟨.hbm, 1027, rfl⟩
abbrev main_call2_call3_v158 : Ref sig .tc := ⟨.hbm, 1028, rfl⟩
abbrev main_call2_call3_c_41 : Ref sig .tc := ⟨.hbm, 1029, rfl⟩
abbrev main_call2_call3_v159 : Ref sig .tc := ⟨.hbm, 1030, rfl⟩
abbrev main_call2_call3_v160 : Ref sig .tc := ⟨.hbm, 1031, rfl⟩
abbrev main_call2_call3_v161 : Ref sig .tc := ⟨.hbm, 1032, rfl⟩
abbrev main_call2_call3_v162 : Ref sig .tc := ⟨.hbm, 1033, rfl⟩
abbrev main_call2_call3_v163 : Ref sig .tc := ⟨.hbm, 1034, rfl⟩
abbrev main_call2_call3_c_42 : Ref sig .tc := ⟨.hbm, 1035, rfl⟩
abbrev main_call2_call3_v164 : Ref sig .tc := ⟨.hbm, 1036, rfl⟩
abbrev main_call2_call3_v165 : Ref sig .tc := ⟨.hbm, 1037, rfl⟩
abbrev main_call2_call3_c_43 : Ref sig .tc := ⟨.hbm, 1038, rfl⟩
abbrev main_call2_call3_v166 : Ref sig .tc := ⟨.hbm, 1039, rfl⟩
abbrev main_call2_call3_v167 : Ref sig .tc := ⟨.hbm, 1040, rfl⟩
abbrev main_call2_call3_v168 : Ref sig .tc := ⟨.hbm, 1041, rfl⟩
abbrev main_call2_call3_v169 : Ref sig .tc := ⟨.hbm, 1042, rfl⟩
abbrev main_call2_call3_v170 : Ref sig .tc := ⟨.hbm, 1043, rfl⟩
abbrev main_call2_v35_0 : Ref sig .tc := ⟨.hbm, 1044, rfl⟩
abbrev main_call2_call3_v172 : Ref sig .tc := ⟨.hbm, 1045, rfl⟩
abbrev main_call2_call3_v173 : Ref sig .tc := ⟨.hbm, 1046, rfl⟩
abbrev main_call2_call3_c_44 : Ref sig .tc := ⟨.hbm, 1047, rfl⟩
abbrev main_call2_call3_v174 : Ref sig .tc := ⟨.hbm, 1048, rfl⟩
abbrev main_call2_v35_1 : Ref sig .tc := ⟨.hbm, 1049, rfl⟩
abbrev main_call2_v36 : Ref sig .tc := ⟨.hbm, 1050, rfl⟩
abbrev main_call2_v37_0 : Ref sig .tc := ⟨.hbm, 1051, rfl⟩
abbrev main_v35 : Ref sig .tc := ⟨.hbm, 1052, rfl⟩
abbrev main_v36 : Ref sig .tc := ⟨.hbm, 1053, rfl⟩
abbrev main_c_13 : Ref sig .tc := ⟨.hbm, 1054, rfl⟩
abbrev main_v37 : Ref sig .tc := ⟨.hbm, 1055, rfl⟩
abbrev main_v38 : Ref sig .tc := ⟨.hbm, 1056, rfl⟩
abbrev main_c_14 : Ref sig .tc := ⟨.hbm, 1057, rfl⟩
abbrev main_v39 : Ref sig .tc := ⟨.hbm, 1058, rfl⟩
abbrev main_v40 : Ref sig .tc := ⟨.hbm, 1059, rfl⟩
abbrev main_v41 : Ref sig .tc := ⟨.hbm, 1060, rfl⟩
abbrev main_v42 : Ref sig .tc := ⟨.hbm, 1061, rfl⟩
abbrev main_v43 : Ref sig .tc := ⟨.hbm, 1062, rfl⟩
abbrev main_v44_0 : Ref sig .tc := ⟨.hbm, 1063, rfl⟩
abbrev main_v44_1 : Ref sig .tc := ⟨.hbm, 1064, rfl⟩
abbrev main_v45 : Ref sig .tc := ⟨.hbm, 1065, rfl⟩
abbrev main_v46 : Ref sig .tc := ⟨.hbm, 1066, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v23 : BitVec 32 := Scalar.addi c0_i32 c10_i32
  let c1_i32 : BitVec 32 := 1#32
  ⟨c0_i32, v23, c1_i32⟩
@[reducible] def k0_t2_loop : Scf.Loop 32 :=
  let c0_i32_26 : BitVec 32 := 0#32
  let c7_i32 : BitVec 32 := 7#32
  let v62 : BitVec 32 := Scalar.addi c0_i32_26 c7_i32
  let c1_i32_27 : BitVec 32 := 1#32
  ⟨c0_i32_26, v62, c1_i32_27⟩
def k0_off1 (k0_t2 : Fin k0_t2_loop.trips) : Fin 2 → Nat :=
  let c0_i32_26 : BitVec 32 := 0#32
  let c1_i32_27 : BitVec 32 := 1#32
  let arg9 : BitVec 32 := Scf.iv c0_i32_26 c1_i32_27 k0_t2
  let c7168_i32 : BitVec 32 := 7168#32
  let v76 : BitVec 32 := Scalar.muli arg9 c7168_i32
  let v77 : Index := Scalar.indexCast v76
  let c0_37 : Index := 0#32
  ![v77.toNat, 0]
@[reducible] def k0_t3_loop : Scf.Loop 32 :=
  let c0_i32_18 : BitVec 32 := 0#32
  let c8_i32 : BitVec 32 := 8#32
  let v50 : BitVec 32 := Scalar.addi c0_i32_18 c8_i32
  let c1_i32_19 : BitVec 32 := 1#32
  ⟨c0_i32_18, v50, c1_i32_19⟩
abbrev stage0_0 : Fin 1 → Memref sig .tc .vmem S50176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x96x1x224x224 : Shape := ⟨5, ![1, 96, 1, 224, 224]⟩
abbrev S128x99 : Shape := ⟨2, ![128, 99]⟩
abbrev S128 : Shape := ⟨1, ![128]⟩
abbrev S1x96x224x224 : Shape := ⟨4, ![1, 96, 224, 224]⟩
abbrev S_ : Shape := ⟨0, ![]⟩
abbrev S223 : Shape := ⟨1, ![223]⟩
abbrev S1 : Shape := ⟨1, ![1]⟩
abbrev S224 : Shape := ⟨1, ![224]⟩
abbrev S224x224 : Shape := ⟨2, ![224, 224]⟩
abbrev S1x224x224 : Shape := ⟨3, ![1, 224, 224]⟩
abbrev S3x224x224 : Shape := ⟨3, ![3, 224, 224]⟩
abbrev S1x96x50176 : Shape := ⟨3, ![1, 96, 50176]⟩
abbrev S1x3x50176 : Shape := ⟨3, ![1, 3, 50176]⟩
abbrev S1x99x50176 : Shape := ⟨3, ![1, 99, 50176]⟩
abbrev S1x50176x99 : Shape := ⟨3, ![1, 50176, 99]⟩
abbrev S50176x99 : Shape := ⟨2, ![50176, 99]⟩
abbrev S2 : Shape := ⟨1, ![2]⟩
abbrev S50176 : Shape := ⟨1, ![50176]⟩
abbrev S2x1 : Shape := ⟨2, ![2, 1]⟩
abbrev S2x2 : Shape := ⟨2, ![2, 2]⟩
abbrev S1x2 : Shape := ⟨2, ![1, 2]⟩
abbrev S128x1 : Shape := ⟨2, ![128, 1]⟩
abbrev S50176x1 : Shape := ⟨2, ![50176, 1]⟩
abbrev S1x128 : Shape := ⟨2, ![1, 128]⟩
abbrev S50176x128 : Shape := ⟨2, ![50176, 128]⟩
abbrev S99x128 : Shape := ⟨2, ![99, 128]⟩
abbrev S128x50176 : Shape := ⟨2, ![128, 50176]⟩
abbrev S128x128 : Shape := ⟨2, ![128, 128]⟩
abbrev S128x3 : Shape := ⟨2, ![128, 3]⟩
abbrev S3x128 : Shape := ⟨2, ![3, 128]⟩
abbrev S128x8 : Shape := ⟨2, ![128, 8]⟩
abbrev S128x8x1 : Shape := ⟨3, ![128, 8, 1]⟩
abbrev S128x8x2 : Shape := ⟨3, ![128, 8, 2]⟩
abbrev S1x128x128 : Shape := ⟨3, ![1, 128, 128]⟩

abbrev nBuf : Space → Nat
  | .hbm => 1165
  | .vmem => 0
  | .smem => 0
  | _ => 0

abbrev hbmTy0_0 (i : Nat) : BufTy := match i % 128 with
  | 0 => ⟨S1x96x1x224x224, .f32⟩
  | 1 => ⟨S128x99, .f32⟩
  | 2 => ⟨S128, .f32⟩
  | 3 => ⟨S1x96x224x224, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S223, .f32⟩
  | 12 => ⟨S_, .f32⟩
  | 13 => ⟨S223, .f32⟩
  | 14 => ⟨S223, .f32⟩
  | 15 => ⟨S1, .f32⟩
  | 16 => ⟨S_, .f32⟩
  | 17 => ⟨S223, .f32⟩
  | 18 => ⟨S223, .f32⟩
  | 19 => ⟨S223, .f32⟩
  | 20 => ⟨S223, .f32⟩
  | 21 => ⟨S1, .f32⟩
  | 22 => ⟨S223, .f32⟩
  | 23 => ⟨S223, .f32⟩
  | 24 => ⟨S223, .f32⟩
  | 25 => ⟨S1, .f32⟩
  | 26 => ⟨S224, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S223, .f32⟩
  | 35 => ⟨S_, .f32⟩
  | 36 => ⟨S223, .f32⟩
  | 37 => ⟨S223, .f32⟩
  | 38 => ⟨S1, .f32⟩
  | 39 => ⟨S_, .f32⟩
  | 40 => ⟨S223, .f32⟩
  | 41 => ⟨S223, .f32⟩
  | 42 => ⟨S223, .f32⟩
  | 43 => ⟨S223, .f32⟩
  | 44 => ⟨S1, .f32⟩
  | 45 => ⟨S223, .f32⟩
  | 46 => ⟨S223, .f32⟩
  | 47 => ⟨S223, .f32⟩
  | 48 => ⟨S1, .f32⟩
  | 49 => ⟨S224, .f32⟩
  | 50 => ⟨S224x224, .f32⟩
  | 51 => ⟨S224x224, .f32⟩
  | 52 => ⟨S_, .f32⟩
  | 53 => ⟨S224x224, .f32⟩
  | 54 => ⟨S1x224x224, .f32⟩
  | 55 => ⟨S1x224x224, .f32⟩
  | 56 => ⟨S1x224x224, .f32⟩
  | 57 => ⟨S3x224x224, .f32⟩
  | 58 => ⟨S1x96x50176, .f32⟩
  | 59 => ⟨S1x3x50176, .f32⟩
  | 60 => ⟨S_, .f32⟩
  | 61 => ⟨S1x3x50176, .f32⟩
  | 62 => ⟨S1x3x50176, .f32⟩
  | 63 => ⟨S1x99x50176, .f32⟩
  | 64 => ⟨S1x50176x99, .f32⟩
  | 65 => ⟨S50176x99, .f32⟩
  | 66 => ⟨S_, .i32⟩
  | 67 => ⟨S_, .i32⟩
  | 68 => ⟨S_, .i32⟩
  | 69 => ⟨S_, .i32⟩
  | 70 => ⟨S1, .i32⟩
  | 71 => ⟨S_, .i32⟩
  | 72 => ⟨S_, .i32⟩
  | 73 => ⟨S_, .i32⟩
  | 74 => ⟨S1, .i32⟩
  | 75 => ⟨S2, .i32⟩
  | 76 => ⟨S50176, .i32⟩
  | 77 => ⟨S1, .i32⟩
  | 78 => ⟨S_, .i32⟩
  | 79 => ⟨S1, .i32⟩
  | 80 => ⟨S_, .i32⟩
  | 81 => ⟨S2, .i64⟩
  | 82 => ⟨S_, .i64⟩
  | 83 => ⟨S2, .i64⟩
  | 84 => ⟨S2, .i64⟩
  | 85 => ⟨S_, .i64⟩
  | 86 => ⟨S2, .i64⟩
  | 87 => ⟨S2, .i64⟩
  | 88 => ⟨S2, .i32⟩
  | 89 => ⟨S2, .i32⟩
  | 90 => ⟨S_, .i32⟩
  | 91 => ⟨S_, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S_, .i32⟩
  | 120 => ⟨S2, .i32⟩
  | 121 => ⟨S2, .i32⟩
  | 122 => ⟨S2, .i32⟩
  | 123 => ⟨S2, .i32⟩
  | 124 => ⟨S2, .i32⟩
  | 125 => ⟨S_, .i32⟩
  | 126 => ⟨S2, .i32⟩
  | 127 => ⟨S2, .i32⟩
  | _ => ⟨S1x96x1x224x224, .f32⟩

abbrev hbmTy0_1 (i : Nat) : BufTy := match i % 128 with
  | 0 => ⟨S_, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S_, .i32⟩
  | 35 => ⟨S2, .i32⟩
  | 36 => ⟨S2, .i32⟩
  | 37 => ⟨S2, .i32⟩
  | 38 => ⟨S2, .i32⟩
  | 39 => ⟨S2, .i32⟩
  | 40 => ⟨S_, .i32⟩
  | 41 => ⟨S2, .i32⟩
  | 42 => ⟨S2, .i32⟩
  | 43 => ⟨S_, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S1x96x1x224x224, .f32⟩

abbrev hbmTy0_2 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S2x1, .i32⟩
  | 57 => ⟨S2x1, .i32⟩
  | 58 => ⟨S2x2, .i32⟩
  | 59 => ⟨S1x2, .i32⟩
  | 60 => ⟨S2, .i32⟩
  | 61 => ⟨S1x2, .i32⟩
  | 62 => ⟨S2, .i32⟩
  | 63 => ⟨S1, .i32⟩
  | 64 => ⟨S_, .i32⟩
  | 65 => ⟨S1, .i32⟩
  | 66 => ⟨S_, .i32⟩
  | 67 => ⟨S50176, .i64⟩
  | 68 => ⟨S_, .i64⟩
  | 69 => ⟨S50176, .i64⟩
  | 70 => ⟨S50176, .i64⟩
  | 71 => ⟨S_, .i64⟩
  | 72 => ⟨S50176, .i64⟩
  | 73 => ⟨S50176, .i64⟩
  | 74 => ⟨S50176, .i32⟩
  | 75 => ⟨S50176, .i32⟩
  | 76 => ⟨S_, .i32⟩
  | 77 => ⟨S_, .i32⟩
  | 78 => ⟨S_, .i32⟩
  | 79 => ⟨S50176, .i32⟩
  | 80 => ⟨S50176, .i32⟩
  | 81 => ⟨S50176, .i32⟩
  | 82 => ⟨S50176, .i32⟩
  | 83 => ⟨S50176, .i32⟩
  | 84 => ⟨S_, .i32⟩
  | 85 => ⟨S50176, .i32⟩
  | 86 => ⟨S50176, .i32⟩
  | 87 => ⟨S_, .i32⟩
  | 88 => ⟨S50176, .i32⟩
  | 89 => ⟨S50176, .i32⟩
  | 90 => ⟨S50176, .i32⟩
  | 91 => ⟨S50176, .i32⟩
  | 92 => ⟨S50176, .i32⟩
  | 93 => ⟨S_, .i32⟩
  | 94 => ⟨S50176, .i32⟩
  | 95 => ⟨S50176, .i32⟩
  | 96 => ⟨S_, .i32⟩
  | 97 => ⟨S50176, .i32⟩
  | 98 => ⟨S50176, .i32⟩
  | 99 => ⟨S50176, .i32⟩
  | 100 => ⟨S50176, .i32⟩
  | 101 => ⟨S50176, .i32⟩
  | 102 => ⟨S_, .i32⟩
  | 103 => ⟨S50176, .i32⟩
  | 104 => ⟨S50176, .i32⟩
  | 105 => ⟨S_, .i32⟩
  | 106 => ⟨S50176, .i32⟩
  | 107 => ⟨S50176, .i32⟩
  | 108 => ⟨S50176, .i32⟩
  | 109 => ⟨S50176, .i32⟩
  | 110 => ⟨S50176, .i32⟩
  | 111 => ⟨S_, .i32⟩
  | 112 => ⟨S50176, .i32⟩
  | 113 => ⟨S50176, .i32⟩
  | 114 => ⟨S_, .i32⟩
  | 115 => ⟨S50176, .i32⟩
  | 116 => ⟨S50176, .i32⟩
  | 117 => ⟨S50176, .i32⟩
  | 118 => ⟨S50176, .i32⟩
  | 119 => ⟨S50176, .i32⟩
  | 120 => ⟨S50176, .i32⟩
  | 121 => ⟨S50176, .i32⟩
  | 122 => ⟨S50176, .i32⟩
  | 123 => ⟨S_, .i32⟩
  | 124 => ⟨S50176, .i32⟩
  | 125 => ⟨S50176, .i32⟩
  | 126 => ⟨S50176, .i32⟩
  | 127 => ⟨S_, .i32⟩
  | _ => ⟨S1x96x1x224x224, .f32⟩

abbrev hbmTy0_3 (i : Nat) : BufTy := match i % 128 with
  | 0 => ⟨S50176, .i32⟩
  | 1 => ⟨S50176, .i32⟩
  | 2 => ⟨S_, .i32⟩
  | 3 => ⟨S50176, .i32⟩
  | 4 => ⟨S50176, .i32⟩
  | 5 => ⟨S50176, .i32⟩
  | 6 => ⟨S50176, .i32⟩
  | 7 => ⟨S50176, .i32⟩
  | 8 => ⟨S_, .i32⟩
  | 9 => ⟨S50176, .i32⟩
  | 10 => ⟨S50176, .i32⟩
  | 11 => ⟨S_, .i32⟩
  | 12 => ⟨S50176, .i32⟩
  | 13 => ⟨S50176, .i32⟩
  | 14 => ⟨S50176, .i32⟩
  | 15 => ⟨S50176, .i32⟩
  | 16 => ⟨S50176, .i32⟩
  | 17 => ⟨S_, .i32⟩
  | 18 => ⟨S50176, .i32⟩
  | 19 => ⟨S50176, .i32⟩
  | 20 => ⟨S_, .i32⟩
  | 21 => ⟨S50176, .i32⟩
  | 22 => ⟨S50176, .i32⟩
  | 23 => ⟨S50176, .i32⟩
  | 24 => ⟨S50176, .i32⟩
  | 25 => ⟨S50176, .i32⟩
  | 26 => ⟨S_, .i32⟩
  | 27 => ⟨S50176, .i32⟩
  | 28 => ⟨S50176, .i32⟩
  | 29 => ⟨S_, .i32⟩
  | 30 => ⟨S50176, .i32⟩
  | 31 => ⟨S50176, .i32⟩
  | 32 => ⟨S50176, .i32⟩
  | 33 => ⟨S50176, .i32⟩
  | 34 => ⟨S50176, .i32⟩
  | 35 => ⟨S50176, .i32⟩
  | 36 => ⟨S50176, .i32⟩
  | 37 => ⟨S50176, .i32⟩
  | 38 => ⟨S_, .i32⟩
  | 39 => ⟨S50176, .i32⟩
  | 40 => ⟨S50176, .i32⟩
  | 41 => ⟨S50176, .i32⟩
  | 42 => ⟨S_, .i32⟩
  | 43 => ⟨S50176, .i32⟩
  | 44 => ⟨S50176, .i32⟩
  | 45 => ⟨S_, .i32⟩
  | 46 => ⟨S50176, .i32⟩
  | 47 => ⟨S50176, .i32⟩
  | 48 => ⟨S50176, .i32⟩
  | 49 => ⟨S50176, .i32⟩
  | 50 => ⟨S50176, .i32⟩
  | 51 => ⟨S_, .i32⟩
  | 52 => ⟨S50176, .i32⟩
  | 53 => ⟨S50176, .i32⟩
  | 54 => ⟨S_, .i32⟩
  | 55 => ⟨S50176, .i32⟩
  | 56 => ⟨S50176, .i32⟩
  | 57 => ⟨S50176, .i32⟩
  | 58 => ⟨S50176, .i32⟩
  | 59 => ⟨S50176, .i32⟩
  | 60 => ⟨S_, .i32⟩
  | 61 => ⟨S50176, .i32⟩
  | 62 => ⟨S50176, .i32⟩
  | 63 => ⟨S_, .i32⟩
  | 64 => ⟨S50176, .i32⟩
  | 65 => ⟨S50176, .i32⟩
  | 66 => ⟨S50176, .i32⟩
  | 67 => ⟨S50176, .i32⟩
  | 68 => ⟨S50176, .i32⟩
  | 69 => ⟨S_, .i32⟩
  | 70 => ⟨S50176, .i32⟩
  | 71 => ⟨S50176, .i32⟩
  | 72 => ⟨S_, .i32⟩
  | 73 => ⟨S50176, .i32⟩
  | 74 => ⟨S50176, .i32⟩
  | 75 => ⟨S50176, .i32⟩
  | 76 => ⟨S50176, .i32⟩
  | 77 => ⟨S50176, .i32⟩
  | 78 => ⟨S50176, .i32⟩
  | 79 => ⟨S50176, .i32⟩
  | 80 => ⟨S50176, .i32⟩
  | 81 => ⟨S_, .i32⟩
  | 82 => ⟨S50176, .i32⟩
  | 83 => ⟨S50176, .i32⟩
  | 84 => ⟨S50176, .i32⟩
  | 85 => ⟨S_, .i32⟩
  | 86 => ⟨S50176, .i32⟩
  | 87 => ⟨S50176, .i32⟩
  | 88 => ⟨S_, .i32⟩
  | 89 => ⟨S50176, .i32⟩
  | 90 => ⟨S50176, .i32⟩
  | 91 => ⟨S50176, .i32⟩
  | 92 => ⟨S50176, .i32⟩
  | 93 => ⟨S50176, .i32⟩
  | 94 => ⟨S_, .i32⟩
  | 95 => ⟨S50176, .i32⟩
  | 96 => ⟨S50176, .i32⟩
  | 97 => ⟨S_, .i32⟩
  | 98 => ⟨S50176, .i32⟩
  | 99 => ⟨S50176, .i32⟩
  | 100 => ⟨S50176, .i32⟩
  | 101 => ⟨S50176, .i32⟩
  | 102 => ⟨S50176, .i32⟩
  | 103 => ⟨S_, .i32⟩
  | 104 => ⟨S50176, .i32⟩
  | 105 => ⟨S50176, .i32⟩
  | 106 => ⟨S_, .i32⟩
  | 107 => ⟨S50176, .i32⟩
  | 108 => ⟨S50176, .i32⟩
  | 109 => ⟨S50176, .i32⟩
  | 110 => ⟨S50176, .i32⟩
  | 111 => ⟨S50176, .i32⟩
  | 112 => ⟨S_, .i32⟩
  | 113 => ⟨S50176, .i32⟩
  | 114 => ⟨S50176, .i32⟩
  | 115 => ⟨S_, .i32⟩
  | 116 => ⟨S50176, .i32⟩
  | 117 => ⟨S50176, .i32⟩
  | 118 => ⟨S50176, .i32⟩
  | 119 => ⟨S50176, .i32⟩
  | 120 => ⟨S50176, .i32⟩
  | 121 => ⟨S50176, .i32⟩
  | 122 => ⟨S50176, .i32⟩
  | 123 => ⟨S50176, .i32⟩
  | 124 => ⟨S_, .i32⟩
  | 125 => ⟨S50176, .i32⟩
  | 126 => ⟨S50176, .i32⟩
  | 127 => ⟨S50176, .i32⟩
  | _ => ⟨S1x96x1x224x224, .f32⟩

abbrev hbmTy0_4 (i : Nat) : BufTy := match i % 128 with
  | 0 => ⟨S_, .i32⟩
  | 1 => ⟨S50176, .i32⟩
  | 2 => ⟨S50176, .i32⟩
  | 3 => ⟨S_, .i32⟩
  | 4 => ⟨S50176, .i32⟩
  | 5 => ⟨S50176, .i32⟩
  | 6 => ⟨S50176, .i32⟩
  | 7 => ⟨S50176, .i32⟩
  | 8 => ⟨S50176, .i32⟩
  | 9 => ⟨S_, .i32⟩
  | 10 => ⟨S50176, .i32⟩
  | 11 => ⟨S50176, .i32⟩
  | 12 => ⟨S_, .i32⟩
  | 13 => ⟨S50176, .i32⟩
  | 14 => ⟨S50176, .i32⟩
  | 15 => ⟨S50176, .i32⟩
  | 16 => ⟨S50176, .i32⟩
  | 17 => ⟨S50176, .i32⟩
  | 18 => ⟨S_, .i32⟩
  | 19 => ⟨S50176, .i32⟩
  | 20 => ⟨S50176, .i32⟩
  | 21 => ⟨S_, .i32⟩
  | 22 => ⟨S50176, .i32⟩
  | 23 => ⟨S50176, .i32⟩
  | 24 => ⟨S50176, .i32⟩
  | 25 => ⟨S50176, .i32⟩
  | 26 => ⟨S50176, .i32⟩
  | 27 => ⟨S_, .i32⟩
  | 28 => ⟨S50176, .i32⟩
  | 29 => ⟨S50176, .i32⟩
  | 30 => ⟨S_, .i32⟩
  | 31 => ⟨S50176, .i32⟩
  | 32 => ⟨S50176, .i32⟩
  | 33 => ⟨S50176, .i32⟩
  | 34 => ⟨S50176, .i32⟩
  | 35 => ⟨S50176, .i32⟩
  | 36 => ⟨S50176, .i32⟩
  | 37 => ⟨S50176, .i32⟩
  | 38 => ⟨S50176, .i32⟩
  | 39 => ⟨S_, .i32⟩
  | 40 => ⟨S50176, .i32⟩
  | 41 => ⟨S50176, .i32⟩
  | 42 => ⟨S50176, .i32⟩
  | 43 => ⟨S50176, .i32⟩
  | 44 => ⟨S50176, .i32⟩
  | 45 => ⟨S1, .i32⟩
  | 46 => ⟨S_, .i32⟩
  | 47 => ⟨S1, .i32⟩
  | 48 => ⟨S_, .i32⟩
  | 49 => ⟨S2, .i64⟩
  | 50 => ⟨S_, .i64⟩
  | 51 => ⟨S2, .i64⟩
  | 52 => ⟨S2, .i64⟩
  | 53 => ⟨S_, .i64⟩
  | 54 => ⟨S2, .i64⟩
  | 55 => ⟨S2, .i64⟩
  | 56 => ⟨S2, .i32⟩
  | 57 => ⟨S2, .i32⟩
  | 58 => ⟨S_, .i32⟩
  | 59 => ⟨S_, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S1x96x1x224x224, .f32⟩

abbrev hbmTy0_5 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S1x96x1x224x224, .f32⟩

abbrev hbmTy0_6 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S_, .i32⟩
  | 10 => ⟨S2, .i32⟩
  | 11 => ⟨S2, .i32⟩
  | 12 => ⟨S_, .i32⟩
  | 13 => ⟨S2, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S2x1, .i32⟩
  | 25 => ⟨S2x1, .i32⟩
  | 26 => ⟨S2x2, .i32⟩
  | 27 => ⟨S1x2, .i32⟩
  | 28 => ⟨S2, .i32⟩
  | 29 => ⟨S1x2, .i32⟩
  | 30 => ⟨S2, .i32⟩
  | 31 => ⟨S1, .i32⟩
  | 32 => ⟨S_, .i32⟩
  | 33 => ⟨S1, .i32⟩
  | 34 => ⟨S_, .i32⟩
  | 35 => ⟨S50176, .i64⟩
  | 36 => ⟨S_, .i64⟩
  | 37 => ⟨S50176, .i64⟩
  | 38 => ⟨S50176, .i64⟩
  | 39 => ⟨S_, .i64⟩
  | 40 => ⟨S50176, .i64⟩
  | 41 => ⟨S50176, .i64⟩
  | 42 => ⟨S50176, .i32⟩
  | 43 => ⟨S50176, .i32⟩
  | 44 => ⟨S_, .i32⟩
  | 45 => ⟨S_, .i32⟩
  | 46 => ⟨S_, .i32⟩
  | 47 => ⟨S50176, .i32⟩
  | 48 => ⟨S50176, .i32⟩
  | 49 => ⟨S50176, .i32⟩
  | 50 => ⟨S50176, .i32⟩
  | 51 => ⟨S50176, .i32⟩
  | 52 => ⟨S_, .i32⟩
  | 53 => ⟨S50176, .i32⟩
  | 54 => ⟨S50176, .i32⟩
  | 55 => ⟨S_, .i32⟩
  | 56 => ⟨S50176, .i32⟩
  | 57 => ⟨S50176, .i32⟩
  | 58 => ⟨S50176, .i32⟩
  | 59 => ⟨S50176, .i32⟩
  | 60 => ⟨S50176, .i32⟩
  | 61 => ⟨S_, .i32⟩
  | 62 => ⟨S50176, .i32⟩
  | 63 => ⟨S50176, .i32⟩
  | 64 => ⟨S_, .i32⟩
  | 65 => ⟨S50176, .i32⟩
  | 66 => ⟨S50176, .i32⟩
  | 67 => ⟨S50176, .i32⟩
  | 68 => ⟨S50176, .i32⟩
  | 69 => ⟨S50176, .i32⟩
  | 70 => ⟨S_, .i32⟩
  | 71 => ⟨S50176, .i32⟩
  | 72 => ⟨S50176, .i32⟩
  | 73 => ⟨S_, .i32⟩
  | 74 => ⟨S50176, .i32⟩
  | 75 => ⟨S50176, .i32⟩
  | 76 => ⟨S50176, .i32⟩
  | 77 => ⟨S50176, .i32⟩
  | 78 => ⟨S50176, .i32⟩
  | 79 => ⟨S_, .i32⟩
  | 80 => ⟨S50176, .i32⟩
  | 81 => ⟨S50176, .i32⟩
  | 82 => ⟨S_, .i32⟩
  | 83 => ⟨S50176, .i32⟩
  | 84 => ⟨S50176, .i32⟩
  | 85 => ⟨S50176, .i32⟩
  | 86 => ⟨S50176, .i32⟩
  | 87 => ⟨S50176, .i32⟩
  | 88 => ⟨S50176, .i32⟩
  | 89 => ⟨S50176, .i32⟩
  | 90 => ⟨S50176, .i32⟩
  | 91 => ⟨S_, .i32⟩
  | 92 => ⟨S50176, .i32⟩
  | 93 => ⟨S50176, .i32⟩
  | 94 => ⟨S50176, .i32⟩
  | 95 => ⟨S_, .i32⟩
  | 96 => ⟨S50176, .i32⟩
  | 97 => ⟨S50176, .i32⟩
  | 98 => ⟨S_, .i32⟩
  | 99 => ⟨S50176, .i32⟩
  | 100 => ⟨S50176, .i32⟩
  | 101 => ⟨S50176, .i32⟩
  | 102 => ⟨S50176, .i32⟩
  | 103 => ⟨S50176, .i32⟩
  | 104 => ⟨S_, .i32⟩
  | 105 => ⟨S50176, .i32⟩
  | 106 => ⟨S50176, .i32⟩
  | 107 => ⟨S_, .i32⟩
  | 108 => ⟨S50176, .i32⟩
  | 109 => ⟨S50176, .i32⟩
  | 110 => ⟨S50176, .i32⟩
  | 111 => ⟨S50176, .i32⟩
  | 112 => ⟨S50176, .i32⟩
  | 113 => ⟨S_, .i32⟩
  | 114 => ⟨S50176, .i32⟩
  | 115 => ⟨S50176, .i32⟩
  | 116 => ⟨S_, .i32⟩
  | 117 => ⟨S50176, .i32⟩
  | 118 => ⟨S50176, .i32⟩
  | 119 => ⟨S50176, .i32⟩
  | 120 => ⟨S50176, .i32⟩
  | 121 => ⟨S50176, .i32⟩
  | 122 => ⟨S_, .i32⟩
  | 123 => ⟨S50176, .i32⟩
  | 124 => ⟨S50176, .i32⟩
  | 125 => ⟨S_, .i32⟩
  | 126 => ⟨S50176, .i32⟩
  | 127 => ⟨S50176, .i32⟩
  | _ => ⟨S1x96x1x224x224, .f32⟩

abbrev hbmTy0_7 (i : Nat) : BufTy := match i % 128 with
  | 0 => ⟨S50176, .i32⟩
  | 1 => ⟨S50176, .i32⟩
  | 2 => ⟨S50176, .i32⟩
  | 3 => ⟨S50176, .i32⟩
  | 4 => ⟨S50176, .i32⟩
  | 5 => ⟨S50176, .i32⟩
  | 6 => ⟨S_, .i32⟩
  | 7 => ⟨S50176, .i32⟩
  | 8 => ⟨S50176, .i32⟩
  | 9 => ⟨S50176, .i32⟩
  | 10 => ⟨S_, .i32⟩
  | 11 => ⟨S50176, .i32⟩
  | 12 => ⟨S50176, .i32⟩
  | 13 => ⟨S_, .i32⟩
  | 14 => ⟨S50176, .i32⟩
  | 15 => ⟨S50176, .i32⟩
  | 16 => ⟨S50176, .i32⟩
  | 17 => ⟨S50176, .i32⟩
  | 18 => ⟨S50176, .i32⟩
  | 19 => ⟨S_, .i32⟩
  | 20 => ⟨S50176, .i32⟩
  | 21 => ⟨S50176, .i32⟩
  | 22 => ⟨S_, .i32⟩
  | 23 => ⟨S50176, .i32⟩
  | 24 => ⟨S50176, .i32⟩
  | 25 => ⟨S50176, .i32⟩
  | 26 => ⟨S50176, .i32⟩
  | 27 => ⟨S50176, .i32⟩
  | 28 => ⟨S_, .i32⟩
  | 29 => ⟨S50176, .i32⟩
  | 30 => ⟨S50176, .i32⟩
  | 31 => ⟨S_, .i32⟩
  | 32 => ⟨S50176, .i32⟩
  | 33 => ⟨S50176, .i32⟩
  | 34 => ⟨S50176, .i32⟩
  | 35 => ⟨S50176, .i32⟩
  | 36 => ⟨S50176, .i32⟩
  | 37 => ⟨S_, .i32⟩
  | 38 => ⟨S50176, .i32⟩
  | 39 => ⟨S50176, .i32⟩
  | 40 => ⟨S_, .i32⟩
  | 41 => ⟨S50176, .i32⟩
  | 42 => ⟨S50176, .i32⟩
  | 43 => ⟨S50176, .i32⟩
  | 44 => ⟨S50176, .i32⟩
  | 45 => ⟨S50176, .i32⟩
  | 46 => ⟨S50176, .i32⟩
  | 47 => ⟨S50176, .i32⟩
  | 48 => ⟨S50176, .i32⟩
  | 49 => ⟨S_, .i32⟩
  | 50 => ⟨S50176, .i32⟩
  | 51 => ⟨S50176, .i32⟩
  | 52 => ⟨S50176, .i32⟩
  | 53 => ⟨S_, .i32⟩
  | 54 => ⟨S50176, .i32⟩
  | 55 => ⟨S50176, .i32⟩
  | 56 => ⟨S_, .i32⟩
  | 57 => ⟨S50176, .i32⟩
  | 58 => ⟨S50176, .i32⟩
  | 59 => ⟨S50176, .i32⟩
  | 60 => ⟨S50176, .i32⟩
  | 61 => ⟨S50176, .i32⟩
  | 62 => ⟨S_, .i32⟩
  | 63 => ⟨S50176, .i32⟩
  | 64 => ⟨S50176, .i32⟩
  | 65 => ⟨S_, .i32⟩
  | 66 => ⟨S50176, .i32⟩
  | 67 => ⟨S50176, .i32⟩
  | 68 => ⟨S50176, .i32⟩
  | 69 => ⟨S50176, .i32⟩
  | 70 => ⟨S50176, .i32⟩
  | 71 => ⟨S_, .i32⟩
  | 72 => ⟨S50176, .i32⟩
  | 73 => ⟨S50176, .i32⟩
  | 74 => ⟨S_, .i32⟩
  | 75 => ⟨S50176, .i32⟩
  | 76 => ⟨S50176, .i32⟩
  | 77 => ⟨S50176, .i32⟩
  | 78 => ⟨S50176, .i32⟩
  | 79 => ⟨S50176, .i32⟩
  | 80 => ⟨S_, .i32⟩
  | 81 => ⟨S50176, .i32⟩
  | 82 => ⟨S50176, .i32⟩
  | 83 => ⟨S_, .i32⟩
  | 84 => ⟨S50176, .i32⟩
  | 85 => ⟨S50176, .i32⟩
  | 86 => ⟨S50176, .i32⟩
  | 87 => ⟨S50176, .i32⟩
  | 88 => ⟨S50176, .i32⟩
  | 89 => ⟨S50176, .i32⟩
  | 90 => ⟨S50176, .i32⟩
  | 91 => ⟨S50176, .i32⟩
  | 92 => ⟨S_, .i32⟩
  | 93 => ⟨S50176, .i32⟩
  | 94 => ⟨S50176, .i32⟩
  | 95 => ⟨S50176, .i32⟩
  | 96 => ⟨S_, .i32⟩
  | 97 => ⟨S50176, .i32⟩
  | 98 => ⟨S50176, .i32⟩
  | 99 => ⟨S_, .i32⟩
  | 100 => ⟨S50176, .i32⟩
  | 101 => ⟨S50176, .i32⟩
  | 102 => ⟨S50176, .i32⟩
  | 103 => ⟨S50176, .i32⟩
  | 104 => ⟨S50176, .i32⟩
  | 105 => ⟨S_, .i32⟩
  | 106 => ⟨S50176, .i32⟩
  | 107 => ⟨S50176, .i32⟩
  | 108 => ⟨S_, .i32⟩
  | 109 => ⟨S50176, .i32⟩
  | 110 => ⟨S50176, .i32⟩
  | 111 => ⟨S50176, .i32⟩
  | 112 => ⟨S50176, .i32⟩
  | 113 => ⟨S50176, .i32⟩
  | 114 => ⟨S_, .i32⟩
  | 115 => ⟨S50176, .i32⟩
  | 116 => ⟨S50176, .i32⟩
  | 117 => ⟨S_, .i32⟩
  | 118 => ⟨S50176, .i32⟩
  | 119 => ⟨S50176, .i32⟩
  | 120 => ⟨S50176, .i32⟩
  | 121 => ⟨S50176, .i32⟩
  | 122 => ⟨S50176, .i32⟩
  | 123 => ⟨S_, .i32⟩
  | 124 => ⟨S50176, .i32⟩
  | 125 => ⟨S50176, .i32⟩
  | 126 => ⟨S_, .i32⟩
  | 127 => ⟨S50176, .i32⟩
  | _ => ⟨S1x96x1x224x224, .f32⟩

abbrev hbmTy0_8 (i : Nat) : BufTy := match i % 128 with
  | 0 => ⟨S50176, .i32⟩
  | 1 => ⟨S50176, .i32⟩
  | 2 => ⟨S50176, .i32⟩
  | 3 => ⟨S50176, .i32⟩
  | 4 => ⟨S50176, .i32⟩
  | 5 => ⟨S50176, .i32⟩
  | 6 => ⟨S50176, .i32⟩
  | 7 => ⟨S_, .i32⟩
  | 8 => ⟨S50176, .i32⟩
  | 9 => ⟨S50176, .i32⟩
  | 10 => ⟨S50176, .i32⟩
  | 11 => ⟨S50176, .i32⟩
  | 12 => ⟨S50176, .i32⟩
  | 13 => ⟨S128, .i32⟩
  | 14 => ⟨S_, .i32⟩
  | 15 => ⟨S128, .i32⟩
  | 16 => ⟨S128, .i1⟩
  | 17 => ⟨S_, .i32⟩
  | 18 => ⟨S128, .i32⟩
  | 19 => ⟨S128, .i32⟩
  | 20 => ⟨S128, .i32⟩
  | 21 => ⟨S128x1, .i32⟩
  | 22 => ⟨S128x99, .f32⟩
  | 23 => ⟨S_, .i32⟩
  | 24 => ⟨S_, .i32⟩
  | 25 => ⟨S50176x99, .f32⟩
  | 26 => ⟨S_, .i32⟩
  | 27 => ⟨S_, .i32⟩
  | 28 => ⟨S128x99, .f32⟩
  | 29 => ⟨S_, .i32⟩
  | 30 => ⟨S_, .i1⟩
  | 31 => ⟨S_, .i32⟩
  | 32 => ⟨S_, .i32⟩
  | 33 => ⟨S50176x99, .f32⟩
  | 34 => ⟨S_, .f32⟩
  | 35 => ⟨S50176, .f32⟩
  | 36 => ⟨S50176x1, .f32⟩
  | 37 => ⟨S128x99, .f32⟩
  | 38 => ⟨S_, .f32⟩
  | 39 => ⟨S128, .f32⟩
  | 40 => ⟨S1x128, .f32⟩
  | 41 => ⟨S50176x128, .f32⟩
  | 42 => ⟨S50176x128, .f32⟩
  | 43 => ⟨S50176x128, .f32⟩
  | 44 => ⟨S99x128, .f32⟩
  | 45 => ⟨S50176x128, .f32⟩
  | 46 => ⟨S_, .f32⟩
  | 47 => ⟨S50176x128, .f32⟩
  | 48 => ⟨S50176x128, .f32⟩
  | 49 => ⟨S50176x128, .f32⟩
  | 50 => ⟨S_, .f32⟩
  | 51 => ⟨S50176x128, .f32⟩
  | 52 => ⟨S50176x128, .f32⟩
  | 53 => ⟨S50176x128, .f32⟩
  | 54 => ⟨S50176x128, .i32⟩
  | 55 => ⟨S_, .f32⟩
  | 56 => ⟨S_, .i32⟩
  | 57 => ⟨S50176, .f32⟩
  | 58 => ⟨S50176, .i32⟩
  | 59 => ⟨S50176x1, .i32⟩
  | 60 => ⟨S1x128, .i32⟩
  | 61 => ⟨S50176x128, .i32⟩
  | 62 => ⟨S50176x128, .i32⟩
  | 63 => ⟨S50176x128, .i1⟩
  | 64 => ⟨S50176x128, .f32⟩
  | 65 => ⟨S128x50176, .f32⟩
  | 66 => ⟨S128x99, .f32⟩
  | 67 => ⟨S_, .f32⟩
  | 68 => ⟨S128, .f32⟩
  | 69 => ⟨S128x1, .f32⟩
  | 70 => ⟨S_, .f32⟩
  | 71 => ⟨S_, .f32⟩
  | 72 => ⟨S128x1, .f32⟩
  | 73 => ⟨S128x1, .f32⟩
  | 74 => ⟨S128x99, .f32⟩
  | 75 => ⟨S128x99, .f32⟩
  | 76 => ⟨S_, .i32⟩
  | 77 => ⟨S_, .i32⟩
  | 78 => ⟨S99x128, .f32⟩
  | 79 => ⟨S128x128, .f32⟩
  | 80 => ⟨S1x128, .f32⟩
  | 81 => ⟨S128x128, .f32⟩
  | 82 => ⟨S128x128, .f32⟩
  | 83 => ⟨S128x3, .f32⟩
  | 84 => ⟨S128x3, .f32⟩
  | 85 => ⟨S_, .f32⟩
  | 86 => ⟨S128, .f32⟩
  | 87 => ⟨S128x1, .f32⟩
  | 88 => ⟨S128x3, .f32⟩
  | 89 => ⟨S_, .f32⟩
  | 90 => ⟨S128, .f32⟩
  | 91 => ⟨S1x128, .f32⟩
  | 92 => ⟨S128x128, .f32⟩
  | 93 => ⟨S128x128, .f32⟩
  | 94 => ⟨S128x128, .f32⟩
  | 95 => ⟨S3x128, .f32⟩
  | 96 => ⟨S128x128, .f32⟩
  | 97 => ⟨S_, .f32⟩
  | 98 => ⟨S128x128, .f32⟩
  | 99 => ⟨S128x128, .f32⟩
  | 100 => ⟨S128x128, .f32⟩
  | 101 => ⟨S_, .f32⟩
  | 102 => ⟨S128x128, .f32⟩
  | 103 => ⟨S128x128, .f32⟩
  | 104 => ⟨S128x128, .f32⟩
  | 105 => ⟨S128x128, .f32⟩
  | 106 => ⟨S128x8, .f32⟩
  | 107 => ⟨S128x8, .i32⟩
  | 108 => ⟨S_, .f32⟩
  | 109 => ⟨S128x128, .f32⟩
  | 110 => ⟨S128, .i32⟩
  | 111 => ⟨S128x1, .i32⟩
  | 112 => ⟨S_, .i32⟩
  | 113 => ⟨S128x1, .i32⟩
  | 114 => ⟨S128x1, .i1⟩
  | 115 => ⟨S_, .i32⟩
  | 116 => ⟨S128x1, .i32⟩
  | 117 => ⟨S128x1, .i32⟩
  | 118 => ⟨S128x1, .i32⟩
  | 119 => ⟨S_, .i32⟩
  | 120 => ⟨S128x8, .i32⟩
  | 121 => ⟨S128x8, .i1⟩
  | 122 => ⟨S_, .i32⟩
  | 123 => ⟨S128x8, .i32⟩
  | 124 => ⟨S128x8, .i32⟩
  | 125 => ⟨S128x8, .i32⟩
  | 126 => ⟨S128x8, .i32⟩
  | 127 => ⟨S128x8x1, .i32⟩
  | _ => ⟨S1x96x1x224x224, .f32⟩

abbrev hbmTy0_9 (i : Nat) : BufTy := match i % 128 with
  | 0 => ⟨S128x8x1, .i32⟩
  | 1 => ⟨S128x8x2, .i32⟩
  | 2 => ⟨S_, .f32⟩
  | 3 => ⟨S128x8, .f32⟩
  | 4 => ⟨S128x128, .f32⟩
  | 5 => ⟨S128x128, .f32⟩
  | 6 => ⟨S128x128, .f32⟩
  | 7 => ⟨S_, .f32⟩
  | 8 => ⟨S128x128, .f32⟩
  | 9 => ⟨S128x128, .i1⟩
  | 10 => ⟨S128x128, .f32⟩
  | 11 => ⟨S1x128x128, .f32⟩
  | 12 => ⟨S1x128x128, .f32⟩
  | _ => ⟨S1x96x1x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S1x96x1x224x224, .f32⟩

abbrev bufTy : (tb : Table) → Fin (tcTables nBuf tb) → BufTy
  | .hbm, ⟨i, _⟩ => hbmTy i
  | _, _ => ⟨S1x96x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v1 : Ref sig .tc := ⟨.hbm, 26, rfl⟩
abbrev main_cst_1 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_v15 : Ref sig .tc := ⟨.hbm, 47, rfl⟩
abbrev main_call1_v16 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_cst_3 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_4 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c : Ref sig .tc := ⟨.hbm, 66, rfl⟩
abbrev main_c_5 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_c_6 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_call2_call0_v0 : Ref sig .tc := ⟨.hbm, 77, rfl⟩
abbrev main_call2_call0_v1 : Ref sig .tc := ⟨.hbm, 78, rfl⟩
abbrev main_call2_call0_v2 : Ref sig .tc := ⟨.hbm, 79, rfl⟩
abbrev main_call2_call0_v3 : Ref sig .tc := ⟨.hbm, 80, rfl⟩
abbrev main_call2_call0_v4 : Ref sig .tc := ⟨.hbm, 81, rfl⟩
abbrev main_call2_call0_c : Ref sig .tc := ⟨.hbm, 82, rfl⟩
abbrev main_call2_call0_v5 : Ref sig .tc := ⟨.hbm, 83, rfl⟩
abbrev main_call2_call0_v6 : Ref sig .tc := ⟨.hbm, 84, rfl⟩
abbrev main_call2_call0_c_0 : Ref sig .tc := ⟨.hbm, 85, rfl⟩
abbrev main_call2_call0_v7 : Ref sig .tc := ⟨.hbm, 86, rfl⟩
abbrev main_call2_call0_v8 : Ref sig .tc := ⟨.hbm, 87, rfl⟩
abbrev main_call2_call0_v9 : Ref sig .tc := ⟨.hbm, 88, rfl⟩
abbrev main_call2_call0_v10 : Ref sig .tc := ⟨.hbm, 89, rfl⟩
abbrev main_call2_call0_call0_v0 : Ref sig .tc := ⟨.hbm, 90, rfl⟩
abbrev main_call2_call0_call0_c : Ref sig .tc := ⟨.hbm, 91, rfl⟩
abbrev main_call2_call0_call0_v1 : Ref sig .tc := ⟨.hbm, 92, rfl⟩
abbrev main_call2_call0_call0_v2 : Ref sig .tc := ⟨.hbm, 93, rfl⟩
abbrev main_call2_call0_call0_v3 : Ref sig .tc := ⟨.hbm, 94, rfl⟩
abbrev main_call2_call0_call0_v4 : Ref sig .tc := ⟨.hbm, 95, rfl⟩
abbrev main_call2_call0_call0_v5 : Ref sig .tc := ⟨.hbm, 96, rfl⟩
abbrev main_call2_call0_call0_v6 : Ref sig .tc := ⟨.hbm, 97, rfl⟩
abbrev main_call2_call0_call0_c_0 : Ref sig .tc := ⟨.hbm, 98, rfl⟩
abbrev main_call2_call0_call0_v7 : Ref sig .tc := ⟨.hbm, 99, rfl⟩
abbrev main_call2_call0_call0_v8 : Ref sig .tc := ⟨.hbm, 100, rfl⟩
abbrev main_call2_call0_call0_c_1 : Ref sig .tc := ⟨.hbm, 101, rfl⟩
abbrev main_call2_call0_call0_v9 : Ref sig .tc := ⟨.hbm, 102, rfl⟩
abbrev main_call2_call0_call0_v10 : Ref sig .tc := ⟨.hbm, 103, rfl⟩
abbrev main_call2_call0_call0_v11 : Ref sig .tc := ⟨.hbm, 104, rfl⟩
abbrev main_call2_call0_call0_v12 : Ref sig .tc := ⟨.hbm, 105, rfl⟩
abbrev main_call2_call0_call0_v13 : Ref sig .tc := ⟨.hbm, 106, rfl⟩
abbrev main_call2_call0_call0_c_2 : Ref sig .tc := ⟨.hbm, 107, rfl⟩
abbrev main_call2_call0_call0_v14 : Ref sig .tc := ⟨.hbm, 108, rfl⟩
abbrev main_call2_call0_call0_v15 : Ref sig .tc := ⟨.hbm, 109, rfl⟩
abbrev main_call2_call0_call0_c_3 : Ref sig .tc := ⟨.hbm, 110, rfl⟩
abbrev main_call2_call0_call0_v16 : Ref sig .tc := ⟨.hbm, 111, rfl⟩
abbrev main_call2_call0_call0_v17 : Ref sig .tc := ⟨.hbm, 112, rfl⟩
abbrev main_call2_call0_call0_v18 : Ref sig .tc := ⟨.hbm, 113, rfl⟩
abbrev main_call2_call0_call0_v19 : Ref sig .tc := ⟨.hbm, 114, rfl⟩
abbrev main_call2_call0_call0_v20 : Ref sig .tc := ⟨.hbm, 115, rfl⟩
abbrev main_call2_call0_call0_c_4 : Ref sig .tc := ⟨.hbm, 116, rfl⟩
abbrev main_call2_call0_call0_v21 : Ref sig .tc := ⟨.hbm, 117, rfl⟩
abbrev main_call2_call0_call0_v22 : Ref sig .tc := ⟨.hbm, 118, rfl⟩
abbrev main_call2_call0_call0_c_5 : Ref sig .tc := ⟨.hbm, 119, rfl⟩
abbrev main_call2_call0_call0_v23 : Ref sig .tc := ⟨.hbm, 120, rfl⟩
abbrev main_call2_call0_call0_v24 : Ref sig .tc := ⟨.hbm, 121, rfl⟩
abbrev main_call2_call0_call0_v25 : Ref sig .tc := ⟨.hbm, 122, rfl⟩
abbrev main_call2_call0_call0_v26 : Ref sig .tc := ⟨.hbm, 123, rfl⟩
abbrev main_call2_call0_call0_v27 : Ref sig .tc := ⟨.hbm, 124, rfl⟩
abbrev main_call2_call0_call0_c_6 : Ref sig .tc := ⟨.hbm, 125, rfl⟩
abbrev main_call2_call0_call0_v28 : Ref sig .tc := ⟨.hbm, 126, rfl⟩
abbrev main_call2_call0_call0_v29 : Ref sig .tc := ⟨.hbm, 127, rfl⟩
abbrev main_call2_call0_call0_c_7 : Ref sig .tc := ⟨.hbm, 128, rfl⟩
abbrev main_call2_call0_call0_v30 : Ref sig .tc := ⟨.hbm, 129, rfl⟩
abbrev main_call2_call0_call0_v31 : Ref sig .tc := ⟨.hbm, 130, rfl⟩
abbrev main_call2_call0_call0_v32 : Ref sig .tc := ⟨.hbm, 131, rfl⟩
abbrev main_call2_call0_call0_v33 : Ref sig .tc := ⟨.hbm, 132, rfl⟩
abbrev main_call2_call0_call0_v34 : Ref sig .tc := ⟨.hbm, 133, rfl⟩
abbrev main_call2_call0_call0_v35 : Ref sig .tc := ⟨.hbm, 134, rfl⟩
abbrev main_call2_call0_call0_v36 : Ref sig .tc := ⟨.hbm, 135, rfl⟩
abbrev main_call2_call0_call0_v37 : Ref sig .tc := ⟨.hbm, 136, rfl⟩
abbrev main_call2_call0_call0_c_8 : Ref sig .tc := ⟨.hbm, 137, rfl⟩
abbrev main_call2_call0_call0_v38 : Ref sig .tc := ⟨.hbm, 138, rfl⟩
abbrev main_call2_call0_call0_v39 : Ref sig .tc := ⟨.hbm, 139, rfl⟩
abbrev main_call2_call0_call0_v40 : Ref sig .tc := ⟨.hbm, 140, rfl⟩
abbrev main_call2_call0_call0_c_9 : Ref sig .tc := ⟨.hbm, 141, rfl⟩
abbrev main_call2_call0_call0_v41 : Ref sig .tc := ⟨.hbm, 142, rfl⟩
abbrev main_call2_call0_call0_v42 : Ref sig .tc := ⟨.hbm, 143, rfl⟩
abbrev main_call2_call0_call0_c_10 : Ref sig .tc := ⟨.hbm, 144, rfl⟩
abbrev main_call2_call0_call0_v43 : Ref sig .tc := ⟨.hbm, 145, rfl⟩
abbrev main_call2_call0_call0_v44 : Ref sig .tc := ⟨.hbm, 146, rfl⟩
abbrev main_call2_call0_call0_v45 : Ref sig .tc := ⟨.hbm, 147, rfl⟩
abbrev main_call2_call0_call0_v46 : Ref sig .tc := ⟨.hbm, 148, rfl⟩
abbrev main_call2_call0_call0_v47 : Ref sig .tc := ⟨.hbm, 149, rfl⟩
abbrev main_call2_call0_call0_c_11 : Ref sig .tc := ⟨.hbm, 150, rfl⟩
abbrev main_call2_call0_call0_v48 : Ref sig .tc := ⟨.hbm, 151, rfl⟩
abbrev main_call2_call0_call0_v49 : Ref sig .tc := ⟨.hbm, 152, rfl⟩
abbrev main_call2_call0_call0_c_12 : Ref sig .tc := ⟨.hbm, 153, rfl⟩
abbrev main_call2_call0_call0_v50 : Ref sig .tc := ⟨.hbm, 154, rfl⟩
abbrev main_call2_call0_call0_v51 : Ref sig .tc := ⟨.hbm, 155, rfl⟩
abbrev main_call2_call0_call0_v52 : Ref sig .tc := ⟨.hbm, 156, rfl⟩
abbrev main_call2_call0_call0_v53 : Ref sig .tc := ⟨.hbm, 157, rfl⟩
abbrev main_call2_call0_call0_v54 : Ref sig .tc := ⟨.hbm, 158, rfl⟩
abbrev main_call2_call0_call0_c_13 : Ref sig .tc := ⟨.hbm, 159, rfl⟩
abbrev main_call2_call0_call0_v55 : Ref sig .tc := ⟨.hbm, 160, rfl⟩
abbrev main_call2_call0_call0_v56 : Ref sig .tc := ⟨.hbm, 161, rfl⟩
abbrev main_call2_call0_call0_c_14 : Ref sig .tc := ⟨.hbm, 162, rfl⟩
abbrev main_call2_call0_call0_v57 : Ref sig .tc := ⟨.hbm, 163, rfl⟩
abbrev main_call2_call0_call0_v58 : Ref sig .tc := ⟨.hbm, 164, rfl⟩
abbrev main_call2_call0_call0_v59 : Ref sig .tc := ⟨.hbm, 165, rfl⟩
abbrev main_call2_call0_call0_v60 : Ref sig .tc := ⟨.hbm, 166, rfl⟩
abbrev main_call2_call0_call0_v61 : Ref sig .tc := ⟨.hbm, 167, rfl⟩
abbrev main_call2_call0_call0_c_15 : Ref sig .tc := ⟨.hbm, 168, rfl⟩
abbrev main_call2_call0_call0_v62 : Ref sig .tc := ⟨.hbm, 169, rfl⟩
abbrev main_call2_call0_call0_v63 : Ref sig .tc := ⟨.hbm, 170, rfl⟩
abbrev main_call2_call0_call0_c_16 : Ref sig .tc := ⟨.hbm, 171, rfl⟩
abbrev main_call2_call0_call0_v64 : Ref sig .tc := ⟨.hbm, 172, rfl⟩
abbrev main_call2_call0_call0_v65 : Ref sig .tc := ⟨.hbm, 173, rfl⟩
abbrev main_call2_call0_call0_v66 : Ref sig .tc := ⟨.hbm, 174, rfl⟩
abbrev main_call2_call0_call0_v67 : Ref sig .tc := ⟨.hbm, 175, rfl⟩
abbrev main_call2_call0_call0_v68 : Ref sig .tc := ⟨.hbm, 176, rfl⟩
abbrev main_call2_call0_call0_v69 : Ref sig .tc := ⟨.hbm, 177, rfl⟩
abbrev main_call2_call0_call0_v70 : Ref sig .tc := ⟨.hbm, 178, rfl⟩
abbrev main_call2_call0_call0_v71 : Ref sig .tc := ⟨.hbm, 179, rfl⟩
abbrev main_call2_call0_call0_c_17 : Ref sig .tc := ⟨.hbm, 180, rfl⟩
abbrev main_call2_call0_call0_v72 : Ref sig .tc := ⟨.hbm, 181, rfl⟩
abbrev main_call2_call0_call0_v73 : Ref sig .tc := ⟨.hbm, 182, rfl⟩
abbrev main_call2_call0_call0_v74 : Ref sig .tc := ⟨.hbm, 183, rfl⟩
abbrev main_call2_call0_call0_c_18 : Ref sig .tc := ⟨.hbm, 184, rfl⟩
abbrev main_call2_call0_call0_v75 : Ref sig .tc := ⟨.hbm, 185, rfl⟩
abbrev main_call2_call0_call0_v76 : Ref sig .tc := ⟨.hbm, 186, rfl⟩
abbrev main_call2_call0_call0_c_19 : Ref sig .tc := ⟨.hbm, 187, rfl⟩
abbrev main_call2_call0_call0_v77 : Ref sig .tc := ⟨.hbm, 188, rfl⟩
abbrev main_call2_call0_call0_v78 : Ref sig .tc := ⟨.hbm, 189, rfl⟩
abbrev main_call2_call0_call0_v79 : Ref sig .tc := ⟨.hbm, 190, rfl⟩
abbrev main_call2_call0_call0_v80 : Ref sig .tc := ⟨.hbm, 191, rfl⟩
abbrev main_call2_call0_call0_v81 : Ref sig .tc := ⟨.hbm, 192, rfl⟩
abbrev main_call2_call0_call0_c_20 : Ref sig .tc := ⟨.hbm, 193, rfl⟩
abbrev main_call2_call0_call0_v82 : Ref sig .tc := ⟨.hbm, 194, rfl⟩
abbrev main_call2_call0_call0_v83 : Ref sig .tc := ⟨.hbm, 195, rfl⟩
abbrev main_call2_call0_call0_c_21 : Ref sig .tc := ⟨.hbm, 196, rfl⟩
abbrev main_call2_call0_call0_v84 : Ref sig .tc := ⟨.hbm, 197, rfl⟩
abbrev main_call2_call0_call0_v85 : Ref sig .tc := ⟨.hbm, 198, rfl⟩
abbrev main_call2_call0_call0_v86 : Ref sig .tc := ⟨.hbm, 199, rfl⟩
abbrev main_call2_call0_call0_v87 : Ref sig .tc := ⟨.hbm, 200, rfl⟩
abbrev main_call2_call0_call0_v88 : Ref sig .tc := ⟨.hbm, 201, rfl⟩
abbrev main_call2_call0_call0_c_22 : Ref sig .tc := ⟨.hbm, 202, rfl⟩
abbrev main_call2_call0_call0_v89 : Ref sig .tc := ⟨.hbm, 203, rfl⟩
abbrev main_call2_call0_call0_v90 : Ref sig .tc := ⟨.hbm, 204, rfl⟩
abbrev main_call2_call0_call0_c_23 : Ref sig .tc := ⟨.hbm, 205, rfl⟩
abbrev main_call2_call0_call0_v91 : Ref sig .tc := ⟨.hbm, 206, rfl⟩
abbrev main_call2_call0_call0_v92 : Ref sig .tc := ⟨.hbm, 207, rfl⟩
abbrev main_call2_call0_call0_v93 : Ref sig .tc := ⟨.hbm, 208, rfl⟩
abbrev main_call2_call0_call0_v94 : Ref sig .tc := ⟨.hbm, 209, rfl⟩
abbrev main_call2_call0_call0_v95 : Ref sig .tc := ⟨.hbm, 210, rfl⟩
abbrev main_call2_call0_call0_c_24 : Ref sig .tc := ⟨.hbm, 211, rfl⟩
abbrev main_call2_call0_call0_v96 : Ref sig .tc := ⟨.hbm, 212, rfl⟩
abbrev main_call2_call0_call0_v97 : Ref sig .tc := ⟨.hbm, 213, rfl⟩
abbrev main_call2_call0_call0_c_25 : Ref sig .tc := ⟨.hbm, 214, rfl⟩
abbrev main_call2_call0_call0_v98 : Ref sig .tc := ⟨.hbm, 215, rfl⟩
abbrev main_call2_call0_call0_v99 : Ref sig .tc := ⟨.hbm, 216, rfl⟩
abbrev main_call2_call0_call0_v100 : Ref sig .tc := ⟨.hbm, 217, rfl⟩
abbrev main_call2_call0_call0_v101 : Ref sig .tc := ⟨.hbm, 218, rfl⟩
abbrev main_call2_call0_call0_v102 : Ref sig .tc := ⟨.hbm, 219, rfl⟩
abbrev main_call2_call0_call0_v103 : Ref sig .tc := ⟨.hbm, 220, rfl⟩
abbrev main_call2_call0_call0_v104 : Ref sig .tc := ⟨.hbm, 221, rfl⟩
abbrev main_call2_call0_call0_v105 : Ref sig .tc := ⟨.hbm, 222, rfl⟩
abbrev main_call2_call0_call0_c_26 : Ref sig .tc := ⟨.hbm, 223, rfl⟩
abbrev main_call2_call0_call0_v106 : Ref sig .tc := ⟨.hbm, 224, rfl⟩
abbrev main_call2_call0_call0_v107 : Ref sig .tc := ⟨.hbm, 225, rfl⟩
abbrev main_call2_call0_call0_v108 : Ref sig .tc := ⟨.hbm, 226, rfl⟩
abbrev main_call2_call0_call0_c_27 : Ref sig .tc := ⟨.hbm, 227, rfl⟩
abbrev main_call2_call0_call0_v109 : Ref sig .tc := ⟨.hbm, 228, rfl⟩
abbrev main_call2_call0_call0_v110 : Ref sig .tc := ⟨.hbm, 229, rfl⟩
abbrev main_call2_call0_call0_c_28 : Ref sig .tc := ⟨.hbm, 230, rfl⟩
abbrev main_call2_call0_call0_v111 : Ref sig .tc := ⟨.hbm, 231, rfl⟩
abbrev main_call2_call0_call0_v112 : Ref sig .tc := ⟨.hbm, 232, rfl⟩
abbrev main_call2_call0_call0_v113 : Ref sig .tc := ⟨.hbm, 233, rfl⟩
abbrev main_call2_call0_call0_v114 : Ref sig .tc := ⟨.hbm, 234, rfl⟩
abbrev main_call2_call0_call0_v115 : Ref sig .tc := ⟨.hbm, 235, rfl⟩
abbrev main_call2_call0_call0_c_29 : Ref sig .tc := ⟨.hbm, 236, rfl⟩
abbrev main_call2_call0_call0_v116 : Ref sig .tc := ⟨.hbm, 237, rfl⟩
abbrev main_call2_call0_call0_v117 : Ref sig .tc := ⟨.hbm, 238, rfl⟩
abbrev main_call2_call0_call0_c_30 : Ref sig .tc := ⟨.hbm, 239, rfl⟩
abbrev main_call2_call0_call0_v118 : Ref sig .tc := ⟨.hbm, 240, rfl⟩
abbrev main_call2_call0_call0_v119 : Ref sig .tc := ⟨.hbm, 241, rfl⟩
abbrev main_call2_call0_call0_v120 : Ref sig .tc := ⟨.hbm, 242, rfl⟩
abbrev main_call2_call0_call0_v121 : Ref sig .tc := ⟨.hbm, 243, rfl⟩
abbrev main_call2_call0_call0_v122 : Ref sig .tc := ⟨.hbm, 244, rfl⟩
abbrev main_call2_call0_call0_c_31 : Ref sig .tc := ⟨.hbm, 245, rfl⟩
abbrev main_call2_call0_call0_v123 : Ref sig .tc := ⟨.hbm, 246, rfl⟩
abbrev main_call2_call0_call0_v124 : Ref sig .tc := ⟨.hbm, 247, rfl⟩
abbrev main_call2_call0_call0_c_32 : Ref sig .tc := ⟨.hbm, 248, rfl⟩
abbrev main_call2_call0_call0_v125 : Ref sig .tc := ⟨.hbm, 249, rfl⟩
abbrev main_call2_call0_call0_v126 : Ref sig .tc := ⟨.hbm, 250, rfl⟩
abbrev main_call2_call0_call0_v127 : Ref sig .tc := ⟨.hbm, 251, rfl⟩
abbrev main_call2_call0_call0_v128 : Ref sig .tc := ⟨.hbm, 252, rfl⟩
abbrev main_call2_call0_call0_v129 : Ref sig .tc := ⟨.hbm, 253, rfl⟩
abbrev main_call2_call0_call0_c_33 : Ref sig .tc := ⟨.hbm, 254, rfl⟩
abbrev main_call2_call0_call0_v130 : Ref sig .tc := ⟨.hbm, 255, rfl⟩
abbrev main_call2_call0_call0_v131 : Ref sig .tc := ⟨.hbm, 256, rfl⟩
abbrev main_call2_call0_call0_c_34 : Ref sig .tc := ⟨.hbm, 257, rfl⟩
abbrev main_call2_call0_call0_v132 : Ref sig .tc := ⟨.hbm, 258, rfl⟩
abbrev main_call2_call0_call0_v133 : Ref sig .tc := ⟨.hbm, 259, rfl⟩
abbrev main_call2_call0_call0_v134 : Ref sig .tc := ⟨.hbm, 260, rfl⟩
abbrev main_call2_call0_call0_v135 : Ref sig .tc := ⟨.hbm, 261, rfl⟩
abbrev main_call2_call0_call0_v136 : Ref sig .tc := ⟨.hbm, 262, rfl⟩
abbrev main_call2_call0_call0_v137 : Ref sig .tc := ⟨.hbm, 263, rfl⟩
abbrev main_call2_call0_call0_v138 : Ref sig .tc := ⟨.hbm, 264, rfl⟩
abbrev main_call2_call0_call0_v139 : Ref sig .tc := ⟨.hbm, 265, rfl⟩
abbrev main_call2_call0_call0_c_35 : Ref sig .tc := ⟨.hbm, 266, rfl⟩
abbrev main_call2_call0_call0_v140 : Ref sig .tc := ⟨.hbm, 267, rfl⟩
abbrev main_call2_call0_call0_v141 : Ref sig .tc := ⟨.hbm, 268, rfl⟩
abbrev main_call2_call0_call0_v142 : Ref sig .tc := ⟨.hbm, 269, rfl⟩
abbrev main_call2_call0_call0_c_36 : Ref sig .tc := ⟨.hbm, 270, rfl⟩
abbrev main_call2_call0_call0_v143 : Ref sig .tc := ⟨.hbm, 271, rfl⟩
abbrev main_call2_call0_call0_v144 : Ref sig .tc := ⟨.hbm, 272, rfl⟩
abbrev main_call2_call0_call0_c_37 : Ref sig .tc := ⟨.hbm, 273, rfl⟩
abbrev main_call2_call0_call0_v145 : Ref sig .tc := ⟨.hbm, 274, rfl⟩
abbrev main_call2_call0_call0_v146 : Ref sig .tc := ⟨.hbm, 275, rfl⟩
abbrev main_call2_call0_call0_v147 : Ref sig .tc := ⟨.hbm, 276, rfl⟩
abbrev main_call2_call0_call0_v148 : Ref sig .tc := ⟨.hbm, 277, rfl⟩
abbrev main_call2_call0_call0_v149 : Ref sig .tc := ⟨.hbm, 278, rfl⟩
abbrev main_call2_call0_call0_c_38 : Ref sig .tc := ⟨.hbm, 279, rfl⟩
abbrev main_call2_call0_call0_v150 : Ref sig .tc := ⟨.hbm, 280, rfl⟩
abbrev main_call2_call0_call0_v151 : Ref sig .tc := ⟨.hbm, 281, rfl⟩
abbrev main_call2_call0_call0_c_39 : Ref sig .tc := ⟨.hbm, 282, rfl⟩
abbrev main_call2_call0_call0_v152 : Ref sig .tc := ⟨.hbm, 283, rfl⟩
abbrev main_call2_call0_call0_v153 : Ref sig .tc := ⟨.hbm, 284, rfl⟩
abbrev main_call2_call0_call0_v154 : Ref sig .tc := ⟨.hbm, 285, rfl⟩
abbrev main_call2_call0_call0_v155 : Ref sig .tc := ⟨.hbm, 286, rfl⟩
abbrev main_call2_call0_call0_v156 : Ref sig .tc := ⟨.hbm, 287, rfl⟩
abbrev main_call2_call0_call0_c_40 : Ref sig .tc := ⟨.hbm, 288, rfl⟩
abbrev main_call2_call0_call0_v157 : Ref sig .tc := ⟨.hbm, 289, rfl⟩
abbrev main_call2_call0_call0_v158 : Ref sig .tc := ⟨.hbm, 290, rfl⟩
abbrev main_call2_call0_call0_c_41 : Ref sig .tc := ⟨.hbm, 291, rfl⟩
abbrev main_call2_call0_call0_v159 : Ref sig .tc := ⟨.hbm, 292, rfl⟩
abbrev main_call2_call0_call0_v160 : Ref sig .tc := ⟨.hbm, 293, rfl⟩
abbrev main_call2_call0_call0_v161 : Ref sig .tc := ⟨.hbm, 294, rfl⟩
abbrev main_call2_call0_call0_v162 : Ref sig .tc := ⟨.hbm, 295, rfl⟩
abbrev main_call2_call0_call0_v163 : Ref sig .tc := ⟨.hbm, 296, rfl⟩
abbrev main_call2_call0_call0_c_42 : Ref sig .tc := ⟨.hbm, 297, rfl⟩
abbrev main_call2_call0_call0_v164 : Ref sig .tc := ⟨.hbm, 298, rfl⟩
abbrev main_call2_call0_call0_v165 : Ref sig .tc := ⟨.hbm, 299, rfl⟩
abbrev main_call2_call0_call0_c_43 : Ref sig .tc := ⟨.hbm, 300, rfl⟩
abbrev main_call2_call0_call0_v166 : Ref sig .tc := ⟨.hbm, 301, rfl⟩
abbrev main_call2_call0_call0_v167 : Ref sig .tc := ⟨.hbm, 302, rfl⟩
abbrev main_call2_call0_call0_v168 : Ref sig .tc := ⟨.hbm, 303, rfl⟩
abbrev main_call2_call0_call0_v169 : Ref sig .tc := ⟨.hbm, 304, rfl⟩
abbrev main_call2_call0_call0_v170 : Ref sig .tc := ⟨.hbm, 305, rfl⟩
abbrev main_call2_call0_v11_0 : Ref sig .tc := ⟨.hbm, 306, rfl⟩
abbrev main_call2_call0_call0_v172 : Ref sig .tc := ⟨.hbm, 307, rfl⟩
abbrev main_call2_call0_call0_v173 : Ref sig .tc := ⟨.hbm, 308, rfl⟩
abbrev main_call2_call0_call0_c_44 : Ref sig .tc := ⟨.hbm, 309, rfl⟩
abbrev main_call2_call0_call0_v174 : Ref sig .tc := ⟨.hbm, 310, rfl⟩
abbrev main_call2_call0_v11_1 : Ref sig .tc := ⟨.hbm, 311, rfl⟩
abbrev main_call2_call0_v12 : Ref sig .tc := ⟨.hbm, 312, rfl⟩
abbrev main_call2_call0_v13 : Ref sig .tc := ⟨.hbm, 313, rfl⟩
abbrev main_call2_v0 : Ref sig .tc := ⟨.hbm, 314, rfl⟩
abbrev main_call2_v1 : Ref sig .tc := ⟨.hbm, 315, rfl⟩
abbrev main_call2_v2 : Ref sig .tc := ⟨.hbm, 316, rfl⟩
abbrev main_call2_v3 : Ref sig .tc := ⟨.hbm, 317, rfl⟩
abbrev main_call2_v4 : Ref sig .tc := ⟨.hbm, 318, rfl⟩
abbrev main_call2_v5 : Ref sig .tc := ⟨.hbm, 319, rfl⟩
abbrev main_call2_v6 : Ref sig .tc := ⟨.hbm, 320, rfl⟩
abbrev main_call2_v7 : Ref sig .tc := ⟨.hbm, 321, rfl⟩
abbrev main_call2_v8 : Ref sig .tc := ⟨.hbm, 322, rfl⟩
abbrev main_call2_v9 : Ref sig .tc := ⟨.hbm, 323, rfl⟩
abbrev main_call2_c : Ref sig .tc := ⟨.hbm, 324, rfl⟩
abbrev main_call2_v10 : Ref sig .tc := ⟨.hbm, 325, rfl⟩
abbrev main_call2_v11 : Ref sig .tc := ⟨.hbm, 326, rfl⟩
abbrev main_call2_c_0 : Ref sig .tc := ⟨.hbm, 327, rfl⟩
abbrev main_call2_v12 : Ref sig .tc := ⟨.hbm, 328, rfl⟩
abbrev main_call2_v13 : Ref sig .tc := ⟨.hbm, 329, rfl⟩
abbrev main_call2_v14 : Ref sig .tc := ⟨.hbm, 330, rfl⟩
abbrev main_call2_v15 : Ref sig .tc := ⟨.hbm, 331, rfl⟩
abbrev main_call2_call1_v0 : Ref sig .tc := ⟨.hbm, 332, rfl⟩
abbrev main_call2_call1_c : Ref sig .tc := ⟨.hbm, 333, rfl⟩
abbrev main_call2_call1_v1 : Ref sig .tc := ⟨.hbm, 334, rfl⟩
abbrev main_call2_call1_v2 : Ref sig .tc := ⟨.hbm, 335, rfl⟩
abbrev main_call2_call1_v3 : Ref sig .tc := ⟨.hbm, 336, rfl⟩
abbrev main_call2_call1_v4 : Ref sig .tc := ⟨.hbm, 337, rfl⟩
abbrev main_call2_call1_v5 : Ref sig .tc := ⟨.hbm, 338, rfl⟩
abbrev main_call2_call1_v6 : Ref sig .tc := ⟨.hbm, 339, rfl⟩
abbrev main_call2_call1_c_0 : Ref sig .tc := ⟨.hbm, 340, rfl⟩
abbrev main_call2_call1_v7 : Ref sig .tc := ⟨.hbm, 341, rfl⟩
abbrev main_call2_call1_v8 : Ref sig .tc := ⟨.hbm, 342, rfl⟩
abbrev main_call2_call1_c_1 : Ref sig .tc := ⟨.hbm, 343, rfl⟩
abbrev main_call2_call1_v9 : Ref sig .tc := ⟨.hbm, 344, rfl⟩
abbrev main_call2_call1_v10 : Ref sig .tc := ⟨.hbm, 345, rfl⟩
abbrev main_call2_call1_v11 : Ref sig .tc := ⟨.hbm, 346, rfl⟩
abbrev main_call2_call1_v12 : Ref sig .tc := ⟨.hbm, 347, rfl⟩
abbrev main_call2_call1_v13 : Ref sig .tc := ⟨.hbm, 348, rfl⟩
abbrev main_call2_call1_c_2 : Ref sig .tc := ⟨.hbm, 349, rfl⟩
abbrev main_call2_call1_v14 : Ref sig .tc := ⟨.hbm, 350, rfl⟩
abbrev main_call2_call1_v15 : Ref sig .tc := ⟨.hbm, 351, rfl⟩
abbrev main_call2_call1_c_3 : Ref sig .tc := ⟨.hbm, 352, rfl⟩
abbrev main_call2_call1_v16 : Ref sig .tc := ⟨.hbm, 353, rfl⟩
abbrev main_call2_call1_v17 : Ref sig .tc := ⟨.hbm, 354, rfl⟩
abbrev main_call2_call1_v18 : Ref sig .tc := ⟨.hbm, 355, rfl⟩
abbrev main_call2_call1_v19 : Ref sig .tc := ⟨.hbm, 356, rfl⟩
abbrev main_call2_call1_v20 : Ref sig .tc := ⟨.hbm, 357, rfl⟩
abbrev main_call2_call1_c_4 : Ref sig .tc := ⟨.hbm, 358, rfl⟩
abbrev main_call2_call1_v21 : Ref sig .tc := ⟨.hbm, 359, rfl⟩
abbrev main_call2_call1_v22 : Ref sig .tc := ⟨.hbm, 360, rfl⟩
abbrev main_call2_call1_c_5 : Ref sig .tc := ⟨.hbm, 361, rfl⟩
abbrev main_call2_call1_v23 : Ref sig .tc := ⟨.hbm, 362, rfl⟩
abbrev main_call2_call1_v24 : Ref sig .tc := ⟨.hbm, 363, rfl⟩
abbrev main_call2_call1_v25 : Ref sig .tc := ⟨.hbm, 364, rfl⟩
abbrev main_call2_call1_v26 : Ref sig .tc := ⟨.hbm, 365, rfl⟩
abbrev main_call2_call1_v27 : Ref sig .tc := ⟨.hbm, 366, rfl⟩
abbrev main_call2_call1_c_6 : Ref sig .tc := ⟨.hbm, 367, rfl⟩
abbrev main_call2_call1_v28 : Ref sig .tc := ⟨.hbm, 368, rfl⟩
abbrev main_call2_call1_v29 : Ref sig .tc := ⟨.hbm, 369, rfl⟩
abbrev main_call2_call1_c_7 : Ref sig .tc := ⟨.hbm, 370, rfl⟩
abbrev main_call2_call1_v30 : Ref sig .tc := ⟨.hbm, 371, rfl⟩
abbrev main_call2_call1_v31 : Ref sig .tc := ⟨.hbm, 372, rfl⟩
abbrev main_call2_call1_v32 : Ref sig .tc := ⟨.hbm, 373, rfl⟩
abbrev main_call2_call1_v33 : Ref sig .tc := ⟨.hbm, 374, rfl⟩
abbrev main_call2_call1_v34 : Ref sig .tc := ⟨.hbm, 375, rfl⟩
abbrev main_call2_call1_v35 : Ref sig .tc := ⟨.hbm, 376, rfl⟩
abbrev main_call2_call1_v36 : Ref sig .tc := ⟨.hbm, 377, rfl⟩
abbrev main_call2_call1_v37 : Ref sig .tc := ⟨.hbm, 378, rfl⟩
abbrev main_call2_call1_c_8 : Ref sig .tc := ⟨.hbm, 379, rfl⟩
abbrev main_call2_call1_v38 : Ref sig .tc := ⟨.hbm, 380, rfl⟩
abbrev main_call2_call1_v39 : Ref sig .tc := ⟨.hbm, 381, rfl⟩
abbrev main_call2_call1_v40 : Ref sig .tc := ⟨.hbm, 382, rfl⟩
abbrev main_call2_call1_c_9 : Ref sig .tc := ⟨.hbm, 383, rfl⟩
abbrev main_call2_call1_v41 : Ref sig .tc := ⟨.hbm, 384, rfl⟩
abbrev main_call2_call1_v42 : Ref sig .tc := ⟨.hbm, 385, rfl⟩
abbrev main_call2_call1_c_10 : Ref sig .tc := ⟨.hbm, 386, rfl⟩
abbrev main_call2_call1_v43 : Ref sig .tc := ⟨.hbm, 387, rfl⟩
abbrev main_call2_call1_v44 : Ref sig .tc := ⟨.hbm, 388, rfl⟩
abbrev main_call2_call1_v45 : Ref sig .tc := ⟨.hbm, 389, rfl⟩
abbrev main_call2_call1_v46 : Ref sig .tc := ⟨.hbm, 390, rfl⟩
abbrev main_call2_call1_v47 : Ref sig .tc := ⟨.hbm, 391, rfl⟩
abbrev main_call2_call1_c_11 : Ref sig .tc := ⟨.hbm, 392, rfl⟩
abbrev main_call2_call1_v48 : Ref sig .tc := ⟨.hbm, 393, rfl⟩
abbrev main_call2_call1_v49 : Ref sig .tc := ⟨.hbm, 394, rfl⟩
abbrev main_call2_call1_c_12 : Ref sig .tc := ⟨.hbm, 395, rfl⟩
abbrev main_call2_call1_v50 : Ref sig .tc := ⟨.hbm, 396, rfl⟩
abbrev main_call2_call1_v51 : Ref sig .tc := ⟨.hbm, 397, rfl⟩
abbrev main_call2_call1_v52 : Ref sig .tc := ⟨.hbm, 398, rfl⟩
abbrev main_call2_call1_v53 : Ref sig .tc := ⟨.hbm, 399, rfl⟩
abbrev main_call2_call1_v54 : Ref sig .tc := ⟨.hbm, 400, rfl⟩
abbrev main_call2_call1_c_13 : Ref sig .tc := ⟨.hbm, 401, rfl⟩
abbrev main_call2_call1_v55 : Ref sig .tc := ⟨.hbm, 402, rfl⟩
abbrev main_call2_call1_v56 : Ref sig .tc := ⟨.hbm, 403, rfl⟩
abbrev main_call2_call1_c_14 : Ref sig .tc := ⟨.hbm, 404, rfl⟩
abbrev main_call2_call1_v57 : Ref sig .tc := ⟨.hbm, 405, rfl⟩
abbrev main_call2_call1_v58 : Ref sig .tc := ⟨.hbm, 406, rfl⟩
abbrev main_call2_call1_v59 : Ref sig .tc := ⟨.hbm, 407, rfl⟩
abbrev main_call2_call1_v60 : Ref sig .tc := ⟨.hbm, 408, rfl⟩
abbrev main_call2_call1_v61 : Ref sig .tc := ⟨.hbm, 409, rfl⟩
abbrev main_call2_call1_c_15 : Ref sig .tc := ⟨.hbm, 410, rfl⟩
abbrev main_call2_call1_v62 : Ref sig .tc := ⟨.hbm, 411, rfl⟩
abbrev main_call2_call1_v63 : Ref sig .tc := ⟨.hbm, 412, rfl⟩
abbrev main_call2_call1_c_16 : Ref sig .tc := ⟨.hbm, 413, rfl⟩
abbrev main_call2_call1_v64 : Ref sig .tc := ⟨.hbm, 414, rfl⟩
abbrev main_call2_call1_v65 : Ref sig .tc := ⟨.hbm, 415, rfl⟩
abbrev main_call2_call1_v66 : Ref sig .tc := ⟨.hbm, 416, rfl⟩
abbrev main_call2_call1_v67 : Ref sig .tc := ⟨.hbm, 417, rfl⟩
abbrev main_call2_call1_v68 : Ref sig .tc := ⟨.hbm, 418, rfl⟩
abbrev main_call2_call1_v69 : Ref sig .tc := ⟨.hbm, 419, rfl⟩
abbrev main_call2_call1_v70 : Ref sig .tc := ⟨.hbm, 420, rfl⟩
abbrev main_call2_call1_v71 : Ref sig .tc := ⟨.hbm, 421, rfl⟩
abbrev main_call2_call1_c_17 : Ref sig .tc := ⟨.hbm, 422, rfl⟩
abbrev main_call2_call1_v72 : Ref sig .tc := ⟨.hbm, 423, rfl⟩
abbrev main_call2_call1_v73 : Ref sig .tc := ⟨.hbm, 424, rfl⟩
abbrev main_call2_call1_v74 : Ref sig .tc := ⟨.hbm, 425, rfl⟩
abbrev main_call2_call1_c_18 : Ref sig .tc := ⟨.hbm, 426, rfl⟩
abbrev main_call2_call1_v75 : Ref sig .tc := ⟨.hbm, 427, rfl⟩
abbrev main_call2_call1_v76 : Ref sig .tc := ⟨.hbm, 428, rfl⟩
abbrev main_call2_call1_c_19 : Ref sig .tc := ⟨.hbm, 429, rfl⟩
abbrev main_call2_call1_v77 : Ref sig .tc := ⟨.hbm, 430, rfl⟩
abbrev main_call2_call1_v78 : Ref sig .tc := ⟨.hbm, 431, rfl⟩
abbrev main_call2_call1_v79 : Ref sig .tc := ⟨.hbm, 432, rfl⟩
abbrev main_call2_call1_v80 : Ref sig .tc := ⟨.hbm, 433, rfl⟩
abbrev main_call2_call1_v81 : Ref sig .tc := ⟨.hbm, 434, rfl⟩
abbrev main_call2_call1_c_20 : Ref sig .tc := ⟨.hbm, 435, rfl⟩
abbrev main_call2_call1_v82 : Ref sig .tc := ⟨.hbm, 436, rfl⟩
abbrev main_call2_call1_v83 : Ref sig .tc := ⟨.hbm, 437, rfl⟩
abbrev main_call2_call1_c_21 : Ref sig .tc := ⟨.hbm, 438, rfl⟩
abbrev main_call2_call1_v84 : Ref sig .tc := ⟨.hbm, 439, rfl⟩
abbrev main_call2_call1_v85 : Ref sig .tc := ⟨.hbm, 440, rfl⟩
abbrev main_call2_call1_v86 : Ref sig .tc := ⟨.hbm, 441, rfl⟩
abbrev main_call2_call1_v87 : Ref sig .tc := ⟨.hbm, 442, rfl⟩
abbrev main_call2_call1_v88 : Ref sig .tc := ⟨.hbm, 443, rfl⟩
abbrev main_call2_call1_c_22 : Ref sig .tc := ⟨.hbm, 444, rfl⟩
abbrev main_call2_call1_v89 : Ref sig .tc := ⟨.hbm, 445, rfl⟩
abbrev main_call2_call1_v90 : Ref sig .tc := ⟨.hbm, 446, rfl⟩
abbrev main_call2_call1_c_23 : Ref sig .tc := ⟨.hbm, 447, rfl⟩
abbrev main_call2_call1_v91 : Ref sig .tc := ⟨.hbm, 448, rfl⟩
abbrev main_call2_call1_v92 : Ref sig .tc := ⟨.hbm, 449, rfl⟩
abbrev main_call2_call1_v93 : Ref sig .tc := ⟨.hbm, 450, rfl⟩
abbrev main_call2_call1_v94 : Ref sig .tc := ⟨.hbm, 451, rfl⟩
abbrev main_call2_call1_v95 : Ref sig .tc := ⟨.hbm, 452, rfl⟩
abbrev main_call2_call1_c_24 : Ref sig .tc := ⟨.hbm, 453, rfl⟩
abbrev main_call2_call1_v96 : Ref sig .tc := ⟨.hbm, 454, rfl⟩
abbrev main_call2_call1_v97 : Ref sig .tc := ⟨.hbm, 455, rfl⟩
abbrev main_call2_call1_c_25 : Ref sig .tc := ⟨.hbm, 456, rfl⟩
abbrev main_call2_call1_v98 : Ref sig .tc := ⟨.hbm, 457, rfl⟩
abbrev main_call2_call1_v99 : Ref sig .tc := ⟨.hbm, 458, rfl⟩
abbrev main_call2_call1_v100 : Ref sig .tc := ⟨.hbm, 459, rfl⟩
abbrev main_call2_call1_v101 : Ref sig .tc := ⟨.hbm, 460, rfl⟩
abbrev main_call2_call1_v102 : Ref sig .tc := ⟨.hbm, 461, rfl⟩
abbrev main_call2_call1_v103 : Ref sig .tc := ⟨.hbm, 462, rfl⟩
abbrev main_call2_call1_v104 : Ref sig .tc := ⟨.hbm, 463, rfl⟩
abbrev main_call2_call1_v105 : Ref sig .tc := ⟨.hbm, 464, rfl⟩
abbrev main_call2_call1_c_26 : Ref sig .tc := ⟨.hbm, 465, rfl⟩
abbrev main_call2_call1_v106 : Ref sig .tc := ⟨.hbm, 466, rfl⟩
abbrev main_call2_call1_v107 : Ref sig .tc := ⟨.hbm, 467, rfl⟩
abbrev main_call2_call1_v108 : Ref sig .tc := ⟨.hbm, 468, rfl⟩
abbrev main_call2_call1_c_27 : Ref sig .tc := ⟨.hbm, 469, rfl⟩
abbrev main_call2_call1_v109 : Ref sig .tc := ⟨.hbm, 470, rfl⟩
abbrev main_call2_call1_v110 : Ref sig .tc := ⟨.hbm, 471, rfl⟩
abbrev main_call2_call1_c_28 : Ref sig .tc := ⟨.hbm, 472, rfl⟩
abbrev main_call2_call1_v111 : Ref sig .tc := ⟨.hbm, 473, rfl⟩
abbrev main_call2_call1_v112 : Ref sig .tc := ⟨.hbm, 474, rfl⟩
abbrev main_call2_call1_v113 : Ref sig .tc := ⟨.hbm, 475, rfl⟩
abbrev main_call2_call1_v114 : Ref sig .tc := ⟨.hbm, 476, rfl⟩
abbrev main_call2_call1_v115 : Ref sig .tc := ⟨.hbm, 477, rfl⟩
abbrev main_call2_call1_c_29 : Ref sig .tc := ⟨.hbm, 478, rfl⟩
abbrev main_call2_call1_v116 : Ref sig .tc := ⟨.hbm, 479, rfl⟩
abbrev main_call2_call1_v117 : Ref sig .tc := ⟨.hbm, 480, rfl⟩
abbrev main_call2_call1_c_30 : Ref sig .tc := ⟨.hbm, 481, rfl⟩
abbrev main_call2_call1_v118 : Ref sig .tc := ⟨.hbm, 482, rfl⟩
abbrev main_call2_call1_v119 : Ref sig .tc := ⟨.hbm, 483, rfl⟩
abbrev main_call2_call1_v120 : Ref sig .tc := ⟨.hbm, 484, rfl⟩
abbrev main_call2_call1_v121 : Ref sig .tc := ⟨.hbm, 485, rfl⟩
abbrev main_call2_call1_v122 : Ref sig .tc := ⟨.hbm, 486, rfl⟩
abbrev main_call2_call1_c_31 : Ref sig .tc := ⟨.hbm, 487, rfl⟩
abbrev main_call2_call1_v123 : Ref sig .tc := ⟨.hbm, 488, rfl⟩
abbrev main_call2_call1_v124 : Ref sig .tc := ⟨.hbm, 489, rfl⟩
abbrev main_call2_call1_c_32 : Ref sig .tc := ⟨.hbm, 490, rfl⟩
abbrev main_call2_call1_v125 : Ref sig .tc := ⟨.hbm, 491, rfl⟩
abbrev main_call2_call1_v126 : Ref sig .tc := ⟨.hbm, 492, rfl⟩
abbrev main_call2_call1_v127 : Ref sig .tc := ⟨.hbm, 493, rfl⟩
abbrev main_call2_call1_v128 : Ref sig .tc := ⟨.hbm, 494, rfl⟩
abbrev main_call2_call1_v129 : Ref sig .tc := ⟨.hbm, 495, rfl⟩
abbrev main_call2_call1_c_33 : Ref sig .tc := ⟨.hbm, 496, rfl⟩
abbrev main_call2_call1_v130 : Ref sig .tc := ⟨.hbm, 497, rfl⟩
abbrev main_call2_call1_v131 : Ref sig .tc := ⟨.hbm, 498, rfl⟩
abbrev main_call2_call1_c_34 : Ref sig .tc := ⟨.hbm, 499, rfl⟩
abbrev main_call2_call1_v132 : Ref sig .tc := ⟨.hbm, 500, rfl⟩
abbrev main_call2_call1_v133 : Ref sig .tc := ⟨.hbm, 501, rfl⟩
abbrev main_call2_call1_v134 : Ref sig .tc := ⟨.hbm, 502, rfl⟩
abbrev main_call2_call1_v135 : Ref sig .tc := ⟨.hbm, 503, rfl⟩
abbrev main_call2_call1_v136 : Ref sig .tc := ⟨.hbm, 504, rfl⟩
abbrev main_call2_call1_v137 : Ref sig .tc := ⟨.hbm, 505, rfl⟩
abbrev main_call2_call1_v138 : Ref sig .tc := ⟨.hbm, 506, rfl⟩
abbrev main_call2_call1_v139 : Ref sig .tc := ⟨.hbm, 507, rfl⟩
abbrev main_call2_call1_c_35 : Ref sig .tc := ⟨.hbm, 508, rfl⟩
abbrev main_call2_call1_v140 : Ref sig .tc := ⟨.hbm, 509, rfl⟩
abbrev main_call2_call1_v141 : Ref sig .tc := ⟨.hbm, 510, rfl⟩
abbrev main_call2_call1_v142 : Ref sig .tc := ⟨.hbm, 511, rfl⟩
abbrev main_call2_call1_c_36 : Ref sig .tc := ⟨.hbm, 512, rfl⟩
abbrev main_call2_call1_v143 : Ref sig .tc := ⟨.hbm, 513, rfl⟩
abbrev main_call2_call1_v144 : Ref sig .tc := ⟨.hbm, 514, rfl⟩
abbrev main_call2_call1_c_37 : Ref sig .tc := ⟨.hbm, 515, rfl⟩
abbrev main_call2_call1_v145 : Ref sig .tc := ⟨.hbm, 516, rfl⟩
abbrev main_call2_call1_v146 : Ref sig .tc := ⟨.hbm, 517, rfl⟩
abbrev main_call2_call1_v147 : Ref sig .tc := ⟨.hbm, 518, rfl⟩
abbrev main_call2_call1_v148 : Ref sig .tc := ⟨.hbm, 519, rfl⟩
abbrev main_call2_call1_v149 : Ref sig .tc := ⟨.hbm, 520, rfl⟩
abbrev main_call2_call1_c_38 : Ref sig .tc := ⟨.hbm, 521, rfl⟩
abbrev main_call2_call1_v150 : Ref sig .tc := ⟨.hbm, 522, rfl⟩
abbrev main_call2_call1_v151 : Ref sig .tc := ⟨.hbm, 523, rfl⟩
abbrev main_call2_call1_c_39 : Ref sig .tc := ⟨.hbm, 524, rfl⟩
abbrev main_call2_call1_v152 : Ref sig .tc := ⟨.hbm, 525, rfl⟩
abbrev main_call2_call1_v153 : Ref sig .tc := ⟨.hbm, 526, rfl⟩
abbrev main_call2_call1_v154 : Ref sig .tc := ⟨.hbm, 527, rfl⟩
abbrev main_call2_call1_v155 : Ref sig .tc := ⟨.hbm, 528, rfl⟩
abbrev main_call2_call1_v156 : Ref sig .tc := ⟨.hbm, 529, rfl⟩
abbrev main_call2_call1_c_40 : Ref sig .tc := ⟨.hbm, 530, rfl⟩
abbrev main_call2_call1_v157 : Ref sig .tc := ⟨.hbm, 531, rfl⟩
abbrev main_call2_call1_v158 : Ref sig .tc := ⟨.hbm, 532, rfl⟩
abbrev main_call2_call1_c_41 : Ref sig .tc := ⟨.hbm, 533, rfl⟩
abbrev main_call2_call1_v159 : Ref sig .tc := ⟨.hbm, 534, rfl⟩
abbrev main_call2_call1_v160 : Ref sig .tc := ⟨.hbm, 535, rfl⟩
abbrev main_call2_call1_v161 : Ref sig .tc := ⟨.hbm, 536, rfl⟩
abbrev main_call2_call1_v162 : Ref sig .tc := ⟨.hbm, 537, rfl⟩
abbrev main_call2_call1_v163 : Ref sig .tc := ⟨.hbm, 538, rfl⟩
abbrev main_call2_call1_c_42 : Ref sig .tc := ⟨.hbm, 539, rfl⟩
abbrev main_call2_call1_v164 : Ref sig .tc := ⟨.hbm, 540, rfl⟩
abbrev main_call2_call1_v165 : Ref sig .tc := ⟨.hbm, 541, rfl⟩
abbrev main_call2_call1_c_43 : Ref sig .tc := ⟨.hbm, 542, rfl⟩
abbrev main_call2_call1_v166 : Ref sig .tc := ⟨.hbm, 543, rfl⟩
abbrev main_call2_call1_v167 : Ref sig .tc := ⟨.hbm, 544, rfl⟩
abbrev main_call2_call1_v168 : Ref sig .tc := ⟨.hbm, 545, rfl⟩
abbrev main_call2_call1_v169 : Ref sig .tc := ⟨.hbm, 546, rfl⟩
abbrev main_call2_call1_v170 : Ref sig .tc := ⟨.hbm, 547, rfl⟩
abbrev main_call2_v16_0 : Ref sig .tc := ⟨.hbm, 548, rfl⟩
abbrev main_call2_call1_v172 : Ref sig .tc := ⟨.hbm, 549, rfl⟩
abbrev main_call2_call1_v173 : Ref sig .tc := ⟨.hbm, 550, rfl⟩
abbrev main_call2_call1_c_44 : Ref sig .tc := ⟨.hbm, 551, rfl⟩
abbrev main_call2_call1_v174 : Ref sig .tc := ⟨.hbm, 552, rfl⟩
abbrev main_call2_v16_1 : Ref sig .tc := ⟨.hbm, 553, rfl⟩
abbrev main_call2_v17 : Ref sig .tc := ⟨.hbm, 554, rfl⟩
abbrev main_call2_v18_0 : Ref sig .tc := ⟨.hbm, 555, rfl⟩
abbrev main_call2_v18_1 : Ref sig .tc := ⟨.hbm, 556, rfl⟩
abbrev main_call2_call2_v0 : Ref sig .tc := ⟨.hbm, 557, rfl⟩
abbrev main_call2_call2_v1 : Ref sig .tc := ⟨.hbm, 558, rfl⟩
abbrev main_call2_call2_v2 : Ref sig .tc := ⟨.hbm, 559, rfl⟩
abbrev main_call2_call2_v3 : Ref sig .tc := ⟨.hbm, 560, rfl⟩
abbrev main_call2_call2_v4 : Ref sig .tc := ⟨.hbm, 561, rfl⟩
abbrev main_call2_call2_c : Ref sig .tc := ⟨.hbm, 562, rfl⟩
abbrev main_call2_call2_v5 : Ref sig .tc := ⟨.hbm, 563, rfl⟩
abbrev main_call2_call2_v6 : Ref sig .tc := ⟨.hbm, 564, rfl⟩
abbrev main_call2_call2_c_0 : Ref sig .tc := ⟨.hbm, 565, rfl⟩
abbrev main_call2_call2_v7 : Ref sig .tc := ⟨.hbm, 566, rfl⟩
abbrev main_call2_call2_v8 : Ref sig .tc := ⟨.hbm, 567, rfl⟩
abbrev main_call2_call2_v9 : Ref sig .tc := ⟨.hbm, 568, rfl⟩
abbrev main_call2_call2_v10 : Ref sig .tc := ⟨.hbm, 569, rfl⟩
abbrev main_call2_call2_call0_v0 : Ref sig .tc := ⟨.hbm, 570, rfl⟩
abbrev main_call2_call2_call0_c : Ref sig .tc := ⟨.hbm, 571, rfl⟩
abbrev main_call2_call2_call0_v1 : Ref sig .tc := ⟨.hbm, 572, rfl⟩
abbrev main_call2_call2_call0_v2 : Ref sig .tc := ⟨.hbm, 573, rfl⟩
abbrev main_call2_call2_call0_v3 : Ref sig .tc := ⟨.hbm, 574, rfl⟩
abbrev main_call2_call2_call0_v4 : Ref sig .tc := ⟨.hbm, 575, rfl⟩
abbrev main_call2_call2_call0_v5 : Ref sig .tc := ⟨.hbm, 576, rfl⟩
abbrev main_call2_call2_call0_v6 : Ref sig .tc := ⟨.hbm, 577, rfl⟩
abbrev main_call2_call2_call0_c_0 : Ref sig .tc := ⟨.hbm, 578, rfl⟩
abbrev main_call2_call2_call0_v7 : Ref sig .tc := ⟨.hbm, 579, rfl⟩
abbrev main_call2_call2_call0_v8 : Ref sig .tc := ⟨.hbm, 580, rfl⟩
abbrev main_call2_call2_call0_c_1 : Ref sig .tc := ⟨.hbm, 581, rfl⟩
abbrev main_call2_call2_call0_v9 : Ref sig .tc := ⟨.hbm, 582, rfl⟩
abbrev main_call2_call2_call0_v10 : Ref sig .tc := ⟨.hbm, 583, rfl⟩
abbrev main_call2_call2_call0_v11 : Ref sig .tc := ⟨.hbm, 584, rfl⟩
abbrev main_call2_call2_call0_v12 : Ref sig .tc := ⟨.hbm, 585, rfl⟩
abbrev main_call2_call2_call0_v13 : Ref sig .tc := ⟨.hbm, 586, rfl⟩
abbrev main_call2_call2_call0_c_2 : Ref sig .tc := ⟨.hbm, 587, rfl⟩
abbrev main_call2_call2_call0_v14 : Ref sig .tc := ⟨.hbm, 588, rfl⟩
abbrev main_call2_call2_call0_v15 : Ref sig .tc := ⟨.hbm, 589, rfl⟩
abbrev main_call2_call2_call0_c_3 : Ref sig .tc := ⟨.hbm, 590, rfl⟩
abbrev main_call2_call2_call0_v16 : Ref sig .tc := ⟨.hbm, 591, rfl⟩
abbrev main_call2_call2_call0_v17 : Ref sig .tc := ⟨.hbm, 592, rfl⟩
abbrev main_call2_call2_call0_v18 : Ref sig .tc := ⟨.hbm, 593, rfl⟩
abbrev main_call2_call2_call0_v19 : Ref sig .tc := ⟨.hbm, 594, rfl⟩
abbrev main_call2_call2_call0_v20 : Ref sig .tc := ⟨.hbm, 595, rfl⟩
abbrev main_call2_call2_call0_c_4 : Ref sig .tc := ⟨.hbm, 596, rfl⟩
abbrev main_call2_call2_call0_v21 : Ref sig .tc := ⟨.hbm, 597, rfl⟩
abbrev main_call2_call2_call0_v22 : Ref sig .tc := ⟨.hbm, 598, rfl⟩
abbrev main_call2_call2_call0_c_5 : Ref sig .tc := ⟨.hbm, 599, rfl⟩
abbrev main_call2_call2_call0_v23 : Ref sig .tc := ⟨.hbm, 600, rfl⟩
abbrev main_call2_call2_call0_v24 : Ref sig .tc := ⟨.hbm, 601, rfl⟩
abbrev main_call2_call2_call0_v25 : Ref sig .tc := ⟨.hbm, 602, rfl⟩
abbrev main_call2_call2_call0_v26 : Ref sig .tc := ⟨.hbm, 603, rfl⟩
abbrev main_call2_call2_call0_v27 : Ref sig .tc := ⟨.hbm, 604, rfl⟩
abbrev main_call2_call2_call0_c_6 : Ref sig .tc := ⟨.hbm, 605, rfl⟩
abbrev main_call2_call2_call0_v28 : Ref sig .tc := ⟨.hbm, 606, rfl⟩
abbrev main_call2_call2_call0_v29 : Ref sig .tc := ⟨.hbm, 607, rfl⟩
abbrev main_call2_call2_call0_c_7 : Ref sig .tc := ⟨.hbm, 608, rfl⟩
abbrev main_call2_call2_call0_v30 : Ref sig .tc := ⟨.hbm, 609, rfl⟩
abbrev main_call2_call2_call0_v31 : Ref sig .tc := ⟨.hbm, 610, rfl⟩
abbrev main_call2_call2_call0_v32 : Ref sig .tc := ⟨.hbm, 611, rfl⟩
abbrev main_call2_call2_call0_v33 : Ref sig .tc := ⟨.hbm, 612, rfl⟩
abbrev main_call2_call2_call0_v34 : Ref sig .tc := ⟨.hbm, 613, rfl⟩
abbrev main_call2_call2_call0_v35 : Ref sig .tc := ⟨.hbm, 614, rfl⟩
abbrev main_call2_call2_call0_v36 : Ref sig .tc := ⟨.hbm, 615, rfl⟩
abbrev main_call2_call2_call0_v37 : Ref sig .tc := ⟨.hbm, 616, rfl⟩
abbrev main_call2_call2_call0_c_8 : Ref sig .tc := ⟨.hbm, 617, rfl⟩
abbrev main_call2_call2_call0_v38 : Ref sig .tc := ⟨.hbm, 618, rfl⟩
abbrev main_call2_call2_call0_v39 : Ref sig .tc := ⟨.hbm, 619, rfl⟩
abbrev main_call2_call2_call0_v40 : Ref sig .tc := ⟨.hbm, 620, rfl⟩
abbrev main_call2_call2_call0_c_9 : Ref sig .tc := ⟨.hbm, 621, rfl⟩
abbrev main_call2_call2_call0_v41 : Ref sig .tc := ⟨.hbm, 622, rfl⟩
abbrev main_call2_call2_call0_v42 : Ref sig .tc := ⟨.hbm, 623, rfl⟩
abbrev main_call2_call2_call0_c_10 : Ref sig .tc := ⟨.hbm, 624, rfl⟩
abbrev main_call2_call2_call0_v43 : Ref sig .tc := ⟨.hbm, 625, rfl⟩
abbrev main_call2_call2_call0_v44 : Ref sig .tc := ⟨.hbm, 626, rfl⟩
abbrev main_call2_call2_call0_v45 : Ref sig .tc := ⟨.hbm, 627, rfl⟩
abbrev main_call2_call2_call0_v46 : Ref sig .tc := ⟨.hbm, 628, rfl⟩
abbrev main_call2_call2_call0_v47 : Ref sig .tc := ⟨.hbm, 629, rfl⟩
abbrev main_call2_call2_call0_c_11 : Ref sig .tc := ⟨.hbm, 630, rfl⟩
abbrev main_call2_call2_call0_v48 : Ref sig .tc := ⟨.hbm, 631, rfl⟩
abbrev main_call2_call2_call0_v49 : Ref sig .tc := ⟨.hbm, 632, rfl⟩
abbrev main_call2_call2_call0_c_12 : Ref sig .tc := ⟨.hbm, 633, rfl⟩
abbrev main_call2_call2_call0_v50 : Ref sig .tc := ⟨.hbm, 634, rfl⟩
abbrev main_call2_call2_call0_v51 : Ref sig .tc := ⟨.hbm, 635, rfl⟩
abbrev main_call2_call2_call0_v52 : Ref sig .tc := ⟨.hbm, 636, rfl⟩
abbrev main_call2_call2_call0_v53 : Ref sig .tc := ⟨.hbm, 637, rfl⟩
abbrev main_call2_call2_call0_v54 : Ref sig .tc := ⟨.hbm, 638, rfl⟩
abbrev main_call2_call2_call0_c_13 : Ref sig .tc := ⟨.hbm, 639, rfl⟩
abbrev main_call2_call2_call0_v55 : Ref sig .tc := ⟨.hbm, 640, rfl⟩
abbrev main_call2_call2_call0_v56 : Ref sig .tc := ⟨.hbm, 641, rfl⟩
abbrev main_call2_call2_call0_c_14 : Ref sig .tc := ⟨.hbm, 642, rfl⟩
abbrev main_call2_call2_call0_v57 : Ref sig .tc := ⟨.hbm, 643, rfl⟩
abbrev main_call2_call2_call0_v58 : Ref sig .tc := ⟨.hbm, 644, rfl⟩
abbrev main_call2_call2_call0_v59 : Ref sig .tc := ⟨.hbm, 645, rfl⟩
abbrev main_call2_call2_call0_v60 : Ref sig .tc := ⟨.hbm, 646, rfl⟩
abbrev main_call2_call2_call0_v61 : Ref sig .tc := ⟨.hbm, 647, rfl⟩
abbrev main_call2_call2_call0_c_15 : Ref sig .tc := ⟨.hbm, 648, rfl⟩
abbrev main_call2_call2_call0_v62 : Ref sig .tc := ⟨.hbm, 649, rfl⟩
abbrev main_call2_call2_call0_v63 : Ref sig .tc := ⟨.hbm, 650, rfl⟩
abbrev main_call2_call2_call0_c_16 : Ref sig .tc := ⟨.hbm, 651, rfl⟩
abbrev main_call2_call2_call0_v64 : Ref sig .tc := ⟨.hbm, 652, rfl⟩
abbrev main_call2_call2_call0_v65 : Ref sig .tc := ⟨.hbm, 653, rfl⟩
abbrev main_call2_call2_call0_v66 : Ref sig .tc := ⟨.hbm, 654, rfl⟩
abbrev main_call2_call2_call0_v67 : Ref sig .tc := ⟨.hbm, 655, rfl⟩
abbrev main_call2_call2_call0_v68 : Ref sig .tc := ⟨.hbm, 656, rfl⟩
abbrev main_call2_call2_call0_v69 : Ref sig .tc := ⟨.hbm, 657, rfl⟩
abbrev main_call2_call2_call0_v70 : Ref sig .tc := ⟨.hbm, 658, rfl⟩
abbrev main_call2_call2_call0_v71 : Ref sig .tc := ⟨.hbm, 659, rfl⟩
abbrev main_call2_call2_call0_c_17 : Ref sig .tc := ⟨.hbm, 660, rfl⟩
abbrev main_call2_call2_call0_v72 : Ref sig .tc := ⟨.hbm, 661, rfl⟩
abbrev main_call2_call2_call0_v73 : Ref sig .tc := ⟨.hbm, 662, rfl⟩
abbrev main_call2_call2_call0_v74 : Ref sig .tc := ⟨.hbm, 663, rfl⟩
abbrev main_call2_call2_call0_c_18 : Ref sig .tc := ⟨.hbm, 664, rfl⟩
abbrev main_call2_call2_call0_v75 : Ref sig .tc := ⟨.hbm, 665, rfl⟩
abbrev main_call2_call2_call0_v76 : Ref sig .tc := ⟨.hbm, 666, rfl⟩
abbrev main_call2_call2_call0_c_19 : Ref sig .tc := ⟨.hbm, 667, rfl⟩
abbrev main_call2_call2_call0_v77 : Ref sig .tc := ⟨.hbm, 668, rfl⟩
abbrev main_call2_call2_call0_v78 : Ref sig .tc := ⟨.hbm, 669, rfl⟩
abbrev main_call2_call2_call0_v79 : Ref sig .tc := ⟨.hbm, 670, rfl⟩
abbrev main_call2_call2_call0_v80 : Ref sig .tc := ⟨.hbm, 671, rfl⟩
abbrev main_call2_call2_call0_v81 : Ref sig .tc := ⟨.hbm, 672, rfl⟩
abbrev main_call2_call2_call0_c_20 : Ref sig .tc := ⟨.hbm, 673, rfl⟩
abbrev main_call2_call2_call0_v82 : Ref sig .tc := ⟨.hbm, 674, rfl⟩
abbrev main_call2_call2_call0_v83 : Ref sig .tc := ⟨.hbm, 675, rfl⟩
abbrev main_call2_call2_call0_c_21 : Ref sig .tc := ⟨.hbm, 676, rfl⟩
abbrev main_call2_call2_call0_v84 : Ref sig .tc := ⟨.hbm, 677, rfl⟩
abbrev main_call2_call2_call0_v85 : Ref sig .tc := ⟨.hbm, 678, rfl⟩
abbrev main_call2_call2_call0_v86 : Ref sig .tc := ⟨.hbm, 679, rfl⟩
abbrev main_call2_call2_call0_v87 : Ref sig .tc := ⟨.hbm, 680, rfl⟩
abbrev main_call2_call2_call0_v88 : Ref sig .tc := ⟨.hbm, 681, rfl⟩
abbrev main_call2_call2_call0_c_22 : Ref sig .tc := ⟨.hbm, 682, rfl⟩
abbrev main_call2_call2_call0_v89 : Ref sig .tc := ⟨.hbm, 683, rfl⟩
abbrev main_call2_call2_call0_v90 : Ref sig .tc := ⟨.hbm, 684, rfl⟩
abbrev main_call2_call2_call0_c_23 : Ref sig .tc := ⟨.hbm, 685, rfl⟩
abbrev main_call2_call2_call0_v91 : Ref sig .tc := ⟨.hbm, 686, rfl⟩
abbrev main_call2_call2_call0_v92 : Ref sig .tc := ⟨.hbm, 687, rfl⟩
abbrev main_call2_call2_call0_v93 : Ref sig .tc := ⟨.hbm, 688, rfl⟩
abbrev main_call2_call2_call0_v94 : Ref sig .tc := ⟨.hbm, 689, rfl⟩
abbrev main_call2_call2_call0_v95 : Ref sig .tc := ⟨.hbm, 690, rfl⟩
abbrev main_call2_call2_call0_c_24 : Ref sig .tc := ⟨.hbm, 691, rfl⟩
abbrev main_call2_call2_call0_v96 : Ref sig .tc := ⟨.hbm, 692, rfl⟩
abbrev main_call2_call2_call0_v97 : Ref sig .tc := ⟨.hbm, 693, rfl⟩
abbrev main_call2_call2_call0_c_25 : Ref sig .tc := ⟨.hbm, 694, rfl⟩
abbrev main_call2_call2_call0_v98 : Ref sig .tc := ⟨.hbm, 695, rfl⟩
abbrev main_call2_call2_call0_v99 : Ref sig .tc := ⟨.hbm, 696, rfl⟩
abbrev main_call2_call2_call0_v100 : Ref sig .tc := ⟨.hbm, 697, rfl⟩
abbrev main_call2_call2_call0_v101 : Ref sig .tc := ⟨.hbm, 698, rfl⟩
abbrev main_call2_call2_call0_v102 : Ref sig .tc := ⟨.hbm, 699, rfl⟩
abbrev main_call2_call2_call0_v103 : Ref sig .tc := ⟨.hbm, 700, rfl⟩
abbrev main_call2_call2_call0_v104 : Ref sig .tc := ⟨.hbm, 701, rfl⟩
abbrev main_call2_call2_call0_v105 : Ref sig .tc := ⟨.hbm, 702, rfl⟩
abbrev main_call2_call2_call0_c_26 : Ref sig .tc := ⟨.hbm, 703, rfl⟩
abbrev main_call2_call2_call0_v106 : Ref sig .tc := ⟨.hbm, 704, rfl⟩
abbrev main_call2_call2_call0_v107 : Ref sig .tc := ⟨.hbm, 705, rfl⟩
abbrev main_call2_call2_call0_v108 : Ref sig .tc := ⟨.hbm, 706, rfl⟩
abbrev main_call2_call2_call0_c_27 : Ref sig .tc := ⟨.hbm, 707, rfl⟩
abbrev main_call2_call2_call0_v109 : Ref sig .tc := ⟨.hbm, 708, rfl⟩
abbrev main_call2_call2_call0_v110 : Ref sig .tc := ⟨.hbm, 709, rfl⟩
abbrev main_call2_call2_call0_c_28 : Ref sig .tc := ⟨.hbm, 710, rfl⟩
abbrev main_call2_call2_call0_v111 : Ref sig .tc := ⟨.hbm, 711, rfl⟩
abbrev main_call2_call2_call0_v112 : Ref sig .tc := ⟨.hbm, 712, rfl⟩
abbrev main_call2_call2_call0_v113 : Ref sig .tc := ⟨.hbm, 713, rfl⟩
abbrev main_call2_call2_call0_v114 : Ref sig .tc := ⟨.hbm, 714, rfl⟩
abbrev main_call2_call2_call0_v115 : Ref sig .tc := ⟨.hbm, 715, rfl⟩
abbrev main_call2_call2_call0_c_29 : Ref sig .tc := ⟨.hbm, 716, rfl⟩
abbrev main_call2_call2_call0_v116 : Ref sig .tc := ⟨.hbm, 717, rfl⟩
abbrev main_call2_call2_call0_v117 : Ref sig .tc := ⟨.hbm, 718, rfl⟩
abbrev main_call2_call2_call0_c_30 : Ref sig .tc := ⟨.hbm, 719, rfl⟩
abbrev main_call2_call2_call0_v118 : Ref sig .tc := ⟨.hbm, 720, rfl⟩
abbrev main_call2_call2_call0_v119 : Ref sig .tc := ⟨.hbm, 721, rfl⟩
abbrev main_call2_call2_call0_v120 : Ref sig .tc := ⟨.hbm, 722, rfl⟩
abbrev main_call2_call2_call0_v121 : Ref sig .tc := ⟨.hbm, 723, rfl⟩
abbrev main_call2_call2_call0_v122 : Ref sig .tc := ⟨.hbm, 724, rfl⟩
abbrev main_call2_call2_call0_c_31 : Ref sig .tc := ⟨.hbm, 725, rfl⟩
abbrev main_call2_call2_call0_v123 : Ref sig .tc := ⟨.hbm, 726, rfl⟩
abbrev main_call2_call2_call0_v124 : Ref sig .tc := ⟨.hbm, 727, rfl⟩
abbrev main_call2_call2_call0_c_32 : Ref sig .tc := ⟨.hbm, 728, rfl⟩
abbrev main_call2_call2_call0_v125 : Ref sig .tc := ⟨.hbm, 729, rfl⟩
abbrev main_call2_call2_call0_v126 : Ref sig .tc := ⟨.hbm, 730, rfl⟩
abbrev main_call2_call2_call0_v127 : Ref sig .tc := ⟨.hbm, 731, rfl⟩
abbrev main_call2_call2_call0_v128 : Ref sig .tc := ⟨.hbm, 732, rfl⟩
abbrev main_call2_call2_call0_v129 : Ref sig .tc := ⟨.hbm, 733, rfl⟩
abbrev main_call2_call2_call0_c_33 : Ref sig .tc := ⟨.hbm, 734, rfl⟩
abbrev main_call2_call2_call0_v130 : Ref sig .tc := ⟨.hbm, 735, rfl⟩
abbrev main_call2_call2_call0_v131 : Ref sig .tc := ⟨.hbm, 736, rfl⟩
abbrev main_call2_call2_call0_c_34 : Ref sig .tc := ⟨.hbm, 737, rfl⟩
abbrev main_call2_call2_call0_v132 : Ref sig .tc := ⟨.hbm, 738, rfl⟩
abbrev main_call2_call2_call0_v133 : Ref sig .tc := ⟨.hbm, 739, rfl⟩
abbrev main_call2_call2_call0_v134 : Ref sig .tc := ⟨.hbm, 740, rfl⟩
abbrev main_call2_call2_call0_v135 : Ref sig .tc := ⟨.hbm, 741, rfl⟩
abbrev main_call2_call2_call0_v136 : Ref sig .tc := ⟨.hbm, 742, rfl⟩
abbrev main_call2_call2_call0_v137 : Ref sig .tc := ⟨.hbm, 743, rfl⟩
abbrev main_call2_call2_call0_v138 : Ref sig .tc := ⟨.hbm, 744, rfl⟩
abbrev main_call2_call2_call0_v139 : Ref sig .tc := ⟨.hbm, 745, rfl⟩
abbrev main_call2_call2_call0_c_35 : Ref sig .tc := ⟨.hbm, 746, rfl⟩
abbrev main_call2_call2_call0_v140 : Ref sig .tc := ⟨.hbm, 747, rfl⟩
abbrev main_call2_call2_call0_v141 : Ref sig .tc := ⟨.hbm, 748, rfl⟩
abbrev main_call2_call2_call0_v142 : Ref sig .tc := ⟨.hbm, 749, rfl⟩
abbrev main_call2_call2_call0_c_36 : Ref sig .tc := ⟨.hbm, 750, rfl⟩
abbrev main_call2_call2_call0_v143 : Ref sig .tc := ⟨.hbm, 751, rfl⟩
abbrev main_call2_call2_call0_v144 : Ref sig .tc := ⟨.hbm, 752, rfl⟩
abbrev main_call2_call2_call0_c_37 : Ref sig .tc := ⟨.hbm, 753, rfl⟩
abbrev main_call2_call2_call0_v145 : Ref sig .tc := ⟨.hbm, 754, rfl⟩
abbrev main_call2_call2_call0_v146 : Ref sig .tc := ⟨.hbm, 755, rfl⟩
abbrev main_call2_call2_call0_v147 : Ref sig .tc := ⟨.hbm, 756, rfl⟩
abbrev main_call2_call2_call0_v148 : Ref sig .tc := ⟨.hbm, 757, rfl⟩
abbrev main_call2_call2_call0_v149 : Ref sig .tc := ⟨.hbm, 758, rfl⟩
abbrev main_call2_call2_call0_c_38 : Ref sig .tc := ⟨.hbm, 759, rfl⟩
abbrev main_call2_call2_call0_v150 : Ref sig .tc := ⟨.hbm, 760, rfl⟩
abbrev main_call2_call2_call0_v151 : Ref sig .tc := ⟨.hbm, 761, rfl⟩
abbrev main_call2_call2_call0_c_39 : Ref sig .tc := ⟨.hbm, 762, rfl⟩
abbrev main_call2_call2_call0_v152 : Ref sig .tc := ⟨.hbm, 763, rfl⟩
abbrev main_call2_call2_call0_v153 : Ref sig .tc := ⟨.hbm, 764, rfl⟩
abbrev main_call2_call2_call0_v154 : Ref sig .tc := ⟨.hbm, 765, rfl⟩
abbrev main_call2_call2_call0_v155 : Ref sig .tc := ⟨.hbm, 766, rfl⟩
abbrev main_call2_call2_call0_v156 : Ref sig .tc := ⟨.hbm, 767, rfl⟩
abbrev main_call2_call2_call0_c_40 : Ref sig .tc := ⟨.hbm, 768, rfl⟩
abbrev main_call2_call2_call0_v157 : Ref sig .tc := ⟨.hbm, 769, rfl⟩
abbrev main_call2_call2_call0_v158 : Ref sig .tc := ⟨.hbm, 770, rfl⟩
abbrev main_call2_call2_call0_c_41 : Ref sig .tc := ⟨.hbm, 771, rfl⟩
abbrev main_call2_call2_call0_v159 : Ref sig .tc := ⟨.hbm, 772, rfl⟩
abbrev main_call2_call2_call0_v160 : Ref sig .tc := ⟨.hbm, 773, rfl⟩
abbrev main_call2_call2_call0_v161 : Ref sig .tc := ⟨.hbm, 774, rfl⟩
abbrev main_call2_call2_call0_v162 : Ref sig .tc := ⟨.hbm, 775, rfl⟩
abbrev main_call2_call2_call0_v163 : Ref sig .tc := ⟨.hbm, 776, rfl⟩
abbrev main_call2_call2_call0_c_42 : Ref sig .tc := ⟨.hbm, 777, rfl⟩
abbrev main_call2_call2_call0_v164 : Ref sig .tc := ⟨.hbm, 778, rfl⟩
abbrev main_call2_call2_call0_v165 : Ref sig .tc := ⟨.hbm, 779, rfl⟩
abbrev main_call2_call2_call0_c_43 : Ref sig .tc := ⟨.hbm, 780, rfl⟩
abbrev main_call2_call2_call0_v166 : Ref sig .tc := ⟨.hbm, 781, rfl⟩
abbrev main_call2_call2_call0_v167 : Ref sig .tc := ⟨.hbm, 782, rfl⟩
abbrev main_call2_call2_call0_v168 : Ref sig .tc := ⟨.hbm, 783, rfl⟩
abbrev main_call2_call2_call0_v169 : Ref sig .tc := ⟨.hbm, 784, rfl⟩
abbrev main_call2_call2_call0_v170 : Ref sig .tc := ⟨.hbm, 785, rfl⟩
abbrev main_call2_call2_v11_0 : Ref sig .tc := ⟨.hbm, 786, rfl⟩
abbrev main_call2_call2_call0_v172 : Ref sig .tc := ⟨.hbm, 787, rfl⟩
abbrev main_call2_call2_call0_v173 : Ref sig .tc := ⟨.hbm, 788, rfl⟩
abbrev main_call2_call2_call0_c_44 : Ref sig .tc := ⟨.hbm, 789, rfl⟩
abbrev main_call2_call2_call0_v174 : Ref sig .tc := ⟨.hbm, 790, rfl⟩
abbrev main_call2_call2_v11_1 : Ref sig .tc := ⟨.hbm, 791, rfl⟩
abbrev main_call2_call2_v12 : Ref sig .tc := ⟨.hbm, 792, rfl⟩
abbrev main_call2_call2_v13 : Ref sig .tc := ⟨.hbm, 793, rfl⟩
abbrev main_call2_v19 : Ref sig .tc := ⟨.hbm, 794, rfl⟩
abbrev main_call2_v20 : Ref sig .tc := ⟨.hbm, 795, rfl⟩
abbrev main_call2_v21 : Ref sig .tc := ⟨.hbm, 796, rfl⟩
abbrev main_call2_v22 : Ref sig .tc := ⟨.hbm, 797, rfl⟩
abbrev main_call2_v23 : Ref sig .tc := ⟨.hbm, 798, rfl⟩
abbrev main_call2_v24 : Ref sig .tc := ⟨.hbm, 799, rfl⟩
abbrev main_call2_v25 : Ref sig .tc := ⟨.hbm, 800, rfl⟩
abbrev main_call2_v26 : Ref sig .tc := ⟨.hbm, 801, rfl⟩
abbrev main_call2_v27 : Ref sig .tc := ⟨.hbm, 802, rfl⟩
abbrev main_call2_v28 : Ref sig .tc := ⟨.hbm, 803, rfl⟩
abbrev main_call2_c_1 : Ref sig .tc := ⟨.hbm, 804, rfl⟩
abbrev main_call2_v29 : Ref sig .tc := ⟨.hbm, 805, rfl⟩
abbrev main_call2_v30 : Ref sig .tc := ⟨.hbm, 806, rfl⟩
abbrev main_call2_c_2 : Ref sig .tc := ⟨.hbm, 807, rfl⟩
abbrev main_call2_v31 : Ref sig .tc := ⟨.hbm, 808, rfl⟩
abbrev main_call2_v32 : Ref sig .tc := ⟨.hbm, 809, rfl⟩
abbrev main_call2_v33 : Ref sig .tc := ⟨.hbm, 810, rfl⟩
abbrev main_call2_v34 : Ref sig .tc := ⟨.hbm, 811, rfl⟩
abbrev main_call2_call3_v0 : Ref sig .tc := ⟨.hbm, 812, rfl⟩
abbrev main_call2_call3_c : Ref sig .tc := ⟨.hbm, 813, rfl⟩
abbrev main_call2_call3_v1 : Ref sig .tc := ⟨.hbm, 814, rfl⟩
abbrev main_call2_call3_v2 : Ref sig .tc := ⟨.hbm, 815, rfl⟩
abbrev main_call2_call3_v3 : Ref sig .tc := ⟨.hbm, 816, rfl⟩
abbrev main_call2_call3_v4 : Ref sig .tc := ⟨.hbm, 817, rfl⟩
abbrev main_call2_call3_v5 : Ref sig .tc := ⟨.hbm, 818, rfl⟩
abbrev main_call2_call3_v6 : Ref sig .tc := ⟨.hbm, 819, rfl⟩
abbrev main_call2_call3_c_0 : Ref sig .tc := ⟨.hbm, 820, rfl⟩
abbrev main_call2_call3_v7 : Ref sig .tc := ⟨.hbm, 821, rfl⟩
abbrev main_call2_call3_v8 : Ref sig .tc := ⟨.hbm, 822, rfl⟩
abbrev main_call2_call3_c_1 : Ref sig .tc := ⟨.hbm, 823, rfl⟩
abbrev main_call2_call3_v9 : Ref sig .tc := ⟨.hbm, 824, rfl⟩
abbrev main_call2_call3_v10 : Ref sig .tc := ⟨.hbm, 825, rfl⟩
abbrev main_call2_call3_v11 : Ref sig .tc := ⟨.hbm, 826, rfl⟩
abbrev main_call2_call3_v12 : Ref sig .tc := ⟨.hbm, 827, rfl⟩
abbrev main_call2_call3_v13 : Ref sig .tc := ⟨.hbm, 828, rfl⟩
abbrev main_call2_call3_c_2 : Ref sig .tc := ⟨.hbm, 829, rfl⟩
abbrev main_call2_call3_v14 : Ref sig .tc := ⟨.hbm, 830, rfl⟩
abbrev main_call2_call3_v15 : Ref sig .tc := ⟨.hbm, 831, rfl⟩
abbrev main_call2_call3_c_3 : Ref sig .tc := ⟨.hbm, 832, rfl⟩
abbrev main_call2_call3_v16 : Ref sig .tc := ⟨.hbm, 833, rfl⟩
abbrev main_call2_call3_v17 : Ref sig .tc := ⟨.hbm, 834, rfl⟩
abbrev main_call2_call3_v18 : Ref sig .tc := ⟨.hbm, 835, rfl⟩
abbrev main_call2_call3_v19 : Ref sig .tc := ⟨.hbm, 836, rfl⟩
abbrev main_call2_call3_v20 : Ref sig .tc := ⟨.hbm, 837, rfl⟩
abbrev main_call2_call3_c_4 : Ref sig .tc := ⟨.hbm, 838, rfl⟩
abbrev main_call2_call3_v21 : Ref sig .tc := ⟨.hbm, 839, rfl⟩
abbrev main_call2_call3_v22 : Ref sig .tc := ⟨.hbm, 840, rfl⟩
abbrev main_call2_call3_c_5 : Ref sig .tc := ⟨.hbm, 841, rfl⟩
abbrev main_call2_call3_v23 : Ref sig .tc := ⟨.hbm, 842, rfl⟩
abbrev main_call2_call3_v24 : Ref sig .tc := ⟨.hbm, 843, rfl⟩
abbrev main_call2_call3_v25 : Ref sig .tc := ⟨.hbm, 844, rfl⟩
abbrev main_call2_call3_v26 : Ref sig .tc := ⟨.hbm, 845, rfl⟩
abbrev main_call2_call3_v27 : Ref sig .tc := ⟨.hbm, 846, rfl⟩
abbrev main_call2_call3_c_6 : Ref sig .tc := ⟨.hbm, 847, rfl⟩
abbrev main_call2_call3_v28 : Ref sig .tc := ⟨.hbm, 848, rfl⟩
abbrev main_call2_call3_v29 : Ref sig .tc := ⟨.hbm, 849, rfl⟩
abbrev main_call2_call3_c_7 : Ref sig .tc := ⟨.hbm, 850, rfl⟩
abbrev main_call2_call3_v30 : Ref sig .tc := ⟨.hbm, 851, rfl⟩
abbrev main_call2_call3_v31 : Ref sig .tc := ⟨.hbm, 852, rfl⟩
abbrev main_call2_call3_v32 : Ref sig .tc := ⟨.hbm, 853, rfl⟩
abbrev main_call2_call3_v33 : Ref sig .tc := ⟨.hbm, 854, rfl⟩
abbrev main_call2_call3_v34 : Ref sig .tc := ⟨.hbm, 855, rfl⟩
abbrev main_call2_call3_v35 : Ref sig .tc := ⟨.hbm, 856, rfl⟩
abbrev main_call2_call3_v36 : Ref sig .tc := ⟨.hbm, 857, rfl⟩
abbrev main_call2_call3_v37 : Ref sig .tc := ⟨.hbm, 858, rfl⟩
abbrev main_call2_call3_c_8 : Ref sig .tc := ⟨.hbm, 859, rfl⟩
abbrev main_call2_call3_v38 : Ref sig .tc := ⟨.hbm, 860, rfl⟩
abbrev main_call2_call3_v39 : Ref sig .tc := ⟨.hbm, 861, rfl⟩
abbrev main_call2_call3_v40 : Ref sig .tc := ⟨.hbm, 862, rfl⟩
abbrev main_call2_call3_c_9 : Ref sig .tc := ⟨.hbm, 863, rfl⟩
abbrev main_call2_call3_v41 : Ref sig .tc := ⟨.hbm, 864, rfl⟩
abbrev main_call2_call3_v42 : Ref sig .tc := ⟨.hbm, 865, rfl⟩
abbrev main_call2_call3_c_10 : Ref sig .tc := ⟨.hbm, 866, rfl⟩
abbrev main_call2_call3_v43 : Ref sig .tc := ⟨.hbm, 867, rfl⟩
abbrev main_call2_call3_v44 : Ref sig .tc := ⟨.hbm, 868, rfl⟩
abbrev main_call2_call3_v45 : Ref sig .tc := ⟨.hbm, 869, rfl⟩
abbrev main_call2_call3_v46 : Ref sig .tc := ⟨.hbm, 870, rfl⟩
abbrev main_call2_call3_v47 : Ref sig .tc := ⟨.hbm, 871, rfl⟩
abbrev main_call2_call3_c_11 : Ref sig .tc := ⟨.hbm, 872, rfl⟩
abbrev main_call2_call3_v48 : Ref sig .tc := ⟨.hbm, 873, rfl⟩
abbrev main_call2_call3_v49 : Ref sig .tc := ⟨.hbm, 874, rfl⟩
abbrev main_call2_call3_c_12 : Ref sig .tc := ⟨.hbm, 875, rfl⟩
abbrev main_call2_call3_v50 : Ref sig .tc := ⟨.hbm, 876, rfl⟩
abbrev main_call2_call3_v51 : Ref sig .tc := ⟨.hbm, 877, rfl⟩
abbrev main_call2_call3_v52 : Ref sig .tc := ⟨.hbm, 878, rfl⟩
abbrev main_call2_call3_v53 : Ref sig .tc := ⟨.hbm, 879, rfl⟩
abbrev main_call2_call3_v54 : Ref sig .tc := ⟨.hbm, 880, rfl⟩
abbrev main_call2_call3_c_13 : Ref sig .tc := ⟨.hbm, 881, rfl⟩
abbrev main_call2_call3_v55 : Ref sig .tc := ⟨.hbm, 882, rfl⟩
abbrev main_call2_call3_v56 : Ref sig .tc := ⟨.hbm, 883, rfl⟩
abbrev main_call2_call3_c_14 : Ref sig .tc := ⟨.hbm, 884, rfl⟩
abbrev main_call2_call3_v57 : Ref sig .tc := ⟨.hbm, 885, rfl⟩
abbrev main_call2_call3_v58 : Ref sig .tc := ⟨.hbm, 886, rfl⟩
abbrev main_call2_call3_v59 : Ref sig .tc := ⟨.hbm, 887, rfl⟩
abbrev main_call2_call3_v60 : Ref sig .tc := ⟨.hbm, 888, rfl⟩
abbrev main_call2_call3_v61 : Ref sig .tc := ⟨.hbm, 889, rfl⟩
abbrev main_call2_call3_c_15 : Ref sig .tc := ⟨.hbm, 890, rfl⟩
abbrev main_call2_call3_v62 : Ref sig .tc := ⟨.hbm, 891, rfl⟩
abbrev main_call2_call3_v63 : Ref sig .tc := ⟨.hbm, 892, rfl⟩
abbrev main_call2_call3_c_16 : Ref sig .tc := ⟨.hbm, 893, rfl⟩
abbrev main_call2_call3_v64 : Ref sig .tc := ⟨.hbm, 894, rfl⟩
abbrev main_call2_call3_v65 : Ref sig .tc := ⟨.hbm, 895, rfl⟩
abbrev main_call2_call3_v66 : Ref sig .tc := ⟨.hbm, 896, rfl⟩
abbrev main_call2_call3_v67 : Ref sig .tc := ⟨.hbm, 897, rfl⟩
abbrev main_call2_call3_v68 : Ref sig .tc := ⟨.hbm, 898, rfl⟩
abbrev main_call2_call3_v69 : Ref sig .tc := ⟨.hbm, 899, rfl⟩
abbrev main_call2_call3_v70 : Ref sig .tc := ⟨.hbm, 900, rfl⟩
abbrev main_call2_call3_v71 : Ref sig .tc := ⟨.hbm, 901, rfl⟩
abbrev main_call2_call3_c_17 : Ref sig .tc := ⟨.hbm, 902, rfl⟩
abbrev main_call2_call3_v72 : Ref sig .tc := ⟨.hbm, 903, rfl⟩
abbrev main_call2_call3_v73 : Ref sig .tc := ⟨.hbm, 904, rfl⟩
abbrev main_call2_call3_v74 : Ref sig .tc := ⟨.hbm, 905, rfl⟩
abbrev main_call2_call3_c_18 : Ref sig .tc := ⟨.hbm, 906, rfl⟩
abbrev main_call2_call3_v75 : Ref sig .tc := ⟨.hbm, 907, rfl⟩
abbrev main_call2_call3_v76 : Ref sig .tc := ⟨.hbm, 908, rfl⟩
abbrev main_call2_call3_c_19 : Ref sig .tc := ⟨.hbm, 909, rfl⟩
abbrev main_call2_call3_v77 : Ref sig .tc := ⟨.hbm, 910, rfl⟩
abbrev main_call2_call3_v78 : Ref sig .tc := ⟨.hbm, 911, rfl⟩
abbrev main_call2_call3_v79 : Ref sig .tc := ⟨.hbm, 912, rfl⟩
abbrev main_call2_call3_v80 : Ref sig .tc := ⟨.hbm, 913, rfl⟩
abbrev main_call2_call3_v81 : Ref sig .tc := ⟨.hbm, 914, rfl⟩
abbrev main_call2_call3_c_20 : Ref sig .tc := ⟨.hbm, 915, rfl⟩
abbrev main_call2_call3_v82 : Ref sig .tc := ⟨.hbm, 916, rfl⟩
abbrev main_call2_call3_v83 : Ref sig .tc := ⟨.hbm, 917, rfl⟩
abbrev main_call2_call3_c_21 : Ref sig .tc := ⟨.hbm, 918, rfl⟩
abbrev main_call2_call3_v84 : Ref sig .tc := ⟨.hbm, 919, rfl⟩
abbrev main_call2_call3_v85 : Ref sig .tc := ⟨.hbm, 920, rfl⟩
abbrev main_call2_call3_v86 : Ref sig .tc := ⟨.hbm, 921, rfl⟩
abbrev main_call2_call3_v87 : Ref sig .tc := ⟨.hbm, 922, rfl⟩
abbrev main_call2_call3_v88 : Ref sig .tc := ⟨.hbm, 923, rfl⟩
abbrev main_call2_call3_c_22 : Ref sig .tc := ⟨.hbm, 924, rfl⟩
abbrev main_call2_call3_v89 : Ref sig .tc := ⟨.hbm, 925, rfl⟩
abbrev main_call2_call3_v90 : Ref sig .tc := ⟨.hbm, 926, rfl⟩
abbrev main_call2_call3_c_23 : Ref sig .tc := ⟨.hbm, 927, rfl⟩
abbrev main_call2_call3_v91 : Ref sig .tc := ⟨.hbm, 928, rfl⟩
abbrev main_call2_call3_v92 : Ref sig .tc := ⟨.hbm, 929, rfl⟩
abbrev main_call2_call3_v93 : Ref sig .tc := ⟨.hbm, 930, rfl⟩
abbrev main_call2_call3_v94 : Ref sig .tc := ⟨.hbm, 931, rfl⟩
abbrev main_call2_call3_v95 : Ref sig .tc := ⟨.hbm, 932, rfl⟩
abbrev main_call2_call3_c_24 : Ref sig .tc := ⟨.hbm, 933, rfl⟩
abbrev main_call2_call3_v96 : Ref sig .tc := ⟨.hbm, 934, rfl⟩
abbrev main_call2_call3_v97 : Ref sig .tc := ⟨.hbm, 935, rfl⟩
abbrev main_call2_call3_c_25 : Ref sig .tc := ⟨.hbm, 936, rfl⟩
abbrev main_call2_call3_v98 : Ref sig .tc := ⟨.hbm, 937, rfl⟩
abbrev main_call2_call3_v99 : Ref sig .tc := ⟨.hbm, 938, rfl⟩
abbrev main_call2_call3_v100 : Ref sig .tc := ⟨.hbm, 939, rfl⟩
abbrev main_call2_call3_v101 : Ref sig .tc := ⟨.hbm, 940, rfl⟩
abbrev main_call2_call3_v102 : Ref sig .tc := ⟨.hbm, 941, rfl⟩
abbrev main_call2_call3_v103 : Ref sig .tc := ⟨.hbm, 942, rfl⟩
abbrev main_call2_call3_v104 : Ref sig .tc := ⟨.hbm, 943, rfl⟩
abbrev main_call2_call3_v105 : Ref sig .tc := ⟨.hbm, 944, rfl⟩
abbrev main_call2_call3_c_26 : Ref sig .tc := ⟨.hbm, 945, rfl⟩
abbrev main_call2_call3_v106 : Ref sig .tc := ⟨.hbm, 946, rfl⟩
abbrev main_call2_call3_v107 : Ref sig .tc := ⟨.hbm, 947, rfl⟩
abbrev main_call2_call3_v108 : Ref sig .tc := ⟨.hbm, 948, rfl⟩
abbrev main_call2_call3_c_27 : Ref sig .tc := ⟨.hbm, 949, rfl⟩
abbrev main_call2_call3_v109 : Ref sig .tc := ⟨.hbm, 950, rfl⟩
abbrev main_call2_call3_v110 : Ref sig .tc := ⟨.hbm, 951, rfl⟩
abbrev main_call2_call3_c_28 : Ref sig .tc := ⟨.hbm, 952, rfl⟩
abbrev main_call2_call3_v111 : Ref sig .tc := ⟨.hbm, 953, rfl⟩
abbrev main_call2_call3_v112 : Ref sig .tc := ⟨.hbm, 954, rfl⟩
abbrev main_call2_call3_v113 : Ref sig .tc := ⟨.hbm, 955, rfl⟩
abbrev main_call2_call3_v114 : Ref sig .tc := ⟨.hbm, 956, rfl⟩
abbrev main_call2_call3_v115 : Ref sig .tc := ⟨.hbm, 957, rfl⟩
abbrev main_call2_call3_c_29 : Ref sig .tc := ⟨.hbm, 958, rfl⟩
abbrev main_call2_call3_v116 : Ref sig .tc := ⟨.hbm, 959, rfl⟩
abbrev main_call2_call3_v117 : Ref sig .tc := ⟨.hbm, 960, rfl⟩
abbrev main_call2_call3_c_30 : Ref sig .tc := ⟨.hbm, 961, rfl⟩
abbrev main_call2_call3_v118 : Ref sig .tc := ⟨.hbm, 962, rfl⟩
abbrev main_call2_call3_v119 : Ref sig .tc := ⟨.hbm, 963, rfl⟩
abbrev main_call2_call3_v120 : Ref sig .tc := ⟨.hbm, 964, rfl⟩
abbrev main_call2_call3_v121 : Ref sig .tc := ⟨.hbm, 965, rfl⟩
abbrev main_call2_call3_v122 : Ref sig .tc := ⟨.hbm, 966, rfl⟩
abbrev main_call2_call3_c_31 : Ref sig .tc := ⟨.hbm, 967, rfl⟩
abbrev main_call2_call3_v123 : Ref sig .tc := ⟨.hbm, 968, rfl⟩
abbrev main_call2_call3_v124 : Ref sig .tc := ⟨.hbm, 969, rfl⟩
abbrev main_call2_call3_c_32 : Ref sig .tc := ⟨.hbm, 970, rfl⟩
abbrev main_call2_call3_v125 : Ref sig .tc := ⟨.hbm, 971, rfl⟩
abbrev main_call2_call3_v126 : Ref sig .tc := ⟨.hbm, 972, rfl⟩
abbrev main_call2_call3_v127 : Ref sig .tc := ⟨.hbm, 973, rfl⟩
abbrev main_call2_call3_v128 : Ref sig .tc := ⟨.hbm, 974, rfl⟩
abbrev main_call2_call3_v129 : Ref sig .tc := ⟨.hbm, 975, rfl⟩
abbrev main_call2_call3_c_33 : Ref sig .tc := ⟨.hbm, 976, rfl⟩
abbrev main_call2_call3_v130 : Ref sig .tc := ⟨.hbm, 977, rfl⟩
abbrev main_call2_call3_v131 : Ref sig .tc := ⟨.hbm, 978, rfl⟩
abbrev main_call2_call3_c_34 : Ref sig .tc := ⟨.hbm, 979, rfl⟩
abbrev main_call2_call3_v132 : Ref sig .tc := ⟨.hbm, 980, rfl⟩
abbrev main_call2_call3_v133 : Ref sig .tc := ⟨.hbm, 981, rfl⟩
abbrev main_call2_call3_v134 : Ref sig .tc := ⟨.hbm, 982, rfl⟩
abbrev main_call2_call3_v135 : Ref sig .tc := ⟨.hbm, 983, rfl⟩
abbrev main_call2_call3_v136 : Ref sig .tc := ⟨.hbm, 984, rfl⟩
abbrev main_call2_call3_v137 : Ref sig .tc := ⟨.hbm, 985, rfl⟩
abbrev main_call2_call3_v138 : Ref sig .tc := ⟨.hbm, 986, rfl⟩
abbrev main_call2_call3_v139 : Ref sig .tc := ⟨.hbm, 987, rfl⟩
abbrev main_call2_call3_c_35 : Ref sig .tc := ⟨.hbm, 988, rfl⟩
abbrev main_call2_call3_v140 : Ref sig .tc := ⟨.hbm, 989, rfl⟩
abbrev main_call2_call3_v141 : Ref sig .tc := ⟨.hbm, 990, rfl⟩
abbrev main_call2_call3_v142 : Ref sig .tc := ⟨.hbm, 991, rfl⟩
abbrev main_call2_call3_c_36 : Ref sig .tc := ⟨.hbm, 992, rfl⟩
abbrev main_call2_call3_v143 : Ref sig .tc := ⟨.hbm, 993, rfl⟩
abbrev main_call2_call3_v144 : Ref sig .tc := ⟨.hbm, 994, rfl⟩
abbrev main_call2_call3_c_37 : Ref sig .tc := ⟨.hbm, 995, rfl⟩
abbrev main_call2_call3_v145 : Ref sig .tc := ⟨.hbm, 996, rfl⟩
abbrev main_call2_call3_v146 : Ref sig .tc := ⟨.hbm, 997, rfl⟩
abbrev main_call2_call3_v147 : Ref sig .tc := ⟨.hbm, 998, rfl⟩
abbrev main_call2_call3_v148 : Ref sig .tc := ⟨.hbm, 999, rfl⟩
abbrev main_call2_call3_v149 : Ref sig .tc := ⟨.hbm, 1000, rfl⟩
abbrev main_call2_call3_c_38 : Ref sig .tc := ⟨.hbm, 1001, rfl⟩
abbrev main_call2_call3_v150 : Ref sig .tc := ⟨.hbm, 1002, rfl⟩
abbrev main_call2_call3_v151 : Ref sig .tc := ⟨.hbm, 1003, rfl⟩
abbrev main_call2_call3_c_39 : Ref sig .tc := ⟨.hbm, 1004, rfl⟩
abbrev main_call2_call3_v152 : Ref sig .tc := ⟨.hbm, 1005, rfl⟩
abbrev main_call2_call3_v153 : Ref sig .tc := ⟨.hbm, 1006, rfl⟩
abbrev main_call2_call3_v154 : Ref sig .tc := ⟨.hbm, 1007, rfl⟩
abbrev main_call2_call3_v155 : Ref sig .tc := ⟨.hbm, 1008, rfl⟩
abbrev main_call2_call3_v156 : Ref sig .tc := ⟨.hbm, 1009, rfl⟩
abbrev main_call2_call3_c_40 : Ref sig .tc := ⟨.hbm, 1010, rfl⟩
abbrev main_call2_call3_v157 : Ref sig .tc := ⟨.hbm, 1011, rfl⟩
abbrev main_call2_call3_v158 : Ref sig .tc := ⟨.hbm, 1012, rfl⟩
abbrev main_call2_call3_c_41 : Ref sig .tc := ⟨.hbm, 1013, rfl⟩
abbrev main_call2_call3_v159 : Ref sig .tc := ⟨.hbm, 1014, rfl⟩
abbrev main_call2_call3_v160 : Ref sig .tc := ⟨.hbm, 1015, rfl⟩
abbrev main_call2_call3_v161 : Ref sig .tc := ⟨.hbm, 1016, rfl⟩
abbrev main_call2_call3_v162 : Ref sig .tc := ⟨.hbm, 1017, rfl⟩
abbrev main_call2_call3_v163 : Ref sig .tc := ⟨.hbm, 1018, rfl⟩
abbrev main_call2_call3_c_42 : Ref sig .tc := ⟨.hbm, 1019, rfl⟩
abbrev main_call2_call3_v164 : Ref sig .tc := ⟨.hbm, 1020, rfl⟩
abbrev main_call2_call3_v165 : Ref sig .tc := ⟨.hbm, 1021, rfl⟩
abbrev main_call2_call3_c_43 : Ref sig .tc := ⟨.hbm, 1022, rfl⟩
abbrev main_call2_call3_v166 : Ref sig .tc := ⟨.hbm, 1023, rfl⟩
abbrev main_call2_call3_v167 : Ref sig .tc := ⟨.hbm, 1024, rfl⟩
abbrev main_call2_call3_v168 : Ref sig .tc := ⟨.hbm, 1025, rfl⟩
abbrev main_call2_call3_v169 : Ref sig .tc := ⟨.hbm, 1026, rfl⟩
abbrev main_call2_call3_v170 : Ref sig .tc := ⟨.hbm, 1027, rfl⟩
abbrev main_call2_v35_0 : Ref sig .tc := ⟨.hbm, 1028, rfl⟩
abbrev main_call2_call3_v172 : Ref sig .tc := ⟨.hbm, 1029, rfl⟩
abbrev main_call2_call3_v173 : Ref sig .tc := ⟨.hbm, 1030, rfl⟩
abbrev main_call2_call3_c_44 : Ref sig .tc := ⟨.hbm, 1031, rfl⟩
abbrev main_call2_call3_v174 : Ref sig .tc := ⟨.hbm, 1032, rfl⟩
abbrev main_call2_v35_1 : Ref sig .tc := ⟨.hbm, 1033, rfl⟩
abbrev main_call2_v36 : Ref sig .tc := ⟨.hbm, 1034, rfl⟩
abbrev main_call2_v37_0 : Ref sig .tc := ⟨.hbm, 1035, rfl⟩
abbrev main_v25 : Ref sig .tc := ⟨.hbm, 1036, rfl⟩
abbrev main_v26 : Ref sig .tc := ⟨.hbm, 1037, rfl⟩
abbrev main_c_7 : Ref sig .tc := ⟨.hbm, 1038, rfl⟩
abbrev main_v27 : Ref sig .tc := ⟨.hbm, 1039, rfl⟩
abbrev main_v28 : Ref sig .tc := ⟨.hbm, 1040, rfl⟩
abbrev main_c_8 : Ref sig .tc := ⟨.hbm, 1041, rfl⟩
abbrev main_v29 : Ref sig .tc := ⟨.hbm, 1042, rfl⟩
abbrev main_v30 : Ref sig .tc := ⟨.hbm, 1043, rfl⟩
abbrev main_v31 : Ref sig .tc := ⟨.hbm, 1044, rfl⟩
abbrev main_v32 : Ref sig .tc := ⟨.hbm, 1045, rfl⟩
abbrev main_v33 : Ref sig .tc := ⟨.hbm, 1046, rfl⟩
abbrev main_c_9 : Ref sig .tc := ⟨.hbm, 1047, rfl⟩
abbrev main_c_10 : Ref sig .tc := ⟨.hbm, 1048, rfl⟩
abbrev main_v34_0 : Ref sig .tc := ⟨.hbm, 1049, rfl⟩
abbrev main_v34_1 : Ref sig .tc := ⟨.hbm, 1050, rfl⟩
abbrev main_v34_2 : Ref sig .tc := ⟨.hbm, 1051, rfl⟩
abbrev main_v34_3 : Ref sig .tc := ⟨.hbm, 1052, rfl⟩
abbrev main_while0c_c_25 : Ref sig .tc := ⟨.hbm, 1053, rfl⟩
abbrev main_while0c_v85 : Ref sig .tc := ⟨.hbm, 1054, rfl⟩
abbrev main_while0b_c_25 : Ref sig .tc := ⟨.hbm, 1055, rfl⟩
abbrev main_while0b_v85 : Ref sig .tc := ⟨.hbm, 1056, rfl⟩
abbrev main_while0b_v86 : Ref sig .tc := ⟨.hbm, 1057, rfl⟩
abbrev main_while0b_cst_26 : Ref sig .tc := ⟨.hbm, 1058, rfl⟩
abbrev main_while0b_v87 : Ref sig .tc := ⟨.hbm, 1059, rfl⟩
abbrev main_while0b_v88 : Ref sig .tc := ⟨.hbm, 1060, rfl⟩
abbrev main_while0b_v89 : Ref sig .tc := ⟨.hbm, 1061, rfl⟩
abbrev main_while0b_cst_27 : Ref sig .tc := ⟨.hbm, 1062, rfl⟩
abbrev main_while0b_v90 : Ref sig .tc := ⟨.hbm, 1063, rfl⟩
abbrev main_while0b_v91 : Ref sig .tc := ⟨.hbm, 1064, rfl⟩
abbrev main_while0b_v92 : Ref sig .tc := ⟨.hbm, 1065, rfl⟩
abbrev main_while0b_v93 : Ref sig .tc := ⟨.hbm, 1066, rfl⟩
abbrev main_while0b_v94 : Ref sig .tc := ⟨.hbm, 1067, rfl⟩
abbrev main_while0b_v95 : Ref sig .tc := ⟨.hbm, 1068, rfl⟩
abbrev main_while0b_v96 : Ref sig .tc := ⟨.hbm, 1069, rfl⟩
abbrev main_while0b_cst_28 : Ref sig .tc := ⟨.hbm, 1070, rfl⟩
abbrev main_while0b_v97 : Ref sig .tc := ⟨.hbm, 1071, rfl⟩
abbrev main_while0b_v98 : Ref sig .tc := ⟨.hbm, 1072, rfl⟩
abbrev main_while0b_v99 : Ref sig .tc := ⟨.hbm, 1073, rfl⟩
abbrev main_while0b_cst_29 : Ref sig .tc := ⟨.hbm, 1074, rfl⟩
abbrev main_while0b_v100 : Ref sig .tc := ⟨.hbm, 1075, rfl⟩
abbrev main_while0b_v101 : Ref sig .tc := ⟨.hbm, 1076, rfl⟩
abbrev main_while0b_v102 : Ref sig .tc := ⟨.hbm, 1077, rfl⟩
abbrev main_while0b_call3_v0 : Ref sig .tc := ⟨.hbm, 1078, rfl⟩
abbrev main_while0b_call3_cst : Ref sig .tc := ⟨.hbm, 1079, rfl⟩
abbrev main_while0b_call3_c : Ref sig .tc := ⟨.hbm, 1080, rfl⟩
abbrev main_while0b_call3_v1_0 : Ref sig .tc := ⟨.hbm, 1081, rfl⟩
abbrev main_while0b_v103 : Ref sig .tc := ⟨.hbm, 1082, rfl⟩
abbrev main_while0b_call4_v0 : Ref sig .tc := ⟨.hbm, 1083, rfl⟩
abbrev main_while0b_call4_v1 : Ref sig .tc := ⟨.hbm, 1084, rfl⟩
abbrev main_while0b_call4_v2 : Ref sig .tc := ⟨.hbm, 1085, rfl⟩
abbrev main_while0b_call4_v3 : Ref sig .tc := ⟨.hbm, 1086, rfl⟩
abbrev main_while0b_call4_v4 : Ref sig .tc := ⟨.hbm, 1087, rfl⟩
abbrev main_while0b_v104 : Ref sig .tc := ⟨.hbm, 1088, rfl⟩
abbrev main_while0b_v105 : Ref sig .tc := ⟨.hbm, 1089, rfl⟩
abbrev main_while0b_v106 : Ref sig .tc := ⟨.hbm, 1090, rfl⟩
abbrev main_while0b_cst_30 : Ref sig .tc := ⟨.hbm, 1091, rfl⟩
abbrev main_while0b_v107 : Ref sig .tc := ⟨.hbm, 1092, rfl⟩
abbrev main_while0b_v108 : Ref sig .tc := ⟨.hbm, 1093, rfl⟩
abbrev main_while0b_cst_31 : Ref sig .tc := ⟨.hbm, 1094, rfl⟩
abbrev main_while0b_call5_v0 : Ref sig .tc := ⟨.hbm, 1095, rfl⟩
abbrev main_while0b_call5_v1 : Ref sig .tc := ⟨.hbm, 1096, rfl⟩
abbrev main_while0b_v109 : Ref sig .tc := ⟨.hbm, 1097, rfl⟩
abbrev main_while0b_v110 : Ref sig .tc := ⟨.hbm, 1098, rfl⟩
abbrev main_while0b_v111 : Ref sig .tc := ⟨.hbm, 1099, rfl⟩
abbrev main_while0b_c_32 : Ref sig .tc := ⟨.hbm, 1100, rfl⟩
abbrev main_while0b_v112 : Ref sig .tc := ⟨.hbm, 1101, rfl⟩
abbrev main_v35 : Ref sig .tc := ⟨.hbm, 1102, rfl⟩
abbrev main_v36 : Ref sig .tc := ⟨.hbm, 1103, rfl⟩
abbrev main_v37 : Ref sig .tc := ⟨.hbm, 1104, rfl⟩
abbrev main_v38 : Ref sig .tc := ⟨.hbm, 1105, rfl⟩
abbrev main_v39 : Ref sig .tc := ⟨.hbm, 1106, rfl⟩
abbrev main_v40 : Ref sig .tc := ⟨.hbm, 1107, rfl⟩
abbrev main_v41 : Ref sig .tc := ⟨.hbm, 1108, rfl⟩
abbrev main_cst_11 : Ref sig .tc := ⟨.hbm, 1109, rfl⟩
abbrev main_v42 : Ref sig .tc := ⟨.hbm, 1110, rfl⟩
abbrev main_v43 : Ref sig .tc := ⟨.hbm, 1111, rfl⟩
abbrev main_v44 : Ref sig .tc := ⟨.hbm, 1112, rfl⟩
abbrev main_cst_12 : Ref sig .tc := ⟨.hbm, 1113, rfl⟩
abbrev main_v45 : Ref sig .tc := ⟨.hbm, 1114, rfl⟩
abbrev main_v46 : Ref sig .tc := ⟨.hbm, 1115, rfl⟩
abbrev main_v47 : Ref sig .tc := ⟨.hbm, 1116, rfl⟩
abbrev main_v48 : Ref sig .tc := ⟨.hbm, 1117, rfl⟩
abbrev main_v49 : Ref sig .tc := ⟨.hbm, 1118, rfl⟩
abbrev main_v50 : Ref sig .tc := ⟨.hbm, 1119, rfl⟩
abbrev main_v51 : Ref sig .tc := ⟨.hbm, 1120, rfl⟩
abbrev main_cst_13 : Ref sig .tc := ⟨.hbm, 1121, rfl⟩
abbrev main_v52 : Ref sig .tc := ⟨.hbm, 1122, rfl⟩
abbrev main_v53 : Ref sig .tc := ⟨.hbm, 1123, rfl⟩
abbrev main_v54 : Ref sig .tc := ⟨.hbm, 1124, rfl⟩
abbrev main_cst_14 : Ref sig .tc := ⟨.hbm, 1125, rfl⟩
abbrev main_v55 : Ref sig .tc := ⟨.hbm, 1126, rfl⟩
abbrev main_v56 : Ref sig .tc := ⟨.hbm, 1127, rfl⟩
abbrev main_v57 : Ref sig .tc := ⟨.hbm, 1128, rfl⟩
abbrev main_v58 : Ref sig .tc := ⟨.hbm, 1129, rfl⟩
abbrev main_values : Ref sig .tc := ⟨.hbm, 1130, rfl⟩
abbrev main_indices : Ref sig .tc := ⟨.hbm, 1131, rfl⟩
abbrev main_cst_15 : Ref sig .tc := ⟨.hbm, 1132, rfl⟩
abbrev main_v59 : Ref sig .tc := ⟨.hbm, 1133, rfl⟩
abbrev main_v60 : Ref sig .tc := ⟨.hbm, 1134, rfl⟩
abbrev main_v61 : Ref sig .tc := ⟨.hbm, 1135, rfl⟩
abbrev main_c_16 : Ref sig .tc := ⟨.hbm, 1136, rfl⟩
abbrev main_v62 : Ref sig .tc := ⟨.hbm, 1137, rfl⟩
abbrev main_v63 : Ref sig .tc := ⟨.hbm, 1138, rfl⟩
abbrev main_c_17 : Ref sig .tc := ⟨.hbm, 1139, rfl⟩
abbrev main_v64 : Ref sig .tc := ⟨.hbm, 1140, rfl⟩
abbrev main_v65 : Ref sig .tc := ⟨.hbm, 1141, rfl⟩
abbrev main_v66 : Ref sig .tc := ⟨.hbm, 1142, rfl⟩
abbrev main_c_18 : Ref sig .tc := ⟨.hbm, 1143, rfl⟩
abbrev main_v67 : Ref sig .tc := ⟨.hbm, 1144, rfl⟩
abbrev main_v68 : Ref sig .tc := ⟨.hbm, 1145, rfl⟩
abbrev main_c_19 : Ref sig .tc := ⟨.hbm, 1146, rfl⟩
abbrev main_v69 : Ref sig .tc := ⟨.hbm, 1147, rfl⟩
abbrev main_v70 : Ref sig .tc := ⟨.hbm, 1148, rfl⟩
abbrev main_v71 : Ref sig .tc := ⟨.hbm, 1149, rfl⟩
abbrev main_v72 : Ref sig .tc := ⟨.hbm, 1150, rfl⟩
abbrev main_v73 : Ref sig .tc := ⟨.hbm, 1151, rfl⟩
abbrev main_v74 : Ref sig .tc := ⟨.hbm, 1152, rfl⟩
abbrev main_v75 : Ref sig .tc := ⟨.hbm, 1153, rfl⟩
abbrev main_cst_20 : Ref sig .tc := ⟨.hbm, 1154, rfl⟩
abbrev main_v76 : Ref sig .tc := ⟨.hbm, 1155, rfl⟩
abbrev main_v77 : Ref sig .tc := ⟨.hbm, 1156, rfl⟩
abbrev main_v78 : Ref sig .tc := ⟨.hbm, 1157, rfl⟩
abbrev main_v79 : Ref sig .tc := ⟨.hbm, 1158, rfl⟩
abbrev main_cst_21 : Ref sig .tc := ⟨.hbm, 1159, rfl⟩
abbrev main_v80 : Ref sig .tc := ⟨.hbm, 1160, rfl⟩
abbrev main_v81 : Ref sig .tc := ⟨.hbm, 1161, rfl⟩
abbrev main_v82 : Ref sig .tc := ⟨.hbm, 1162, rfl⟩
abbrev main_v83 : Ref sig .tc := ⟨.hbm, 1163, rfl⟩
abbrev main_v84 : Ref sig .tc := ⟨.hbm, 1164, rfl⟩

abbrev nD : Nat := 1
abbrev τ : Topo := Topo.v7x

variable {F : FTy → Type} [FloatOps F]

abbrev main_while0_count : Scf.Loop 32 := ⟨0#32, 10#32, 1#32⟩
-- ==== Proof.KernelIdeal.Body.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.VecWindow
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the body computes, as functions of the windows' contents -/

/-- Trip `k` of the tile loop works on rows `7168 k … 7168 k + 7167`. -/
theorem off1_eq : ∀ k : Fin k0_t2_loop.trips, k0_off1 k = ![7168 * k.val, 0] := by decide +kernel
/-- The rounds' loop makes ten trips. -/
theorem trips1_eq : k0_t1_loop.trips = 10 := by decide +kernel
/-- The tiles' loop makes seven trips. -/
theorem trips2_eq : k0_t2_loop.trips = 7 := by decide +kernel
/-- The neighbours' loop makes eight trips. -/
theorem trips3_eq : k0_t3_loop.trips = 8 := by decide +kernel

/-- Rows `7168 k … 7168 k + 7167` of an array of 50176 rows. -/
def tile (X : Vec F S50176x128 .f32) (k : Fin k0_t2_loop.trips) : Vec F S7168x128 .f32 :=
  VecWindow.window X (k0_off1 k) S7168x128.size (k0_off1_inb k)

/-- The tile a row lies in. -/
def tileOf (y : S50176x128.Idx) : Fin k0_t2_loop.trips :=
  ⟨(y 0).val / 7168, by rw [trips2_eq]; have : (y 0).val < 50176 := (y 0).isLt; omega⟩

/-- A place's position inside its tile. -/
def inTile (y : S50176x128.Idx) : S7168x128.Idx := Fin.cons (⟨(y 0).val % 7168, Nat.mod_lt _ (by decide)⟩ : Fin 7168) (Fin.cons (⟨(y 1).val, (y 1).isLt⟩ : Fin 128) (fun a => a.elim0))

/-- The one-hot matrix of the pixels' nearest centroids, assembled from its tiles. -/
def onehot (cc : Vec F S128x128 .f32) (X : Vec F S50176x128 .f32) : Vec F S50176x128 .f32 :=
  fun y => k0_pay9 cc (tile X (tileOf y)) (inTile y)

/-- The centroids before trip `k` of the clustering loop. -/
def cent (X : Vec F S50176x128 .f32) (c0 : Vec F S128x128 .f32) : ℕ → Vec F S128x128 .f32
  | 0 => k0_pay8 c0
  | k + 1 => k0_pay10 (onehot (cent X c0 k) X) X

/-- The distances and the graph before trip `k` of the neighbour loop. -/
def knn (cc : Vec F S128x128 .f32) : ℕ → FVec F S128x128 .f32 × FVec F S128x128 .f32
  | 0 => (k0_pay1 (k0_pay12 cc) (k0_pay13 cc), k0_pay2 (F := F))
  | k + 1 => (k0_pay5 (knn cc k).1, k0_pay4 (knn cc k).1 (knn cc k).2)

/-- The neighbour loop's rounds, folded. -/
theorem knn_fold (cc : Vec F S128x128 .f32) :
    Scf.fold (fun (_ : Fin k0_t3_loop.trips) (a : FVec F S128x128 .f32 × FVec F S128x128 .f32) => (k0_pay5 a.1, k0_pay4 a.1 a.2))
      (k0_pay1 (k0_pay12 cc) (k0_pay13 cc), k0_pay2 (F := F)) = knn cc 8 := by
  rw [Scf.fold_eq, List.foldl_const, List.length_finRange, trips3_eq]
  generalize (8 : ℕ) = n
  induction n with
  | zero => rfl
  | succ n ih => rw [Function.iterate_succ_apply', ih, knn]

/-- The two results' blocks. -/
def feats (X : Vec F S50176x128 .f32) (c0 w : Vec F S128x128 .f32) (b : Vec F S1x128 .f32) : Vec F S128x128 .f32 :=
  k0_pay11 (cent X c0 10) w b
/-- The second result: the graph of the final centroids. -/
def adj (X : Vec F S50176x128 .f32) (c0 : Vec F S128x128 .f32) : Vec F S128x128 .f32 :=
  k0_pay6 (knn (cent X c0 10) 8).2

/-! ## The loops -/

section Loops

variable (𝒱 : Variants) (c : Dev nD) (bd : Option 𝒱.V) (E : Set ℕ)
  (arg0 : Memref sig .tc .vmem S50176x128 .f32) (harg0 : arg0.IsWhole)
  (arg1 : Memref sig .tc .vmem S128x128 .f32) (harg1 : arg1.IsWhole)
  (arg2 : Memref sig .tc .vmem S128x128 .f32) (harg2 : arg2.IsWhole)
  (arg3 : Memref sig .tc .vmem S1x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S50176x128 .f32) (harg7 : arg7.IsWhole)

local notation "𝕄" => MT nD τ sig Unit (Elt F) ℕ (UR sig nD τ) ℕ

/-- What one trip of the tile loop stores. -/
theorem tripL_eq (v59 : Vec F S128x128 .f32) (X : BufTy.Contents (Elt F) arg0.view.ty) (k : Fin k0_t2_loop.trips) :
    tripL_k0_t2 (F := F) 𝒱 c bd arg0 harg0 arg1 harg1 arg2 harg2 arg3 harg3 arg4 harg4 arg5 harg5 arg6 harg6 arg7 harg7 v59 X k
      = [⟨Rect.unit (s := S50176x128) (k0_off1 k) S7168x128.size (k0_off1_inb k), k0_pay9 v59 (tile (arg0.view.read (Elt F) X) k)⟩] := by
  unfold tripL_k0_t2 trip_k0_t2
  dsimp only
  sl_unfold_words
  rfl

/-- After `n` trips of the tile loop the rows of the first `n` tiles hold the one-hot matrix. -/
theorem read_tiles (v59 : Vec F S128x128 .f32) (X : BufTy.Contents (Elt F) arg0.view.ty) (G : BufTy.Contents (Elt F) arg7.view.ty)
    (n : ℕ) (hn : n ≤ k0_t2_loop.trips) (y : S50176x128.Idx) (hy : (y 0).val < 7168 * n) :
    arg7.view.read (Elt F) (arg7.view.writes (Elt F) G (pb_k0_t2 (F := F) 𝒱 c bd arg0 harg0 arg1 harg1 arg2 harg2 arg3 harg3 arg4 harg4 arg5 harg5 arg6 harg6 arg7 harg7 v59 X n)) y
      = onehot v59 (arg0.view.read (Elt F) X) y := by
  induction n with
  | zero => omega
  | succ n ih =>
    rw [pb_k0_t2_succ 𝒱 c bd arg0 harg0 arg1 harg1 arg2 harg2 arg3 harg3 arg4 harg4 arg5 harg5 arg6 harg6 arg7 harg7 v59 X ⟨n, hn⟩, tripL_eq, List.singleton_append]
    by_cases h : (y 0).val < 7168 * n
    · rw [View.read_writes_cons_unit_of_not_mem _ _ _ _ _ y (off1_eq ⟨n, hn⟩) 0 (Or.inl (by simpa using h))]
      exact ih (by omega) h
    · have ht : tileOf y = ⟨n, hn⟩ := Fin.ext (by show (y 0).val / 7168 = n; omega)
      refine (View.read_writes_cons_unit_of_mem (s := S50176x128) (size := S7168x128.size) _ _ _ _ _ y (inTile y : S7168x128.Idx) (off1_eq ⟨n, hn⟩) (fun a => by
        match a with
        | 0 => show (y 0).val = 7168 * n + (y 0).val % 7168; omega
        | 1 => show (y 1).val = 0 + (y 1).val; omega)).trans ?_
      unfold onehot; rw [ht]

/-- The whole one-hot matrix after the tile loop. -/
theorem read_tiles_all (v59 : Vec F S128x128 .f32) (X : BufTy.Contents (Elt F) arg0.view.ty) (G : BufTy.Contents (Elt F) arg7.view.ty) :
    arg7.view.read (Elt F) (arg7.view.writes (Elt F) G (pb_k0_t2 (F := F) 𝒱 c bd arg0 harg0 arg1 harg1 arg2 harg2 arg3 harg3 arg4 harg4 arg5 harg5 arg6 harg6 arg7 harg7 v59 X k0_t2_loop.trips))
      = onehot v59 (arg0.view.read (Elt F) X) :=
  funext fun y => read_tiles 𝒱 c bd arg0 harg0 arg1 harg1 arg2 harg2 arg3 harg3 arg4 harg4 arg5 harg5 arg6 harg6 arg7 harg7 v59 X G _ le_rfl y (by
    rw [trips2_eq]; exact (y 0).isLt)

/-- Before trip `k` of the clustering loop: the pixels as staged, the centroids after `k` updates, the one-hot scratch at something. -/
abbrev inv_k0_t1 (X : BufTy.Contents (Elt F) arg0.view.ty) (c0 : Vec F S128x128 .f32) (k : ℕ) (_u : PUnit) : sProp 𝕄 :=
  iprop((arg0.view.loc (c : Thread nD τ) ↦[arg0.view.set]{fullShare} X)
    ∗ (∃ f6 : BufTy.Contents (Elt F) arg6.view.ty, (arg6.view.loc (c : Thread nD τ) ↦[arg6.view.set]{fullShare} f6) ∗ ⌜arg6.view.read (Elt F) f6 = cent (arg0.view.read (Elt F) X) c0 k⌝)
    ∗ (∃ f7 : BufTy.Contents (Elt F) arg7.view.ty, (arg7.view.loc (c : Thread nD τ) ↦[arg7.view.set]{fullShare} f7)))

set_option warn.classDefReducibility false in
/-- The clustering loop by its invariant. -/
@[sl_loop] def loopInv_k0_t1 (X : BufTy.Contents (Elt F) arg0.view.ty) (c0 : Vec F S128x128 .f32) :
    Gen.LoopInvTy_k0_t1 (F := F) Unit ℕ (UR sig nD τ) ℕ 𝒱 c bd E arg0 harg0 arg1 harg1 arg2 harg2 arg3 harg3 arg4 harg4 arg5 harg5 arg6 harg6 arg7 harg7 where
  inv := inv_k0_t1 (F := F) c arg0 arg6 arg7 X c0
  step k acc := by
    unfold k0_t1_body
    iintro ⟨H0, ⟨%f6, H6, %h6⟩, ⟨%f7, H7⟩⟩
    sl_exec
    sl_step
    isplitl [H0]; · iexact H0
    isplitl [H6]
    · iexists _; isplitl [H6]; · iexact H6
      ipureintro
      sl_unfold_words
      rw [View.read_writes_full, View.readAt_full, View.readAt_full, View.readAt_full, read_tiles_all, h6]
      rfl
    · iexists _; iexact H7

/-- What the body needs and gives back. -/
abbrev bufs (X : BufTy.Contents (Elt F) arg0.view.ty) (C : BufTy.Contents (Elt F) arg1.view.ty) (W : BufTy.Contents (Elt F) arg2.view.ty) (B : BufTy.Contents (Elt F) arg3.view.ty)
    (P4 : BufTy.Contents (Elt F) arg4.view.ty → Prop) (P5 : BufTy.Contents (Elt F) arg5.view.ty → Prop) : sProp 𝕄 :=
  iprop((arg0.view.loc (c : Thread nD τ) ↦[arg0.view.set]{fullShare} X) ∗ (arg1.view.loc (c : Thread nD τ) ↦[arg1.view.set]{fullShare} C)
    ∗ (arg2.view.loc (c : Thread nD τ) ↦[arg2.view.set]{fullShare} W) ∗ (arg3.view.loc (c : Thread nD τ) ↦[arg3.view.set]{fullShare} B)
    ∗ (∃ f, (arg4.view.loc (c : Thread nD τ) ↦[arg4.view.set]{fullShare} f) ∗ ⌜P4 f⌝)
    ∗ (∃ f, (arg5.view.loc (c : Thread nD τ) ↦[arg5.view.set]{fullShare} f) ∗ ⌜P5 f⌝)
    ∗ (∃ f : BufTy.Contents (Elt F) arg6.view.ty, (arg6.view.loc (c : Thread nD τ) ↦[arg6.view.set]{fullShare} f))
    ∗ (∃ f : BufTy.Contents (Elt F) arg7.view.ty, (arg7.view.loc (c : Thread nD τ) ↦[arg7.view.set]{fullShare} f)))

/-- The first part's run: the clustering, and the features stored. -/
theorem part1Run (X : BufTy.Contents (Elt F) arg0.view.ty) (C : BufTy.Contents (Elt F) arg1.view.ty) (W : BufTy.Contents (Elt F) arg2.view.ty) (B : BufTy.Contents (Elt F) arg3.view.ty) (f5 : BufTy.Contents (Elt F) arg5.view.ty) :
    bufs c arg0 arg1 arg2 arg3 arg4 arg5 arg6 arg7 X C W B (fun _ => True) (fun f => f = f5)
    ⊢ wp Idealize.ShloMosaic.frame (wpE (defs₀ (F := F)) 𝒱 (c : Thread nD τ) bd) E (k0_part1 (F := F) arg0 harg0 arg1 harg1 arg2 harg2 arg3 harg3 arg4 harg4 arg5 harg5 arg6 harg6 arg7 harg7)
      (fun r => iprop(⌜r = ⟨k0_pay12 (cent (arg0.view.read (Elt F) X) (arg1.view.read (Elt F) C) 10), k0_pay13 (cent (arg0.view.read (Elt F) X) (arg1.view.read (Elt F) C) 10)⟩⌝
        ∗ bufs c arg0 arg1 arg2 arg3 arg4 arg5 arg6 arg7 X C W B
        (fun f => arg4.view.read (Elt F) f = feats (arg0.view.read (Elt F) X) (arg1.view.read (Elt F) C) (arg2.view.read (Elt F) W) (arg3.view.read (Elt F) B))
        (fun f => f = f5))) := by
  rw [k0_part1_eq_skeleton]
  unfold k0_part1_skel
  iintro ⟨H0, H1, H2, H3, ⟨%f4, H4, -⟩, ⟨%f5', H5, %h5⟩, ⟨%f6, H6⟩, ⟨%f7, H7⟩⟩
  subst h5
  sl_exec
  sl_for (inv_k0_t1 (F := F) c arg0 arg6 arg7 X (arg1.view.read (Elt F) C)) $$ [H0 H6 H7]
  case region => exact fun k acc => (loopInv_k0_t1 (F := F) 𝒱 c bd E arg0 harg0 arg1 harg1 arg2 harg2 arg3 harg3 arg4 harg4 arg5 harg5 arg6 harg6 arg7 harg7 X (arg1.view.read (Elt F) C)).step k acc
  · isplitl [H0]; · iexact H0
    isplitl [H6]
    · iexists _; isplitl [H6]; · iexact H6
      ipureintro
      sl_unfold_words
      rw [View.read_writes_full, View.readAt_full]; rfl
    · iexists _; iexact H7
  iintro %_ ⟨H0, ⟨%f6', H6, %h6⟩, ⟨%f7', H7⟩⟩
  sl_exec
  sl_step
  have e6 : arg6.view.readAt (Elt F) (Rect.unit (s := S128x128) ![0, 0] S128x128.size inb_S128x128_S128x128_0_0).toLoadRect f6'
      = cent (arg0.view.read (Elt F) X) (arg1.view.read (Elt F) C) 10 := by
    rw [View.readAt_full, h6]; exact congrArg _ trips1_eq
  isplitr; · ipureintro; rw [e6]
  isplitl [H0]; · iexact H0
  isplitl [H1]; · iexact H1
  isplitl [H2]; · iexact H2
  isplitl [H3]; · iexact H3
  isplitl [H4]
  · iexists _; isplitl [H4]; · iexact H4
    ipureintro
    beta_reduce
    rw [View.read_writes_full, e6, View.readAt_full, View.readAt_full]; rfl
  isplitl [H5]
  · iexists _; isplitl [H5]; · iexact H5
    ipureintro; rfl
  isplitl [H6]
  · iexists _; iexact H6
  · iexists _; iexact H7

/-- The body's run: it leaves the four operands, and the two results at `feats` and `adj`. -/
theorem kernelRun (X : BufTy.Contents (Elt F) arg0.view.ty) (C : BufTy.Contents (Elt F) arg1.view.ty) (W : BufTy.Contents (Elt F) arg2.view.ty) (B : BufTy.Contents (Elt F) arg3.view.ty) :
    bufs c arg0 arg1 arg2 arg3 arg4 arg5 arg6 arg7 X C W B (fun _ => True) (fun _ => True)
    ⊢ wp Idealize.ShloMosaic.frame (wpE (defs₀ (F := F)) 𝒱 (c : Thread nD τ) bd) E (cc0__kmeans_graph_kernel (F := F) arg0 harg0 arg1 harg1 arg2 harg2 arg3 harg3 arg4 harg4 arg5 harg5 arg6 harg6 arg7 harg7)
      (fun _ => bufs c arg0 arg1 arg2 arg3 arg4 arg5 arg6 arg7 X C W B
        (fun f => arg4.view.read (Elt F) f = feats (arg0.view.read (Elt F) X) (arg1.view.read (Elt F) C) (arg2.view.read (Elt F) W) (arg3.view.read (Elt F) B))
        (fun f => arg5.view.read (Elt F) f = adj (arg0.view.read (Elt F) X) (arg1.view.read (Elt F) C))) := by
  rw [cc0__kmeans_graph_kernel_eq_skeleton]
  unfold cc0__kmeans_graph_kernel_skel
  iintro ⟨H0, H1, H2, H3, ⟨%f4, H4, -⟩, ⟨%f5, H5, -⟩, ⟨%f6, H6⟩, ⟨%f7, H7⟩⟩
  rw [wp_bind]
  iapply (wp_wand_r Idealize.ShloMosaic.frame (wpE (defs₀ (F := F)) 𝒱 (c : Thread nD τ) bd) E)
  isplitl [H0 H1 H2 H3 H4 H5 H6 H7]
  · iapply (part1Run (F := F) 𝒱 c bd E arg0 harg0 arg1 harg1 arg2 harg2 arg3 harg3 arg4 harg4 arg5 harg5 arg6 harg6 arg7 harg7 X C W B f5)
    isplitl [H0]; · iexact H0
    isplitl [H1]; · iexact H1
    isplitl [H2]; · iexact H2
    isplitl [H3]; · iexact H3
    isplitl [H4]
    · iexists _; isplitl [H4]; · iexact H4
      ipureintro; trivial
    isplitl [H5]
    · iexists _; isplitl [H5]; · iexact H5
      ipureintro; rfl
    isplitl [H6]
    · iexists _; iexact H6
    · iexists _; iexact H7
  iintro %r ⟨%hr, H0, H1, H2, H3, ⟨%f4', H4, %h4⟩, ⟨%f5', H5, %h5⟩, ⟨%f6', H6⟩, ⟨%f7', H7⟩⟩
  subst hr
  sl_exec
  sl_step
  isplitl [H0]; · iexact H0
  isplitl [H1]; · iexact H1
  isplitl [H2]; · iexact H2
  isplitl [H3]; · iexact H3
  isplitl [H4]
  · iexists _; isplitl [H4]; · iexact H4
    ipureintro; exact h4
  isplitl [H5]
  · iexists _; isplitl [H5]; · iexact H5
    ipureintro
    beta_reduce
    rw [View.read_writes_full]
    sl_unfold_words
    rw [knn_fold]; rfl
  isplitl [H6]
  · iexists _; iexact H6
  · iexists _; iexact H7

end Loops

end Cert.Proof.KernelIdeal

end
-- ==== Proof.KernelIdeal.Run.lean ====
module

public import proofs.«01_k».proof.Proof.KernelIdeal.Body
public import Idealize.ShloMosaic.Lib.Pipeline.FrameSuffix
public import Idealize.ShloMosaic.Lib.Pipeline.FrameBody

@[expose] public section

set_option maxRecDepth 16384
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The blocks the four operands' staging buffers hold. -/
def blkX (c : Dev nD) : Vec F S50176x128 .f32 := iblk m c 0 t0_0
/-- The block of the first centroids. -/
def blkC (c : Dev nD) : Vec F S128x128 .f32 := iblk m c 1 t0_0
/-- The block of the weights. -/
def blkW (c : Dev nD) : Vec F S128x128 .f32 := iblk m c 2 t0_0
/-- The block of the bias. -/
def blkB (c : Dev nD) : Vec F S1x128 .f32 := iblk m c 3 t0_0

/-- The region's data on core `c`: the arrays as the host operations leave them; after the body each operand's block in place
    and the results' at `feats` and `adj`; the scratch at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => feats (blkX m c) (blkC m c) (blkW m c) (blkB m c)
    | ⟨5, _⟩ => adj (blkX m c) (blkC m c)
  Φ _ := Pipeline.ΦA spec0 c
  q _ := fullShare
  owed _ := 0

/-- The arrays at the launch are the buffers behind the windows. -/
theorem A_eq (c : Dev nD) (w : Fin cfg0.W) : (dats m 0 c).A w = V m c (Pipeline.arrRef spec0 w) := by
  dsimp only [dats]

/-- No loop of the launch carries a variant. -/
abbrev 𝒱₀ : Variants := Variants.none

/-- Each operand's staging buffer holds its block when the body runs. -/
theorem before_0 (c : Dev nD) (d) : (dats m 0 c).before 0 t0_0 d = iblk m c 0 t0_0 :=
  before0_0_of m (dats m 0 c) (A_eq m c 0) (fun _ => by dsimp only [dats]) t0_0 d
/-- Before the body runs the window of the first centroids holds its block. -/
theorem before_1 (c : Dev nD) (d) : (dats m 0 c).before 1 t0_0 d = iblk m c 1 t0_0 :=
  before0_1_of m (dats m 0 c) (A_eq m c 1) (fun _ => by dsimp only [dats]) t0_0 d
/-- Before the body runs the window of the weights holds its block. -/
theorem before_2 (c : Dev nD) (d) : (dats m 0 c).before 2 t0_0 d = iblk m c 2 t0_0 :=
  before0_2_of m (dats m 0 c) (A_eq m c 2) (fun _ => by dsimp only [dats]) t0_0 d
/-- Before the body runs the window of the bias holds its block. -/
theorem before_3 (c : Dev nD) (d) : (dats m 0 c).before 3 t0_0 d = iblk m c 3 t0_0 :=
  before0_3_of m (dats m 0 c) (A_eq m c 3) (fun _ => by dsimp only [dats]) t0_0 d

/-- The scratch of the region's invariant, as the body's two scratch buffers. -/
theorem phi_eq (c : Dev nD) (t : Fin (cfg0.N + 1)) : (dats m 0 c).Φ t = (Pipeline.ΦA spec0 c : sProp 𝕄) := by
  dsimp only [dats]

/-- No signal is owed at any step. -/
theorem owed_eq (c : Dev nD) (t : Fin (cfg0.N + 1)) : (dats m 0 c).owed t = 0 := by dsimp only [dats]

/-- Nothing is owed before the body or after it. -/
theorem owes_eq (c : Dev nD) : ((dats m 0 c).owesAt () t0_0.castSucc : sProp 𝕄) ⊢ (dats m 0 c).owesAt () t0_0.succ := by
  unfold Dat.owesAt Pipeline.owesWithin
  rw [owed_eq, owed_eq]
  iintro ⟨%Ww, %hW, HO⟩
  iexists Ww; isplitr; · ipureintro; exact fun _ _ => Or.inl trivial
  iexact HO

/-- The body on the staging buffers, whatever blocks they hold. -/
theorem bodyTriple (c : Dev nD) (X0 : Vec F S50176x128 .f32) (X1 X2 : Vec F S128x128 .f32) (X3 : Vec F S1x128 .f32) (Z4 : Vec F S128x128 .f32) (Z5 : Vec F S128x128 .f32) :
    iprop(Pipeline.ΦA spec0 c ∗ owns c (stage0_0 0) fullShare X0 ∗ owns c (stage0_1 0) fullShare X1 ∗ owns c (stage0_2 0) fullShare X2
      ∗ owns c (stage0_3 0) fullShare X3 ∗ owns c (stage0_4 0) fullShare Z4 ∗ owns c (stage0_5 0) fullShare Z5)
    ⊢ (wp Idealize.ShloMosaic.frame (wpE (defs₀ (F := F)) 𝒱₀ (c : Thread nD τ) none) Set.univ (cc0__kmeans_graph_kernel (F := F) (stage0_0 0) (hstage0_0 0) (stage0_1 0) (hstage0_1 0) (stage0_2 0) (hstage0_2 0) (stage0_3 0) (hstage0_3 0)
      (stage0_4 0) (hstage0_4 0) (stage0_5 0) (hstage0_5 0) (Memref.whole cc0_scratch0) (Memref.isWhole_whole _) (Memref.whole cc0_scratch1) (Memref.isWhole_whole _))
      (fun _ => iprop(Pipeline.ΦA spec0 c ∗ owns c (stage0_0 0) fullShare X0 ∗ owns c (stage0_1 0) fullShare X1 ∗ owns c (stage0_2 0) fullShare X2
        ∗ owns c (stage0_3 0) fullShare X3 ∗ owns c (stage0_4 0) fullShare (feats X0 X1 X2 X3) ∗ owns c (stage0_5 0) fullShare (adj X0 X1))) : sProp 𝕄) := by
  unfold Pipeline.ΦA owns; rw [scopedRest0_eq]
  iintro ⟨⟨⟨⟨%f6, H6⟩, ⟨%f7, H7⟩⟩, Hρ⟩, ⟨%f0, %h0, H0⟩, ⟨%f1, %h1, H1⟩, ⟨%f2, %h2, H2⟩, ⟨%f3, %h3, H3⟩, ⟨%f4, %h4, H4⟩, ⟨%f5, %h5, H5⟩⟩
  subst h0 h1 h2 h3
  iapply (wp_wand_r Idealize.ShloMosaic.frame (wpE (defs₀ (F := F)) 𝒱₀ (c : Thread nD τ) none) Set.univ)
  isplitl [H0 H1 H2 H3 H4 H5 H6 H7]
  · iapply (kernelRun (F := F) 𝒱₀ c none Set.univ (stage0_0 0) (hstage0_0 0) (stage0_1 0) (hstage0_1 0) (stage0_2 0) (hstage0_2 0) (stage0_3 0) (hstage0_3 0)
      (stage0_4 0) (hstage0_4 0) (stage0_5 0) (hstage0_5 0) (Memref.whole cc0_scratch0) (Memref.isWhole_whole _) (Memref.whole cc0_scratch1) (Memref.isWhole_whole _) f0 f1 f2 f3)
    isplitl [H0]; · iexact H0
    isplitl [H1]; · iexact H1
    isplitl [H2]; · iexact H2
    isplitl [H3]; · iexact H3
    isplitl [H4]
    · iexists _; isplitl [H4]; · iexact H4
      ipureintro; trivial
    isplitl [H5]
    · iexists _; isplitl [H5]; · iexact H5
      ipureintro; trivial
    simp only [Memref.view_whole, View.set_whole]
    isplitl [H6]
    · iexists _; iexact H6
    · iexists _; iexact H7
  iintro %_
  unfold bufs
  simp only [Memref.view_whole, View.set_whole]
  iintro ⟨H0, H1, H2, H3, ⟨%f4', H4, %h4'⟩, ⟨%f5', H5, %h5'⟩, ⟨%f6', H6⟩, ⟨%f7', H7⟩⟩
  isplitl [H6 H7 Hρ]
  · isplitr [Hρ]
    · isplitl [H6]
      · iexists _; iexact H6
      · iexists _; iexact H7
    · iexact Hρ
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; exact h4'
  iexists _; isplitr; swap; (· iexact H5); ipureintro; exact h5'

/-- The body obligation: `bodyTriple` at the blocks. -/
theorem body_obligation (c : Dev nD) : BodyObligation (dats m 0 c) (defs₀ (F := F)) 𝒱₀ () Set.univ := fun t => by
  obtain rfl := fin_N0 t
  rw [bigSep_W0, bigSep_W0]
  rw [phi_eq m c t0_0.castSucc, phi_eq m c t0_0.succ]
  iintro ⟨HΦ, HO, ⟨%d0, H0⟩, ⟨%d1, H1⟩, ⟨%d2, H2⟩, ⟨%d3, H3⟩, ⟨%d4, H4⟩, ⟨%d5, H5⟩⟩
  rw [before_0, before_1, before_2, before_3]
  generalize (dats m 0 c).before 4 t0_0 d4 = Z4
  generalize (dats m 0 c).before 5 t0_0 d5 = Z5
  iapply (wp_wand_r Idealize.ShloMosaic.frame (wpE (defs₀ (F := F)) 𝒱₀ (c : Thread nD τ) none) Set.univ)
  isplitl [HΦ H0 H1 H2 H3 H4 H5]
  · iapply (bodyTriple (F := F) c (blkX m c) (blkC m c) (blkW m c) (blkB m c) Z4 Z5)
    isplitl [HΦ]; · iexact HΦ
    isplitl [H0]; · iexact H0
    isplitl [H1]; · iexact H1
    isplitl [H2]; · iexact H2
    isplitl [H3]; · iexact H3
    isplitl [H4]; · iexact H4
    iexact H5
  iintro %_ ⟨HΦ, H0, H1, H2, H3, H4, H5⟩
  isplitl [HΦ]; · iexact HΦ
  isplitl [HO]; · iapply (owes_eq m c); iexact HO
  dsimp only [dats]
  isplitl [H0]; · iexact H0
  isplitl [H1]; · iexact H1
  isplitl [H2]; · iexact H2
  isplitl [H3]; · iexact H3
  isplitl [H4]; · iexact H4
  iexact H5

/-! ## The launch -/

/-- Every window is held whole. -/
theorem share_eq (c : Dev nD) (w : Fin cfg0.W) : (dats m 0 c).share w = fullShare := by
  unfold Dat.share; split <;> rfl

/-- The run: the region's arrays after its one point, every other buffer as the host operations leave it, every semaphore at zero. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main (fun c => (body_obligation m c).loose) (share_eq m) (owed_eq m) (V0 m) [hostOps1]
    sfx_sub sfx_fresh sfx_keeps (hmain m 𝒱₀) (A_eq m) (phi_eq m) (Q' := _) (hQ' := fun _ h => h)

/-- The three arguments end as launched, and every semaphore at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ ⟨h, hs⟩ => ⟨fun c => ⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩, hs⟩) (run m ρ)

/-! ## What the results hold -/

/-- The first result's array after the region: `feats` of the operands' blocks; -/
theorem arrAt_4 (c : Dev nD) : (dats m 0 c).arrAt 4 cfg0.N = feats (blkX m c) (blkC m c) (blkW m c) (blkB m c) := by
  rw [show cfg0.N = t0_0.val + 1 from rfl, (dats m 0 c).arrAt_succ 4 t0_0, if_pos (show (cfg0.win 4).flush t0_0 = true from rfl)]
  refine (Memref.write_access_unit_zero_univ (Elt F) main_v44_0 (funext fun a => by fin_cases a <;> decide) ..).trans ?_
  unfold Dat.flushed; dsimp only [dats]; rfl

/-- and the second's: `adj`. -/
theorem arrAt_5 (c : Dev nD) : (dats m 0 c).arrAt 5 cfg0.N = adj (blkX m c) (blkC m c) := by
  rw [show cfg0.N = t0_0.val + 1 from rfl, (dats m 0 c).arrAt_succ 5 t0_0, if_pos (show (cfg0.win 5).flush t0_0 = true from rfl)]
  refine (Memref.write_access_unit_zero_univ (Elt F) main_v44_1 (funext fun a => by fin_cases a <;> decide) ..).trans ?_
  unfold Dat.flushed; dsimp only [dats]; rfl

/-- Reading a window's one block reads its whole array, whatever the arrays hold. -/
theorem read_0 (c : Dev nD) (W : (b : Ref sig .tc) → Buf (Elt F) ((c : Thread nD τ).loc b)) :
    ((cfg0.win 0).blk t0_0).view.read (Elt F) (W (Pipeline.arrRef spec0 0)) = W main_v26 :=
  Memref.read_access_unit_zero (Elt F) main_v26 (funext fun a => by fin_cases a <;> decide) _ (W main_v26)
/-- Reading the whole array of the first centroids gives its contents. -/
theorem read_1 (c : Dev nD) (W : (b : Ref sig .tc) → Buf (Elt F) ((c : Thread nD τ).loc b)) :
    ((cfg0.win 1).blk t0_0).view.read (Elt F) (W (Pipeline.arrRef spec0 1)) = W main_v43 :=
  Memref.read_access_unit_zero (Elt F) main_v43 (funext fun a => by fin_cases a <;> decide) _ (W main_v43)
/-- Reading the whole array of the weights gives its contents. -/
theorem read_2 (c : Dev nD) (W : (b : Ref sig .tc) → Buf (Elt F) ((c : Thread nD τ).loc b)) :
    ((cfg0.win 2).blk t0_0).view.read (Elt F) (W (Pipeline.arrRef spec0 2)) = W main_v15 :=
  Memref.read_access_unit_zero (Elt F) main_v15 (funext fun a => by fin_cases a <;> decide) _ (W main_v15)
/-- Reading the whole array of the bias gives its contents. -/
theorem read_3 (c : Dev nD) (W : (b : Ref sig .tc) → Buf (Elt F) ((c : Thread nD τ).loc b)) :
    ((cfg0.win 3).blk t0_0).view.read (Elt F) (W (Pipeline.arrRef spec0 3)) = W main_v16 :=
  Memref.read_access_unit_zero (Elt F) main_v16 (funext fun a => by fin_cases a <;> decide) _ (W main_v16)

/-- The blocks are the operands' whole arrays, as the host operations before the region leave them. -/
theorem blkX_eq (c : Dev nD) : blkX m c = V m c main_v26 := by
  unfold blkX iblk; exact read_0 c (fun b => V m c b)
/-- The block of the first centroids is its whole array. -/
theorem blkC_eq (c : Dev nD) : blkC m c = V m c main_v43 := by
  unfold blkC iblk; exact read_1 c (fun b => V m c b)
/-- The block of the weights is its whole array. -/
theorem blkW_eq (c : Dev nD) : blkW m c = V m c main_v15 := by
  unfold blkW iblk; exact read_2 c (fun b => V m c b)
/-- The block of the bias is its whole array. -/
theorem blkB_eq (c : Dev nD) : blkB m c = V m c main_v16 := by
  unfold blkB iblk; exact read_3 c (fun b => V m c b)

/-- Different windows have different arrays. -/
theorem arr_inj : Function.Injective (Pipeline.arrRef spec0) := by decide

/-- The first result of the program: `feats` of the four operands, as one batch; -/
theorem res0 (c : Dev nD) : Pipeline.afterTail₀ cfgs (dats m) 0 (V0 m) [hostOps1] c main_v45
    = broadcastInDim S1x128x128 ![1, 2] bcast_S128x128_S1x128x128_1_2 (feats (V m c main_v26) (V m c main_v43) (V m c main_v15) (V m c main_v16)) := by
  unfold Pipeline.afterTail₀
  simp only [List.flatten_cons, List.flatten_nil, List.append_nil, hostOps1, StableHlo.after_cons, StableHlo.after_nil]
  rw [StableHlo.unary_result_ne, StableHlo.unary_result]
  rw [show (Pipeline.withArrays (cfgs 0).spec c (V0 m c) (fun w => (dats m 0 c).arrAt w (cfgs 0).N) (Proc.tc.devRef main_v44_0)) = (dats m 0 c).arrAt 4 cfg0.N from
    Pipeline.withArrays_arr (cfgs 0).spec arr_inj c (V0 m c) (fun w => (dats m 0 c).arrAt w (cfgs 0).N) 4, arrAt_4, blkX_eq, blkC_eq, blkW_eq, blkB_eq]
  decide

/-- and the second: `adj` of the first two. -/
theorem res1 (c : Dev nD) : Pipeline.afterTail₀ cfgs (dats m) 0 (V0 m) [hostOps1] c main_v46
    = broadcastInDim S1x128x128 ![1, 2] bcast_S128x128_S1x128x128_1_2 (adj (V m c main_v26) (V m c main_v43)) := by
  unfold Pipeline.afterTail₀
  simp only [List.flatten_cons, List.flatten_nil, List.append_nil, hostOps1, StableHlo.after_cons, StableHlo.after_nil]
  rw [StableHlo.unary_result, StableHlo.unary_result_ne]
  rw [show (Pipeline.withArrays (cfgs 0).spec c (V0 m c) (fun w => (dats m 0 c).arrAt w (cfgs 0).N) (Proc.tc.devRef main_v44_1)) = (dats m 0 c).arrAt 5 cfg0.N from
    Pipeline.withArrays_arr (cfgs 0).spec arr_inj c (V0 m c) (fun w => (dats m 0 c).arrAt w (cfgs 0).N) 5, arrAt_5, blkX_eq, blkC_eq]
  decide

/-- The program's two results and its arguments at the end of every run. -/
theorem values : θ_run defs (onTc (τ := τ) (main (F := F))) ⟨m, fun _ => 0, ρ⟩ (fun r => ∀ c : Dev nD,
      r.2.mem ((c.tc : Thread nD τ).loc main_v45) = broadcastInDim S1x128x128 ![1, 2] bcast_S128x128_S1x128x128_1_2 (feats (V m c main_v26) (V m c main_v43) (V m c main_v15) (V m c main_v16))
      ∧ r.2.mem ((c.tc : Thread nD τ).loc main_v46) = broadcastInDim S1x128x128 ![1, 2] bcast_S128x128_S1x128x128_1_2 (adj (V m c main_v26) (V m c main_v43))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ ⟨h, hs⟩ c => ⟨((h c).2 main_v45 (Pipeline.mem_restRefs_of main_v45 (by decide) (by decide))).trans (res0 m c),
      ((h c).2 main_v46 (Pipeline.mem_restRefs_of main_v46 (by decide) (by decide))).trans (res1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run m ρ)

end Cert.Proof.KernelIdeal

end
-- ==== Proof.ReferenceIdeal.Ops.lean ====
/-
  The reference's program as lists of host operations: for each module-local function and for @main, the operations in
  the order they run, with the proof that the printed program is their sequence. A list is not written out again: it is
  what the proof of "this program is the sequence of some list" finds, one operation at a time.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384
set_option maxHeartbeats 1000000

noncomputable section

namespace Cert.Proof.ReferenceIdeal

open Cert.ReferenceIdeal Cert.ReferenceIdeal.Gen
open Idealize.ShloMosaic Idealize.ShloMosaic.TcCoe Idealize.ShloMosaic.Tactic
open Idealize.SL Idealize.SL.RA Idealize.SL.BI Idealize.SL.Sem
open Idealize.ShloMosaic.StableHlo

variable {F : FTy → Type} [FloatOps F]

/-- The programs of the reference: unit programs of its own signature. -/
abbrev RProg (F : FTy → Type) [FloatOps F] : Type _ := Prog (TpuEff nD τ sig (Elt F) (HostLoop.Sig (Pipeline.Sig Λ₀ (Fin 0) fun p => (pcfgs (F := F) p).Adm) 1) .tc) PUnit

/-- What the run asks of an operation: it touches TensorCore references only and allocates nothing. -/
def Good (o : HloOp τ sig (Elt F)) : Prop := o.bufs ⊆ tcRefs τ sig ∧ o.fresh = ∅

/-- The program `p` is the sequence of the operations `l`, each good. -/
def Runs (p : RProg F) (l : List (HloOp τ sig (Elt F))) : Prop := p = seq l ∧ ∀ o ∈ l, Good o

/-- The program `p` is the operations `pre`, the loop, the operations `post`. -/
def RunsLoop (p : RProg F) (pre post : List (HloOp τ sig (Elt F))) : Prop :=
  (p = (seq pre >>= fun _ => HostLoop.enter 0 >>= fun _ => seq post)) ∧ (∀ o ∈ pre, Good o) ∧ ∀ o ∈ post, Good o

/-- The empty program runs no operation. -/
theorem Runs.done : Runs (F := F) (pure ⟨⟩) [] := ⟨rfl, fun _ h => nomatch h⟩

/-- An operation and what follows it. -/
theorem Runs.op {o : HloOp τ sig (Elt F)} {h : _} {rest : PUnit → RProg F} {l : List (HloOp τ sig (Elt F))} (hg : Good o) (hr : Runs (rest ⟨⟩) l) :
    Runs ((hlo h o fun _ => .ret ⟨⟩) >>= rest) (o :: l) :=
  ⟨by rw [seq, ← hr.1], fun x hx => by rcases List.mem_cons.mp hx with rfl | hx; exacts [hg, hr.2 x hx]⟩

/-- A called function's operations and what follows them. -/
theorem Runs.call {p : RProg F} {rest : PUnit → RProg F} {l l' : List (HloOp τ sig (Elt F))} (hp : Runs p l) (hr : Runs (rest ⟨⟩) l') :
    Runs (p >>= rest) (l ++ l') :=
  ⟨by rw [seq_append, ← hp.1, ← hr.1], fun x hx => by rcases List.mem_append.mp hx with hx | hx; exacts [hp.2 x hx, hr.2 x hx]⟩

/-- An operation before the loop. -/
theorem RunsLoop.op {o : HloOp τ sig (Elt F)} {h : _} {rest : PUnit → RProg F} {l l' : List (HloOp τ sig (Elt F))} (hg : Good o) (hr : RunsLoop (rest ⟨⟩) l l') :
    RunsLoop ((hlo h o fun _ => .ret ⟨⟩) >>= rest) (o :: l) l' :=
  ⟨by rw [seq, bind_assoc, ← hr.1], fun x hx => by rcases List.mem_cons.mp hx with rfl | hx; exacts [hg, hr.2.1 x hx], hr.2.2⟩

/-- A called function before the loop. -/
theorem RunsLoop.call {p : RProg F} {rest : PUnit → RProg F} {l l₁ l' : List (HloOp τ sig (Elt F))} (hp : Runs p l) (hr : RunsLoop (rest ⟨⟩) l₁ l') :
    RunsLoop (p >>= rest) (l ++ l₁) l' :=
  ⟨by rw [seq_append, bind_assoc, ← hr.1, hp.1], fun x hx => by rcases List.mem_append.mp hx with hx | hx; exacts [hp.2 x hx, hr.2.1 x hx], hr.2.2⟩

/-- The loop itself and what follows it. -/
theorem RunsLoop.enter {rest : PUnit → RProg F} {l' : List (HloOp τ sig (Elt F))} (hr : Runs (rest ⟨⟩) l') :
    RunsLoop (HostLoop.enter 0 >>= rest) [] l' :=
  ⟨by rw [seq, pure_bind, ← hr.1], (fun _ h => nomatch h), hr.2⟩

/-- A stretch before the loop and the stretch with the loop. -/
theorem RunsLoop.andThen {p : RProg F} {rest : PUnit → RProg F} {l l₁ l' : List (HloOp τ sig (Elt F))} (hp : RunsLoop p l l₁) (hr : Runs (rest ⟨⟩) l') :
    RunsLoop (p >>= rest) l (l₁ ++ l') :=
  ⟨by rw [hp.1, bind_assoc]; congr 1; funext _; rw [bind_assoc]; congr 1; funext _; rw [seq_append, ← hr.1], hp.2.1,
    fun x hx => by rcases List.mem_append.mp hx with hx | hx; exacts [hp.2.2 x hx, hr.2 x hx]⟩

/-- A constant is a plain operation. -/
theorem good_nullary {y : Ref sig .tc} {v : y.ty.Contents (Elt F)} {hy : _} : Good (StableHlo.nullary (τ := τ) y v hy) := ⟨nullary_bufs_sub .., rfl⟩
/-- An operation of one operand is plain. -/
theorem good_unary {x y : Ref sig .tc} {f : x.ty.Contents (Elt F) → y.ty.Contents (Elt F)} {hx hy : _} : Good (StableHlo.unary (τ := τ) x y f hx hy) :=
  ⟨unary_bufs_sub .., rfl⟩
/-- An operation of two operands is plain. -/
theorem good_binary {a b y : Ref sig .tc} {f : a.ty.Contents (Elt F) → b.ty.Contents (Elt F) → y.ty.Contents (Elt F)} {ha hb hy : _} :
    Good (StableHlo.binary (τ := τ) a b y f ha hb hy) := ⟨binary_bufs_sub .., rfl⟩
/-- An operation of three operands is plain. -/
theorem good_ternary {c a b y : Ref sig .tc} {f : c.ty.Contents (Elt F) → a.ty.Contents (Elt F) → b.ty.Contents (Elt F) → y.ty.Contents (Elt F)} {hc ha hb hy : _} :
    Good (StableHlo.ternary (τ := τ) c a b y f hc ha hb hy) := ⟨ternary_bufs_sub .., rfl⟩
/-- A reshape is plain. -/
theorem good_reshape {x y : Ref sig .tc} {he hn hx hy : _} : Good (StableHlo.reshape (τ := τ) (Val := Elt F) x y he hn hx hy) := ⟨reshape_bufs_sub .., rfl⟩

/-- An operation of four operands is plain. -/
theorem good_quaternary {a b c e y : Ref sig .tc}
    {f : a.ty.Contents (Elt F) → b.ty.Contents (Elt F) → c.ty.Contents (Elt F) → e.ty.Contents (Elt F) → y.ty.Contents (Elt F)} {ha hb hc he hy : _} :
    Good (StableHlo.quaternary (τ := τ) a b c e y f ha hb hc he hy) := ⟨quaternary_bufs_sub .., rfl⟩
/-- An operation of a list of operands is plain. -/
theorem good_nary {n : ℕ} {xs : Fin n → Ref sig .tc} {y : Ref sig .tc} {f : ((k : Fin n) → (xs k).ty.Contents (Elt F)) → y.ty.Contents (Elt F)} {hx hy : _} :
    Good (StableHlo.nary (τ := τ) xs y f hx hy) := ⟨nary_bufs_sub .., rfl⟩

/-- The operations of one call of @linspace. -/
def linspaceOps (a0 a1 : TRef sig ⟨S_, .f32⟩) (φ : fn_linspace.Bufs) : {l : List (HloOp τ sig (Elt F)) // Runs (fn_linspace.body a0 a1 φ) l} := by
  apply Subtype.mk
  unfold fn_linspace.body
  repeat
    first
      | apply Runs.op; first
        | with_reducible exact good_unary
        | with_reducible exact good_nullary
        | with_reducible exact good_binary
        | with_reducible exact good_reshape
        | with_reducible exact good_ternary
        | with_reducible exact good_quaternary
        | with_reducible exact good_nary
      | exact Runs.done

/-- The operations of one call of @shuffle: both of its rounds, each a split of the key, the random words and a stable sort by them. -/
def shuffleOps (a0 : TRef sig ⟨S2, .i32⟩) (a1 : TRef sig ⟨S50176, .i32⟩) (φ : fn_shuffle.Bufs) :
    {l : List (HloOp τ sig (Elt F)) // Runs (fn_shuffle.body a0 a1 φ) l} := by
  apply Subtype.mk
  unfold fn_shuffle.body
  repeat
    first
      | apply Runs.op; first
        | with_reducible exact good_unary
        | with_reducible exact good_nullary
        | with_reducible exact good_binary
        | with_reducible exact good_reshape
        | with_reducible exact good_ternary
        | with_reducible exact good_quaternary
        | with_reducible exact good_nary
      | exact Runs.done
      | apply Runs.call
      | unfold fn_threefry_split.body
      | unfold fn_threefry_split_1.body
      | unfold fn_threefry2x32.body
      | unfold fn_threefry2x32_0.body
      | unfold fn_threefry2x32.body_part0
      | unfold fn_threefry2x32.body_part1
      | unfold fn_threefry2x32.body_part2
      | unfold fn_threefry2x32.body_part3
      | unfold fn_threefry2x32_0.body_part0
      | unfold fn_threefry2x32_0.body_part1
      | unfold fn_threefry2x32_0.body_part2
      | unfold fn_threefry2x32_0.body_part3

/-- The operations of one trip of the loop. -/
def bodyOps : {l : List (HloOp τ sig (Elt F)) // Runs main_while0_body l} := by
  apply Subtype.mk
  unfold main_while0_body
  repeat
    first
      | apply Runs.op; first
        | with_reducible exact good_unary
        | with_reducible exact good_nullary
        | with_reducible exact good_binary
        | with_reducible exact good_reshape
        | with_reducible exact good_ternary
        | with_reducible exact good_quaternary
        | with_reducible exact good_nary
      | exact Runs.done
      | apply Runs.call
      | unfold fn_argmin.body
      | unfold fn_one_hot.body
      | unfold fn_clip.body

/-- The operations of @main's first part: those before the loop, and the first few after it. -/
def part0Ops : {l : List (HloOp τ sig (Elt F)) × List (HloOp τ sig (Elt F)) // ∀ d, RunsLoop (main_part0 d) l.1 l.2} := by
  apply Subtype.mk (val := Prod.mk _ _)
  intro d
  unfold main_part0
  dsimp only
  repeat
    first
      | apply RunsLoop.enter
      | apply RunsLoop.op; first
        | with_reducible exact good_unary
        | with_reducible exact good_nullary
        | with_reducible exact good_binary
        | with_reducible exact good_reshape
        | with_reducible exact good_ternary
        | with_reducible exact good_nary
      | apply Runs.op; first
        | with_reducible exact good_unary
        | with_reducible exact good_nullary
        | with_reducible exact good_binary
        | with_reducible exact good_reshape
        | with_reducible exact good_ternary
        | with_reducible exact good_nary
      | exact Runs.done
      | apply RunsLoop.call (linspaceOps ..).2
      | apply RunsLoop.call (shuffleOps ..).2

/-- The operations of @main's second part. -/
def part1Ops : {l : List (HloOp τ sig (Elt F)) // ∀ d, Runs (main_part1 d) l} := by
  apply Subtype.mk
  intro d
  unfold main_part1
  dsimp only
  repeat
    first
      | apply Runs.op; first
        | with_reducible exact good_unary
        | with_reducible exact good_nullary
        | with_reducible exact good_binary
        | with_reducible exact good_reshape
        | with_reducible exact good_ternary
        | with_reducible exact good_nary
      | exact Runs.done

/-- The operations before the loop. -/
abbrev preOps : List (HloOp τ sig (Elt F)) := part0Ops.1.1

/-- The operations after the loop. -/
abbrev postOps : List (HloOp τ sig (Elt F)) := part0Ops.1.2 ++ part1Ops.1

/-- @main is the operations before the loop, the loop, the operations after it. -/
theorem main_runs (d : Dev nD) : RunsLoop (F := F) (main d) preOps postOps := RunsLoop.andThen (part0Ops.2 d) (part1Ops.2 d)

end Cert.Proof.ReferenceIdeal

end
-- ==== Proof.Ssa.lean ====
/-
  Straight-line programs that write every buffer once, in the order of the buffers' numbers, and read only buffers of
  smaller numbers: after such a run the contents satisfy every operation's equation at once, and the buffers below the
  first one written are as they were.
-/
module

public import Idealize.ShloMosaic.Lib.StableHlo.Run
public import Idealize.ShloMosaic.Lib.Pipeline.Frame

@[expose] public section

namespace Cert.Proof.Ssa

open Idealize.ShloMosaic Idealize.ShloMosaic.StableHlo

variable {τ : Topo} {sig : RefSig} {Val : EltTy → Type}

/-- The operation writes the one buffer `y`, and what it writes depends on buffers of smaller numbers alone. -/
structure Step (op : HloOp τ sig Val) (y : Ref sig .tc) : Prop where
  writes : op.writes = {Proc.devRef .tc y}
  dep : ∀ V V' : Valuation τ sig Val, (∀ r : Ref sig .tc, r.idx.val < y.idx.val → V (Proc.devRef .tc r) = V' (Proc.devRef .tc r)) →
    op.result V (Proc.devRef .tc y) = op.result V' (Proc.devRef .tc y)

/-- The operations `l` write, in rising order, buffers numbered from `lo` on and below `hi`, each from smaller ones. -/
inductive Mono : ℕ → List (HloOp τ sig Val) → ℕ → Prop
  | nil {lo hi} (h : lo ≤ hi) : Mono lo [] hi
  | cons {lo hi op y l} (hs : Step op y) (hl : lo ≤ y.idx.val) (ht : Mono (y.idx.val + 1) l hi) : Mono lo (op :: l) hi

/-- A rising list that starts at a number starts at any smaller one. -/
theorem Mono.lower {a b c : ℕ} {l : List (HloOp τ sig Val)} (h : Mono a l c) (hb : b ≤ a) : Mono b l c := by
  cases h with
  | nil h => exact .nil (hb.trans h)
  | cons hs hl ht => exact .cons hs (hb.trans hl) ht

/-- Two rising lists, one after the other. -/
theorem Mono.append {a b c : ℕ} {l l' : List (HloOp τ sig Val)} (h : Mono a l b) (h' : Mono b l' c) : Mono a (l ++ l') c := by
  induction h with
  | nil hb => exact h'.lower hb
  | cons hs hl _ ih => exact .cons hs hl (ih h')

/-- The buffers below the first one written are as they were. -/
theorem Mono.keeps {lo hi : ℕ} {l : List (HloOp τ sig Val)} (h : Mono lo l hi) (V : Valuation τ sig Val) {r : Ref sig .tc} (hr : r.idx.val < lo) :
    after l V (Proc.devRef .tc r) = V (Proc.devRef .tc r) := by
  induction h generalizing V with
  | nil _ => rfl
  | cons hs hl _ ih =>
    rw [after_cons, ih _ (by omega), HloOp.result_of_not_mem]
    rw [hs.writes, Finset.mem_singleton]
    exact devRef_ne_of_ne (by rintro rfl; omega)

/-- The contents `W` satisfy the equation of the operation. -/
def Sat (W : Valuation τ sig Val) (op : HloOp τ sig Val) : Prop := ∀ b ∈ op.writes, W b = op.result W b

/-- The contents `W` satisfy the equations of all the operations. -/
def Sats (W : Valuation τ sig Val) : List (HloOp τ sig Val) → Prop
  | [] => True
  | op :: l => Sat W op ∧ Sats W l

/-- The equations of two lists are those of each. -/
theorem Sats.append {W : Valuation τ sig Val} {l l' : List (HloOp τ sig Val)} : Sats W (l ++ l') ↔ Sats W l ∧ Sats W l' := by
  induction l with
  | nil => simp [Sats]
  | cons op l ih => simp [Sats, ih, and_assoc]

/-- After the run the contents satisfy the equations of all its operations. -/
theorem Mono.sats {lo hi : ℕ} {l : List (HloOp τ sig Val)} (h : Mono lo l hi) (V : Valuation τ sig Val) : Sats (after l V) l := by
  induction h generalizing V with
  | nil _ => trivial
  | @cons lo hi op y l hs hl ht ih =>
    rw [after_cons]
    refine ⟨fun b hb => ?_, ih _⟩
    rw [hs.writes, Finset.mem_singleton] at hb
    subst hb
    rw [ht.keeps _ (by omega)]
    refine hs.dep _ _ fun r hr => ?_
    rw [ht.keeps _ (by omega), HloOp.result_of_not_mem]
    rw [hs.writes, Finset.mem_singleton]
    exact devRef_ne_of_ne (by rintro rfl; omega)

section Kinds

variable {x y a b c e : Ref sig .tc}

/-- A constant writes its buffer. -/
theorem step_nullary {v : y.ty.Contents Val} {hy : _} : Step (StableHlo.nullary (τ := τ) y v hy) y :=
  ⟨nullary_writes .., fun V V' _ => by rw [nullary_result, nullary_result]⟩

/-- An operation of one operand reads a smaller buffer. -/
theorem step_unary {f : x.ty.Contents Val → y.ty.Contents Val} {hx hy : _} (h : x.idx.val < y.idx.val) : Step (StableHlo.unary (τ := τ) x y f hx hy) y :=
  ⟨unary_writes .., fun V V' hV => by rw [unary_result, unary_result, hV _ h]⟩

/-- An operation of two operands reads smaller buffers. -/
theorem step_binary {f : a.ty.Contents Val → b.ty.Contents Val → y.ty.Contents Val} {ha hb hy : _} (h : a.idx.val < y.idx.val) (h' : b.idx.val < y.idx.val) :
    Step (StableHlo.binary (τ := τ) a b y f ha hb hy) y :=
  ⟨binary_writes .., fun V V' hV => by rw [binary_result, binary_result, hV _ h, hV _ h']⟩

/-- An operation of three operands reads smaller buffers. -/
theorem step_ternary {f : c.ty.Contents Val → a.ty.Contents Val → b.ty.Contents Val → y.ty.Contents Val} {hc ha hb hy : _} (h₀ : c.idx.val < y.idx.val) (h : a.idx.val < y.idx.val) (h' : b.idx.val < y.idx.val) :
    Step (StableHlo.ternary (τ := τ) c a b y f hc ha hb hy) y :=
  ⟨ternary_writes .., fun V V' hV => by rw [ternary_result, ternary_result, hV _ h₀, hV _ h, hV _ h']⟩

/-- An operation of four operands reads smaller buffers. -/
theorem step_quaternary {f : a.ty.Contents Val → b.ty.Contents Val → c.ty.Contents Val → e.ty.Contents Val → y.ty.Contents Val} {ha hb hc he hy : _}
    (h₀ : a.idx.val < y.idx.val) (h : b.idx.val < y.idx.val) (h' : c.idx.val < y.idx.val) (h₁ : e.idx.val < y.idx.val) :
    Step (StableHlo.quaternary (τ := τ) a b c e y f ha hb hc he hy) y :=
  ⟨quaternary_writes .., fun V V' hV => by rw [quaternary_result, quaternary_result, hV _ h₀, hV _ h, hV _ h', hV _ h₁]⟩

/-- A reshape reads a smaller buffer. -/
theorem step_reshape {he hn hx hy : _} (h : x.idx.val < y.idx.val) : Step (StableHlo.reshape (τ := τ) (Val := Val) x y he hn hx hy) y :=
  ⟨reshape_writes .., fun V V' hV => by rw [reshape_result, reshape_result, hV _ h]⟩

/-- An operation of a list of operands reads smaller buffers. -/
theorem step_nary {n : ℕ} {xs : Fin n → Ref sig .tc} {f : ((k : Fin n) → (xs k).ty.Contents Val) → y.ty.Contents Val} {hx hy : _}
    (h : ∀ k, (xs k).idx.val < y.idx.val) : Step (StableHlo.nary (τ := τ) xs y f hx hy) y :=
  ⟨nary_writes .., fun V V' hV => by rw [nary_result, nary_result]; congr 1; funext k; exact hV _ (h k)⟩

/-- Each kind's equation, read at its result buffer. -/
theorem sat_iff {W : Valuation τ sig Val} {op : HloOp τ sig Val} (h : op.writes = {Proc.devRef .tc y}) :
    Sat W op ↔ W (Proc.devRef .tc y) = op.result W (Proc.devRef .tc y) := by
  unfold Sat
  rw [h]
  exact ⟨fun h => h _ (Finset.mem_singleton_self _), fun h b hb => by rw [Finset.mem_singleton] at hb; subst hb; exact h⟩

/-- The equation of a constant. -/
theorem sat_nullary {W : Valuation τ sig Val} {v : y.ty.Contents Val} {hy : _} :
    Sat W (StableHlo.nullary (τ := τ) y v hy) ↔ W (Proc.devRef .tc y) = v := by
  rw [sat_iff (nullary_writes ..), nullary_result]

/-- The equation of an operation of one operand. -/
theorem sat_unary {W : Valuation τ sig Val} {f : x.ty.Contents Val → y.ty.Contents Val} {hx hy : _} :
    Sat W (StableHlo.unary (τ := τ) x y f hx hy) ↔ W (Proc.devRef .tc y) = f (W (Proc.devRef .tc x)) := by
  rw [sat_iff (unary_writes ..), unary_result]

/-- The equation of an operation of two operands. -/
theorem sat_binary {W : Valuation τ sig Val} {f : a.ty.Contents Val → b.ty.Contents Val → y.ty.Contents Val} {ha hb hy : _} :
    Sat W (StableHlo.binary (τ := τ) a b y f ha hb hy) ↔ W (Proc.devRef .tc y) = f (W (Proc.devRef .tc a)) (W (Proc.devRef .tc b)) := by
  rw [sat_iff (binary_writes ..), binary_result]

/-- The equation of an operation of three operands. -/
theorem sat_ternary {W : Valuation τ sig Val} {f : c.ty.Contents Val → a.ty.Contents Val → b.ty.Contents Val → y.ty.Contents Val} {hc ha hb hy : _} :
    Sat W (StableHlo.ternary (τ := τ) c a b y f hc ha hb hy) ↔
      W (Proc.devRef .tc y) = f (W (Proc.devRef .tc c)) (W (Proc.devRef .tc a)) (W (Proc.devRef .tc b)) := by
  rw [sat_iff (ternary_writes ..), ternary_result]

/-- The equation of an operation of four operands. -/
theorem sat_quaternary {W : Valuation τ sig Val}
    {f : a.ty.Contents Val → b.ty.Contents Val → c.ty.Contents Val → e.ty.Contents Val → y.ty.Contents Val} {ha hb hc he hy : _} :
    Sat W (StableHlo.quaternary (τ := τ) a b c e y f ha hb hc he hy) ↔
      W (Proc.devRef .tc y) = f (W (Proc.devRef .tc a)) (W (Proc.devRef .tc b)) (W (Proc.devRef .tc c)) (W (Proc.devRef .tc e)) := by
  rw [sat_iff (quaternary_writes ..), quaternary_result]

/-- The equation of a reshape. -/
theorem sat_reshape {W : Valuation τ sig Val} {he hn hx hy : _} :
    Sat W (StableHlo.reshape (τ := τ) (Val := Val) x y he hn hx hy) ↔
      W (Proc.devRef .tc y) = (StableHlo.reshape (τ := τ) (Val := Val) x y he hn hx hy).result W (Proc.devRef .tc y) :=
  sat_iff (reshape_writes ..)

/-- The equation of an operation of a list of operands. -/
theorem sat_nary {W : Valuation τ sig Val} {n : ℕ} {xs : Fin n → Ref sig .tc} {f : ((k : Fin n) → (xs k).ty.Contents Val) → y.ty.Contents Val} {hx hy : _} :
    Sat W (StableHlo.nary (τ := τ) xs y f hx hy) ↔ W (Proc.devRef .tc y) = f fun k => W (Proc.devRef .tc (xs k)) := by
  rw [sat_iff (nary_writes ..), nary_result]

end Kinds

end Cert.Proof.Ssa

end
-- ==== Proof.ReferenceIdeal.Order.lean ====
/-
  The reference's host operations before the loop, in one trip of it, and after it write every buffer once and in rising
  order.
-/
module

public import proofs.«01_k».proof.Proof.ReferenceIdeal.Ops
public import proofs.«01_k».proof.Proof.Ssa

@[expose] public section

set_option maxRecDepth 16384
set_option maxHeartbeats 2000000

noncomputable section

namespace Cert.Proof.ReferenceIdeal

open Cert.ReferenceIdeal Cert.ReferenceIdeal.Gen Cert.Proof.Ssa
open Idealize.ShloMosaic Idealize.ShloMosaic.TcCoe Idealize.ShloMosaic.Tactic
open Idealize.ShloMosaic.StableHlo

variable {F : FTy → Type} [FloatOps F]

/-- The shuffle's operations, at @main's one call of it. -/
abbrev shufOps : List (HloOp τ sig (Elt F)) := (shuffleOps (F := F) (.of main_v23) (.of main_v24) main_call2).1

/-- One trip's operations up to the copies into the carried buffers. -/
def tripOps : {l : List (HloOp τ sig (Elt F)) // l = bodyOps.1.take 47} := by
  apply Subtype.mk
  dsimp only [bodyOps, List.take, List.cons_append, List.nil_append]

/-- One trip's copies into the carried buffers: the counters and the centroids. -/
def copyOps : {l : List (HloOp τ sig (Elt F)) // l = bodyOps.1.drop 47} := by
  apply Subtype.mk
  dsimp only [bodyOps, List.drop, List.cons_append, List.nil_append]

/-- A trip is its operations, then the copies. -/
theorem bodyOps_eq : (bodyOps (F := F)).1 = tripOps.1 ++ copyOps.1 := by
  rw [tripOps.2, copyOps.2, List.take_append_drop]

/-- The operations before the shuffle. -/
def headOps : {l : List (HloOp τ sig (Elt F)) // preOps.take 74 = l} := by
  apply Subtype.mk
  dsimp only [preOps, part0Ops, linspaceOps, List.cons_append, List.nil_append, List.take]

/-- The operations between the shuffle and the loop. -/
def tailOps : {l : List (HloOp τ sig (Elt F)) // preOps.drop 74 = shufOps ++ l} := by
  apply Subtype.mk
  dsimp only [preOps, part0Ops, linspaceOps, List.cons_append, List.nil_append, List.drop]

/-- Before the loop: the head, the shuffle, the tail. -/
theorem preOps_eq : preOps (F := F) = headOps.1 ++ (shufOps ++ tailOps.1) := by
  rw [← headOps.2, ← tailOps.2, List.take_append_drop]

/-- The operations of one trip are in rising order. -/
theorem tripOps_mono : Mono 1053 (tripOps (F := F)).1 100000 := by
  dsimp only [tripOps]
  repeat
    first
      | exact Mono.nil (by decide)
      | (with_reducible refine Mono.cons (step_unary ?_) ?_ ?_); (· decide); (· decide)
      | (with_reducible refine Mono.cons (step_nullary) ?_ ?_); (· decide)
      | (with_reducible refine Mono.cons (step_binary ?_ ?_) ?_ ?_); (· decide); (· decide); (· decide)
      | (with_reducible refine Mono.cons (step_reshape ?_) ?_ ?_); (· decide); (· decide)
      | (with_reducible refine Mono.cons (step_ternary ?_ ?_ ?_) ?_ ?_); (· decide); (· decide); (· decide); (· decide)
      | (with_reducible refine Mono.cons (step_quaternary ?_ ?_ ?_ ?_) ?_ ?_); (· decide); (· decide); (· decide); (· decide); (· decide)
      | (with_reducible refine Mono.cons (step_nary ?_) ?_ ?_); (· decide); (· decide)

/-- The shuffle's operations are in rising order. -/
theorem shufOps_mono : Mono 77 (shufOps (F := F)) 1037 := by
  dsimp only [shufOps, shuffleOps, List.cons_append, List.nil_append]
  repeat
    first
      | exact Mono.nil (by decide)
      | (with_reducible refine Mono.cons (step_unary ?_) ?_ ?_); (· decide); (· decide)
      | (with_reducible refine Mono.cons (step_nullary) ?_ ?_); (· decide)
      | (with_reducible refine Mono.cons (step_binary ?_ ?_) ?_ ?_); (· decide); (· decide); (· decide)
      | (with_reducible refine Mono.cons (step_reshape ?_) ?_ ?_); (· decide); (· decide)
      | (with_reducible refine Mono.cons (step_ternary ?_ ?_ ?_) ?_ ?_); (· decide); (· decide); (· decide); (· decide)
      | (with_reducible refine Mono.cons (step_quaternary ?_ ?_ ?_ ?_) ?_ ?_); (· decide); (· decide); (· decide); (· decide); (· decide)
      | (with_reducible refine Mono.cons (step_nary ?_) ?_ ?_); (· decide); (· decide)

/-- The operations before the loop are in rising order. -/
theorem preOps_mono : Mono 3 (preOps (F := F)) 1053 := by
  dsimp only [preOps, part0Ops, linspaceOps, List.cons_append, List.nil_append]
  repeat
    first
      | exact Mono.nil (by decide)
      | refine Mono.append (shufOps_mono.lower (by decide)) ?_
      | (with_reducible refine Mono.cons (step_unary ?_) ?_ ?_); (· decide); (· decide)
      | (with_reducible refine Mono.cons (step_nullary) ?_ ?_); (· decide)
      | (with_reducible refine Mono.cons (step_binary ?_ ?_) ?_ ?_); (· decide); (· decide); (· decide)
      | (with_reducible refine Mono.cons (step_reshape ?_) ?_ ?_); (· decide); (· decide)
      | (with_reducible refine Mono.cons (step_ternary ?_ ?_ ?_) ?_ ?_); (· decide); (· decide); (· decide); (· decide)
      | (with_reducible refine Mono.cons (step_quaternary ?_ ?_ ?_ ?_) ?_ ?_); (· decide); (· decide); (· decide); (· decide); (· decide)
      | (with_reducible refine Mono.cons (step_nary ?_) ?_ ?_); (· decide); (· decide)

/-- The operations after the loop are in rising order. -/
theorem postOps_mono : Mono 1053 (postOps (F := F)) 100000 := by
  dsimp only [postOps, part0Ops, part1Ops, List.cons_append, List.nil_append]
  repeat
    first
      | exact Mono.nil (by decide)
      | (with_reducible refine Mono.cons (step_unary ?_) ?_ ?_); (· decide); (· decide)
      | (with_reducible refine Mono.cons (step_nullary) ?_ ?_); (· decide)
      | (with_reducible refine Mono.cons (step_binary ?_ ?_) ?_ ?_); (· decide); (· decide); (· decide)
      | (with_reducible refine Mono.cons (step_reshape ?_) ?_ ?_); (· decide); (· decide)
      | (with_reducible refine Mono.cons (step_ternary ?_ ?_ ?_) ?_ ?_); (· decide); (· decide); (· decide); (· decide)
      | (with_reducible refine Mono.cons (step_quaternary ?_ ?_ ?_ ?_) ?_ ?_); (· decide); (· decide); (· decide); (· decide); (· decide)
      | (with_reducible refine Mono.cons (step_nary ?_) ?_ ?_); (· decide); (· decide)

end Cert.Proof.ReferenceIdeal

end
-- ==== Proof.ReferenceIdeal.Run.lean ====
/-
  The reference's run: from any memory with zero counters it ends, its three arguments as they were and every counter at
  zero; and what its result buffers then hold, as the folds of its operation lists.
-/
module

public import proofs.«01_k».proof.Proof.ReferenceIdeal.Order
public import Idealize.ShloMosaic.Lib.Quiescent

@[expose] public section

set_option maxRecDepth 16384
set_option maxHeartbeats 2000000

noncomputable section

namespace Cert.Proof.ReferenceIdeal

open Cert.ReferenceIdeal Cert.ReferenceIdeal.Gen Cert.Proof.Ssa
open Idealize.ShloMosaic Idealize.ShloMosaic.TcCoe Idealize.ShloMosaic.Tactic
open Idealize.SL Idealize.SL.RA Idealize.SL.BI Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-- The loop condition's operations: the bound, the comparison. -/
abbrev condOps : List (HloOp τ sig (Elt F)) :=
  [StableHlo.nullary main_while0c_c_25 (constantI S_ 32 10#32),
    StableHlo.binary main_v34_1 main_while0c_c_25 main_while0c_v85
      (cmpi .slt : (⟨S_, .i32⟩ : BufTy).Contents (Elt F) → (⟨S_, .i32⟩ : BufTy).Contents (Elt F) → (⟨S_, .i1⟩ : BufTy).Contents (Elt F))]

/-- The contents at the loop's entry. -/
abbrev entry (c : Dev nD) : Valuation τ sig (Elt F) := after preOps fun b => m (c, b)

/-- The contents before the `k`-th condition. -/
def atK : ℕ → Dev nD → Valuation τ sig (Elt F)
  | 0 => entry m
  | k + 1 => fun c => after bodyOps.1 (after condOps (atK k c))

/-- The contents at a trip, as the loop rule names them. -/
theorem atTrip_eq (k : ℕ) : atTrip condOps [bodyOps.1] (entryContents [preOps] m) k = atK m k := by
  induction k with
  | zero => rfl
  | succ k ih => funext c; rw [atTrip_succ, ih]; rfl

/-- The condition writes no buffer below its own. -/
theorem cond_keeps (V : Valuation τ sig (Elt F)) {r : Ref sig .tc} (h : r.idx.val < 1053) :
    after condOps V (Proc.devRef .tc r) = V (Proc.devRef .tc r) := by
  rw [after_cons, after_cons, after_nil, binary_result_ne, nullary_result_ne]
  · rintro rfl; revert h; decide
  · rintro rfl; revert h; decide

/-- One trip leaves the buffers below the carried ones as they are. -/
theorem body_keeps (V : Valuation τ sig (Elt F)) {r : Ref sig .tc} (h : r.idx.val < 1050) :
    after bodyOps.1 V (Proc.devRef .tc r) = V (Proc.devRef .tc r) := by
  rw [bodyOps_eq, after_append]
  dsimp only [copyOps]
  rw [after_cons, after_cons, after_cons, after_nil, unary_result_ne, unary_result_ne, unary_result_ne, tripOps_mono.keeps _ (by omega)]
  all_goals (rintro rfl; revert h; decide)

/-- The buffers below the carried ones are at every trip what they were at the entry. -/
theorem atK_keeps (c : Dev nD) {r : Ref sig .tc} (h : r.idx.val < 1050) :
    ∀ k, atK m k c (Proc.devRef .tc r) = entry m c (Proc.devRef .tc r)
  | 0 => rfl
  | k + 1 => by show after bodyOps.1 (after condOps (atK m k c)) _ = _; rw [body_keeps _ h, cond_keeps _ (by omega), atK_keeps c h k]

/-- One trip's equations, read at the contents it ends with before the copies. -/
theorem trip_sats (V : Valuation τ sig (Elt F)) : Sats (after tripOps.1 V) tripOps.1 := tripOps_mono.sats V

/-- One trip leaves the counter one step on. -/
theorem body_counter (V : Valuation τ sig (Elt F)) :
    after bodyOps.1 V (Proc.devRef .tc main_v34_1) = addi (V (Proc.devRef .tc main_v34_1)) (constantI S_ 32 1#32) := by
  rw [bodyOps_eq, after_append]
  dsimp only [copyOps]
  rw [after_cons, after_cons, after_cons, after_nil, unary_result_ne, unary_result_ne, unary_result]
  · have h := trip_sats V
    have hk := tripOps_mono.keeps V (r := main_v34_1) (by decide)
    generalize after tripOps.1 V = W at h hk ⊢
    rw [← hk]
    dsimp only [tripOps, Sats] at h
    simp only [sat_nullary, sat_unary, sat_binary, sat_quaternary] at h
    iterate 45 replace h := h.2
    rw [id, h.2.1, h.1]
  all_goals decide

/-- The loop's entry contents satisfy the equations of the operations before it. -/
theorem entry_sats (c : Dev nD) : Sats (entry m c) headOps.1 ∧ Sats (entry m c) shufOps ∧ Sats (entry m c) tailOps.1 := by
  have h := preOps_mono.sats (fun b => m (c, b))
  generalize hW : after preOps (fun b => m (c, b)) = W at h
  rw [preOps_eq, Sats.append, Sats.append] at h
  rw [entry, hW]
  exact h

/-- The counter is zero at the loop's entry. -/
theorem entry_counter (c : Dev nD) : entry m c (Proc.devRef .tc main_v34_1) = fun _ => (0#32 : BitVec 32) := by
  have h := (entry_sats m c).2.2
  generalize entry m c = W at h ⊢
  dsimp only [tailOps, Sats] at h
  simp only [sat_nullary, sat_unary, sat_binary, sat_ternary] at h
  obtain ⟨-, -, -, -, -, -, -, -, -, -, -, h0, -, h1, -⟩ := h
  rw [h1, id, h0]
  rfl

/-- Before the `k`-th condition the counter is the loop's induction variable at `k`. -/
theorem counter_eq (c : Dev nD) : ∀ k, atK m k c (Proc.devRef .tc main_v34_1) = fun _ => Scf.iv 0#32 1#32 k
  | 0 => by rw [Scf.iv_zero]; exact entry_counter m c
  | k + 1 => by
    show after bodyOps.1 (after condOps (atK m k c)) _ = _
    rw [body_counter, cond_keeps _ (by decide), counter_eq c k, Scf.iv_succ]
    rfl

-- the rule of one operation is stated for any thread, and used at the TensorCore's
set_option backward.isDefEq.respectTransparency.types false in
/-- The condition's specification: it goes on exactly while fewer than ten trips are done. -/
theorem cond_spec : CondSpec (pcfgs (F := F)) defs₀ loops (main_while0_cond (F := F)) condOps [bodyOps.1] (entryContents [preOps] m) 10 := by
  intro k hk c bd
  rw [atTrip_eq]
  have hctr := counter_eq m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v34_1 HostLoop.idx0)
        (HloOp.result _ (atK m k c) main_while0c_c_25 HostLoop.idx0) = 1#1) (k < 10)
    rw [nullary_result_ne _ _ _ _ (by decide), nullary_result, hctr]
    exact Scf.cmpi_slt_iv_ub_iff (lb := 0#32) (ub := 10#32) (st := 1#32) (by decide) (show k ≤ Scf.trips 0#32 10#32 1#32 from hk)
  isplitl [Hb]; · iexact Hb
  rw [after_cons, after_cons, after_nil]; iexact Hh

/-- The contents a run ends with. -/
abbrev ending (c : Dev nD) : Valuation τ sig (Elt F) := after postOps (after condOps (atK m 10 c))

/-- Every run ends, with every buffer that holds a value of the program at the fold of the operations. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = ending m c (Proc.devRef .tc b)) := by
  have hg : ∀ l : List (HloOp τ sig (Elt F)), (∀ o ∈ l, Good o) → Plain [l] := fun l h ops ho => by
    rw [List.mem_singleton] at ho
    subst ho
    exact ⟨fun o h' => (h o h').1, fun o h' => (h o h').2⟩
  have h := run_loop (pcfgs (F := F)) defs₀ loops main 0 main_while0_cond main_while0_body rfl [preOps] [bodyOps.1] [postOps] condOps
    (hg _ (main_runs 0).2.1) (hg _ bodyOps.2.2) (hg _ (main_runs 0).2.2)
    (fun c => by rw [(main_runs c).1]; rfl) (bodyOps.2.1.trans (bind_pure _).symm) 10 m ρ (cond_spec m)
  simp only [atTrip_eq, afterL_cons, afterL_nil] at h
  exact h

/-- A buffer below the operations' own ends as it was. -/
theorem ending_keeps (c : Dev nD) {r : Ref sig .tc} (h : r.idx.val < 3) : ending m c (Proc.devRef .tc r) = m (c, Proc.devRef .tc r) := by
  rw [ending, postOps_mono.keeps _ (by omega), cond_keeps _ (by omega), atK_keeps m c (by omega), entry, preOps_mono.keeps _ h]

/-- Every run ends with the arguments unchanged and every counter at zero. -/
theorem frame_quiet : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h c main_arg0 rfl).trans (ending_keeps m c (by decide)),
    (h c main_arg1 rfl).trans (ending_keeps m c (by decide)), (h c main_arg2 rfl).trans (ending_keeps m c (by decide))⟩,
    sem_eq_zero_of_no_sems rfl r.2⟩) (run_fold m ρ)

end Cert.Proof.ReferenceIdeal

end
-- ==== Proof.Plain.lean ====
/-
  One round of the clustering, and the graph of nearest centroids, over the extended reals and plain indices: what the
  kernel and the reference both compute. The least index of a row's minimum is found by the kernel as a minimum of numbers
  and by the reference as a fold over pairs; both are read here as `nearest`.
-/
module

public import Idealize.ShloMosaic.Lib.Pointwise
public import Idealize.ShloMosaic.PureOps.Ideal.Laws

@[expose] public section

set_option maxRecDepth 16384

noncomputable section

namespace Cert.Proof.Plain

open Idealize.ShloMosaic

/-! ## Sums over the lanes in use -/

/-- A sum over 128 lanes that are zero from lane `n` on. -/
theorem sum_low {n : ℕ} (h : n ≤ 128) (f : Fin 128 → EReal) (h0 : ∀ x : Fin 128, n ≤ x.val → f x = 0) :
    ∑ x, f x = ∑ l : Fin n, f (Fin.castLE h l) := by
  symm
  refine Finset.sum_of_injOn (Fin.castLE h) (fun a _ b _ e => Fin.castLE_injective h e) (fun _ _ => by simp) (fun x _ hx => h0 x ?_) (fun _ _ => rfl)
  by_contra hlt
  exact hx ⟨⟨x.val, by omega⟩, by simp, rfl⟩

/-- A sum over 99 lanes that are zero below lane 96. -/
theorem sum_high (f : Fin 99 → EReal) (h0 : ∀ x : Fin 99, x.val < 96 → f x = 0) :
    ∑ x, f x = ∑ l : Fin 3, f ⟨96 + l.val, by omega⟩ := by
  symm
  refine Finset.sum_of_injOn (fun l : Fin 3 => (⟨96 + l.val, by omega⟩ : Fin 99)) (fun a _ b _ e => by simpa [Fin.ext_iff] using e) (fun _ _ => by simp) (fun x _ hx => h0 x ?_) (fun _ _ => rfl)
  by_contra hlt
  exact hx ⟨⟨x.val - 96, by omega⟩, by simp, by ext; simp; omega⟩

/-! ## The least index of a minimum -/

/-- The indices of a row's minimum: there is one. -/
theorem minima_nonempty (v : Fin 128 → EReal) : (Finset.univ.filter fun i => ∀ j, v i ≤ v j).Nonempty := by
  obtain ⟨i, -, hi⟩ := Finset.exists_min_image Finset.univ v ⟨0, Finset.mem_univ _⟩
  exact ⟨i, by simpa using fun j => hi j (Finset.mem_univ j)⟩

/-- The least index of a row's minimum. -/
def nearest (v : Fin 128 → EReal) : Fin 128 := (Finset.univ.filter fun i => ∀ j, v i ≤ v j).min' (minima_nonempty v)

/-- No entry lies below the nearest. -/
theorem nearest_le (v : Fin 128 → EReal) (j : Fin 128) : v (nearest v) ≤ v j := by
  have h := Finset.min'_mem _ (minima_nonempty v)
  exact (Finset.mem_filter.1 h).2 j

/-- The entries before the nearest are larger. -/
theorem nearest_first (v : Fin 128 → EReal) (j : Fin 128) (h : j < nearest v) : v (nearest v) < v j := by
  refine lt_of_le_of_ne (nearest_le v j) fun e => ?_
  have : nearest v ≤ j := Finset.min'_le _ _ (by simpa using fun k => e ▸ nearest_le v k)
  omega

/-- The least index of a row's minimum is the only index at which the row is minimal and before which it is greater. -/
theorem eq_nearest {v : Fin 128 → EReal} {i : Fin 128} (h : ∀ j, v i ≤ v j) (h' : ∀ j, j < i → v i < v j) : i = nearest v := by
  rcases lt_trichotomy i (nearest v) with hl | hl | hl
  · exact absurd (nearest_first v i hl) (not_lt.2 (h _))
  · exact hl
  · exact absurd (h' _ hl) (not_lt.2 (nearest_le v i))

/-- A row's minimum, folded from `⊤`. -/
theorem fold_min (v : Fin 128 → EReal) : Finset.univ.fold min ⊤ v = v (nearest v) := by
  apply le_antisymm
  · rw [Finset.fold_min_le]; exact Or.inr ⟨_, Finset.mem_univ _, le_rfl⟩
  · rw [Finset.le_fold_min]; exact ⟨le_top, fun j _ => nearest_le v j⟩

/-- A small number, as a word, reads as itself. -/
theorem toInt_ofNat {n : ℕ} (h : n < 1024) : (BitVec.ofNat 32 n).toInt = (n : ℤ) := by
  rw [BitVec.toInt_eq_toNat_of_lt] <;> rw [BitVec.toNat_ofNat] <;> omega

/-- The signed minimum of words is the minimum of their integers. -/
theorem toInt_minsi (x y : BitVec 32) : (IntOp.minsi x y).toInt = min x.toInt y.toInt := by
  unfold IntOp.minsi
  simp only [BitVec.slt, decide_eq_true_eq]
  split_ifs <;> omega

/-- The kernel's search: the least of the numbers of the lanes that hold the minimum. -/
theorem fold_minsi (v : Fin 128 → EReal) (m : EReal) (hm : m = v (nearest v)) :
    Finset.univ.fold IntOp.minsi 2147483647#32 (fun i : Fin 128 => if v i = m then BitVec.ofNat 32 i.val else 128#32)
      = BitVec.ofNat 32 (nearest v).val := by
  apply BitVec.eq_of_toInt_eq
  rw [← Finset.fold_hom (op' := (min : ℤ → ℤ → ℤ)) (m := BitVec.toInt) toInt_minsi]
  have e : ∀ j : Fin 128, (BitVec.ofNat 32 j.val).toInt = (j.val : ℤ) := fun j => toInt_ofNat (by omega)
  have e1 : (2147483647#32).toInt = 2147483647 := by decide
  have e2 : (128#32).toInt = 128 := by decide
  rw [e, e1]
  apply le_antisymm
  · rw [Finset.fold_min_le]
    exact Or.inr ⟨nearest v, Finset.mem_univ _, by rw [if_pos hm.symm, e]⟩
  · rw [Finset.le_fold_min]
    refine ⟨by omega, fun j _ => ?_⟩
    split_ifs with h
    · rw [e]
      have : nearest v ≤ j := by
        by_contra hlt
        exact absurd (nearest_first v j (by omega)) (by rw [h, hm]; exact lt_irrefl _)
      omega
    · rw [e2]; omega

/-! ## The reference's search -/

/-- The reference's comparison of two pairs: the smaller value, at equal values the smaller number. -/
def pairMin (a b : EReal × BitVec 32) : EReal × BitVec 32 := if a.1 < b.1 ∨ a.1 = b.1 ∧ a.2.toInt < b.2.toInt then a else (b.1, b.2)

/-- `a` is not after `b`. -/
def PairLe (a b : EReal × BitVec 32) : Prop := a.1 < b.1 ∨ a.1 = b.1 ∧ a.2.toInt ≤ b.2.toInt

/-- The order of pairs is reflexive. -/
theorem PairLe.refl (a : EReal × BitVec 32) : PairLe a a := Or.inr ⟨rfl, le_rfl⟩

/-- The order of pairs is transitive. -/
theorem PairLe.trans {a b c : EReal × BitVec 32} (h : PairLe a b) (h' : PairLe b c) : PairLe a c := by
  rcases h with h | ⟨h, k⟩ <;> rcases h' with h' | ⟨h', k'⟩
  · exact Or.inl (h.trans h')
  · exact Or.inl (h'.symm ▸ h)
  · exact Or.inl (h ▸ h')
  · exact Or.inr ⟨h.trans h', k.trans k'⟩

/-- The smaller pair is at most the first. -/
theorem pairMin_le_left (a b : EReal × BitVec 32) : PairLe (pairMin a b) a := by
  unfold pairMin
  split_ifs with h
  · exact .refl a
  · push Not at h
    rcases lt_or_eq_of_le h.1 with h1 | h1
    · exact Or.inl h1
    · exact Or.inr ⟨h1, h.2 h1.symm⟩

/-- The smaller pair is at most the second. -/
theorem pairMin_le_right (a b : EReal × BitVec 32) : PairLe (pairMin a b) b := by
  unfold pairMin
  split_ifs with h
  · rcases h with h | h
    · exact Or.inl h
    · exact Or.inr ⟨h.1, h.2.le⟩
  · exact .refl b

/-- Folding the comparison over a list gives one of the pairs, and none is before it. -/
theorem foldl_pairMin (l : List (EReal × BitVec 32)) (a : EReal × BitVec 32) :
    (l.foldl pairMin a = a ∨ l.foldl pairMin a ∈ l) ∧ PairLe (l.foldl pairMin a) a ∧ ∀ q ∈ l, PairLe (l.foldl pairMin a) q := by
  induction l generalizing a with
  | nil => exact ⟨Or.inl rfl, .refl a, fun q h => by simp at h⟩
  | cons b l ih =>
    obtain ⟨h1, h2, h3⟩ := ih (pairMin a b)
    rw [List.foldl_cons]
    refine ⟨?_, h2.trans (pairMin_le_left a b), fun q hq => ?_⟩
    · rcases h1 with h1 | h1
      · rw [h1]
        unfold pairMin
        split_ifs
        · exact Or.inl rfl
        · exact Or.inr (List.mem_cons_self ..)
      · exact Or.inr (List.mem_cons_of_mem _ h1)
    · rcases List.mem_cons.1 hq with rfl | hq
      · exact h2.trans (pairMin_le_right a q)
      · exact h3 q hq

/-- Folded from `(⊤, 0)` over the pairs of a row's values and their numbers, the comparison finds the least index of the minimum. -/
theorem foldl_nearest (v : Fin 128 → EReal) (l : List (EReal × BitVec 32)) (h : ∀ q ∈ l, ∃ i : Fin 128, q = (v i, BitVec.ofNat 32 i.val))
    (h' : ∀ i : Fin 128, (v i, BitVec.ofNat 32 i.val) ∈ l) : (l.foldl pairMin (⊤, 0#32)).2 = BitVec.ofNat 32 (nearest v).val := by
  obtain ⟨h1, -, h3⟩ := foldl_pairMin l (⊤, 0#32)
  obtain ⟨i, hi1, hi2⟩ : ∃ i : Fin 128, (l.foldl pairMin (⊤, 0#32)).1 = v i ∧ (l.foldl pairMin (⊤, 0#32)).2 = BitVec.ofNat 32 i.val := by
    rcases h1 with h1 | h1
    · have h0 := h3 _ (h' 0)
      rw [h1] at h0
      refine ⟨0, ?_, by rw [h1]; rfl⟩
      rw [h1]
      rcases h0 with h0 | h0
      · exact absurd h0 (not_lt.2 le_top)
      · exact h0.1
    · obtain ⟨i, e⟩ := h _ h1
      exact ⟨i, by rw [e], by rw [e]⟩
  rw [hi2]
  have hle : ∀ j : Fin 128, v i < v j ∨ v i = v j ∧ i.val ≤ j.val := fun j => by
    have := h3 _ (h' j)
    unfold PairLe at this
    rw [hi1, hi2, toInt_ofNat (by omega), toInt_ofNat (by omega)] at this
    simpa using this
  rw [eq_nearest (i := i) (fun j => (hle j).elim le_of_lt fun h => h.1.le) fun j hj => (hle j).elim id fun h => absurd h.2 (by omega)]

/-! ## The two programs' numbers for truth values -/

/-- A truth value read as a signed number is one or zero. -/
theorem sitofp_ofBool (p : Prop) [Decidable p] :
    (FloatOps.sitofp FTy.f32 (BitVec.setWidth 32 (BitVec.ofBool (decide p))) : Ideal .f32) = if p then (1 : EReal) else 0 := by
  by_cases h : p <;> simp [h, FloatOps.sitofp, FloatOps.uitofp]

/-- A truth value read as an unsigned number is one or zero. -/
theorem uitofp_ofBool (p : Prop) [Decidable p] :
    (FloatOps.uitofp FTy.f32 (BitVec.ofBool (decide p)) : Ideal .f32) = if p then (1 : EReal) else 0 := by
  by_cases h : p <;> simp [h, FloatOps.sitofp, FloatOps.uitofp]

/-- Comparing two positions as words compares the positions. -/
theorem cmpi_eq_ofNat (i k : Fin 128) : IntOp.cmpi .eq (BitVec.ofNat 32 i.val) (BitVec.ofNat 32 k.val) = BitVec.ofBool (decide (i = k)) := by
  have : (BitVec.ofNat 32 i.val = BitVec.ofNat 32 k.val) ↔ i = k := by
    rw [← BitVec.toNat_inj, BitVec.toNat_ofNat, BitVec.toNat_ofNat, Nat.mod_eq_of_lt (by omega), Nat.mod_eq_of_lt (by omega), Fin.ext_iff]
  show BitVec.ofBool (decide _) = _
  simp only [this]

/-- A position as a word is below a bound when it is as a number. -/
theorem cmpi_slt_ofNat (i : Fin 128) (n : ℕ) (h : n < 1024) : IntOp.cmpi .slt (BitVec.ofNat 32 i.val) (BitVec.ofNat 32 n) = BitVec.ofBool (decide (i.val < n)) := by
  simp [IntOp.cmpi, BitVec.slt, toInt_ofNat h, toInt_ofNat (show i.val < 1024 by omega)]

/-- A position as a word is at least a bound when it is as a number. -/
theorem cmpi_sge_ofNat (i : Fin 128) (n : ℕ) (h : n < 1024) : IntOp.cmpi .sge (BitVec.ofNat 32 i.val) (BitVec.ofNat 32 n) = BitVec.ofBool (decide (n ≤ i.val)) := by
  simp [IntOp.cmpi, BitVec.sle, toInt_ofNat h, toInt_ofNat (show i.val < 1024 by omega)]

/-- The conjunction of truth values as words. -/
theorem andi_ofBool (a b : Bool) : IntOp.andi (BitVec.ofBool a) (BitVec.ofBool b) = BitVec.ofBool (a && b) := by
  cases a <;> cases b <;> decide

/-- The word of infinity reads as infinity. -/
theorem inf_f32 : Ideal.ofBits FTy.f32 2139095040#32 = ⊤ := by simp [Ideal.ofBits, Ideal.ieee]

/-! ## One round of the clustering -/

/-- The distance of a point and a centroid, from the two sums of squares and the product. -/
def dist {n : ℕ} (x c : Fin n → EReal) : EReal :=
  Ideal.sqrt (max ((∑ l, x l * x l) + (∑ l, c l * c l) - Ideal.ofBits FTy.f32 1073741824#32 * ∑ l, x l * c l) 0)

/-- Whether a pixel belongs to a centroid, as a number. -/
def hot (x : Fin 99 → EReal) (c : Fin 128 → Fin 99 → EReal) (k : Fin 128) : EReal := if nearest (fun j => dist x (c j)) = k then 1 else 0

/-- The centroids after one round. -/
def round (x : Fin 50176 → Fin 99 → EReal) (c : Fin 128 → Fin 99 → EReal) (k : Fin 128) (d : Fin 99) : EReal :=
  Ideal.div (∑ p, hot (x p) c k * x p d) (max 1 (∑ p, hot (x p) c k))

/-- The centroids after `n` rounds. -/
def rounds (x : Fin 50176 → Fin 99 → EReal) (c : Fin 128 → Fin 99 → EReal) : ℕ → Fin 128 → Fin 99 → EReal
  | 0 => c
  | n + 1 => round x (rounds x c n)

end Cert.Proof.Plain

end
-- ==== Proof.KernelIdeal.Value.lean ====
/-
  What the kernel's body computes over the extended reals: its rounds are the plain rounds on the lanes in use.
-/
module

public import proofs.«01_k».proof.Proof.KernelIdeal.Body
public import proofs.«01_k».proof.Proof.Plain

@[expose] public section

set_option maxRecDepth 16384

noncomputable section

namespace Cert.Proof.KernelIdeal

open Cert.KernelIdeal Cert.KernelIdeal.Gen
open Idealize.ShloMosaic Cert.Proof.Plain

/-- Centroids `c` laid out on 128 lanes: zero from lane 99 on. -/
def Lanes (cK : Vec Ideal S128x128 .f32) (c : Fin 128 → Fin 99 → EReal) : Prop :=
  ∀ k l : Fin 128, (cK (ix2 k l) : EReal) = if h : l.val < 99 then c k ⟨l.val, h⟩ else 0

/-- A pixel's features laid out on 128 lanes: lane 99 holds one, the lanes after it zero. -/
def PixelLanes {n : ℕ} (X : Vec Ideal ⟨2, ![n, 128]⟩ .f32) (x : Fin n → Fin 99 → EReal) : Prop :=
  ∀ p (l : Fin 128), (X (ix2 p l) : EReal) = if h : l.val < 99 then x p ⟨l.val, h⟩ else if l.val = 99 then 1 else 0

/-- The lanes in use are masked by one, the others by zero. -/
theorem mask_apply (l : Fin 128) :
    (FloatOps.sitofp FTy.f32 (BitVec.setWidth 32 (IntOp.cmpi CmpIPredicate.slt (BitVec.ofNat 32 ↑l) 99#32)) : Ideal .f32) = if l.val < 99 then (1 : EReal) else 0 := by
  rw [cmpi_slt_ofNat l 99 (by decide), sitofp_ofBool]

/-- One row of the one-hot block. -/
theorem pay9_apply {cK : Vec Ideal S128x128 .f32} {c : Fin 128 → Fin 99 → EReal} (hc : Lanes cK c)
    {X : Vec Ideal S7168x128 .f32} {x : Fin 7168 → Fin 99 → EReal} (hx : PixelLanes X x) (r : Fin 7168) (k : Fin 128) :
    (k0_pay9 cK X (ix2 r k) : EReal) = hot (x r) c k := by
  pointwise [k0_pay9]
  simp only [mask_apply]
  have hd : ∀ j : Fin 128, Ideal.sqrt (max (∑ l : Fin 128, (X (ix2 r l) : EReal) * (if l.val < 99 then (1 : EReal) else 0) *
        ((X (ix2 r l) : EReal) * (if l.val < 99 then (1 : EReal) else 0)) + ∑ l : Fin 128, (cK (ix2 j l) : EReal) * (cK (ix2 j l) : EReal)
        - Ideal.ofBits FTy.f32 1073741824#32 * ∑ l : Fin 128, (X (ix2 r l) : EReal) * (cK (ix2 j l) : EReal)) 0) = Plain.dist (x r) (c j) := by
    intro j
    unfold Plain.dist
    rw [sum_low (n := 99) (by decide), sum_low (n := 99) (by decide) (fun l => (cK (ix2 j l) : EReal) * (cK (ix2 j l) : EReal)), sum_low (n := 99) (by decide) (fun l => (X (ix2 r l) : EReal) * (cK (ix2 j l) : EReal))]
    · simp only [hx r, hc j, Fin.val_castLE, Fin.is_lt, ↓reduceIte, ↓reduceDIte, mul_one]
    · intro l hl
      rw [hc, dif_neg (by omega), mul_zero]
    · intro l hl
      rw [hc, dif_neg (by omega), mul_zero]
    · intro l hl
      rw [if_neg (by omega), mul_zero, mul_zero]
  simp only [hd]
  rw [inf_f32, fold_minsi _ _ (fold_min _), cmpi_eq_ofNat, sitofp_ofBool]
  rfl

/-- The one-hot matrix, assembled from its tiles. -/
theorem onehot_apply {cK : Vec Ideal S128x128 .f32} {c : Fin 128 → Fin 99 → EReal} (hc : Lanes cK c)
    {X : Vec Ideal S50176x128 .f32} {x : Fin 50176 → Fin 99 → EReal} (hx : PixelLanes X x) (p : Fin 50176) (k : Fin 128) :
    (onehot cK X (ix2 p k) : EReal) = hot (x p) c k := by
  unfold onehot
  have ht : 7168 * (tileOf (ix2 p k)).val + 7168 ≤ 50176 := by
    have := (tileOf (ix2 p k)).isLt
    have e := trips2_eq
    omega
  have hw : PixelLanes (tile X (tileOf (ix2 p k))) (fun r : Fin 7168 => x ⟨7168 * (tileOf (ix2 p k)).val + r.val, by omega⟩) := by
    intro r l
    rw [← hx]
    unfold tile VecWindow.window
    congr 1
    funext a
    apply Fin.ext
    match a with
    | 0 =>
      rw [Rect.emb_apply]
      show k0_off1 (tileOf (ix2 p k)) 0 + 1 * r.val = _
      rw [off1_eq, one_mul]; rfl
    | 1 =>
      rw [Rect.emb_apply]
      show k0_off1 (tileOf (ix2 p k)) 1 + 1 * l.val = _
      rw [off1_eq, one_mul]; exact Nat.zero_add _
  have e : inTile (ix2 p k) = ix2 ⟨p.val % 7168, Nat.mod_lt _ (by decide)⟩ k := by
    funext a
    match a with
    | 0 => rfl
    | 1 => rfl
  rw [e, pay9_apply hc hw]
  congr 2
  apply Fin.ext
  show 7168 * (p.val / 7168) + p.val % 7168 = p.val
  omega

/-- One round of the kernel is one plain round. -/
theorem round_lanes {cK : Vec Ideal S128x128 .f32} {c : Fin 128 → Fin 99 → EReal} (hc : Lanes cK c)
    {X : Vec Ideal S50176x128 .f32} {x : Fin 50176 → Fin 99 → EReal} (hx : PixelLanes X x) : Lanes (k0_pay10 (onehot cK X) X) (Plain.round x c) := by
  intro k l
  pointwise [k0_pay10, k0_pay7]
  rw [mask_apply]
  by_cases h : l.val < 99
  · rw [if_pos h, dif_pos h, mul_one]
    unfold Plain.round
    simp only [onehot_apply hc hx, hx _ l, dif_pos h, hx _ 99]
    simp
  · rw [if_neg h, dif_neg h, mul_zero]

/-- The masked initial centroids. -/
theorem init_lanes {cK : Vec Ideal S128x128 .f32} {x : Fin 128 → Fin 99 → EReal} (hx : PixelLanes cK x) : Lanes (k0_pay8 cK) x := by
  intro k l
  pointwise [k0_pay8, k0_pay7]
  rw [mask_apply]
  by_cases h : l.val < 99
  · rw [if_pos h, dif_pos h, mul_one, hx, dif_pos h]
  · rw [if_neg h, dif_neg h, mul_zero]

/-- The kernel's centroids after `n` rounds. -/
theorem cent_lanes {c0 : Vec Ideal S128x128 .f32} {c : Fin 128 → Fin 99 → EReal} (hc : PixelLanes c0 c)
    {X : Vec Ideal S50176x128 .f32} {x : Fin 50176 → Fin 99 → EReal} (hx : PixelLanes X x) : ∀ n, Lanes (cent X c0 n) (rounds x c n)
  | 0 => init_lanes hc
  | n + 1 => round_lanes (cent_lanes hc hx n) hx

/-- The kernel's first result. -/
theorem feats_apply {c0 : Vec Ideal S128x128 .f32} {c : Fin 128 → Fin 99 → EReal} (hc : PixelLanes c0 c)
    {X : Vec Ideal S50176x128 .f32} {x : Fin 50176 → Fin 99 → EReal} (hx : PixelLanes X x) (w : Vec Ideal S128x128 .f32) (b : Vec Ideal S1x128 .f32)
    (k j : Fin 128) :
    (feats X c0 w b (ix2 k j) : EReal) = ∑ l : Fin 99, rounds x c 10 k l * w (ix2 j (Fin.castLE (by decide) l)) + b (ix2 0 j) := by
  unfold feats
  pointwise [k0_pay11]
  rw [sum_low (n := 99) (by decide)]
  · simp only [cent_lanes hc hx 10 k, Fin.val_castLE, Fin.is_lt, ↓reduceDIte]
  · intro l hl
    rw [cent_lanes hc hx 10, dif_neg (by omega), zero_mul]

end Cert.Proof.KernelIdeal

end
-- ==== Proof.Graph.lean ====
/-
  The graph of nearest centroids over plain indices: taking a row's least entry away eight times, and sorting the row and
  keeping the first eight, mark the same entries.
-/
module

public import proofs.«01_k».proof.Proof.Plain
public import Idealize.ShloMosaic.Lib.SortFacts

@[expose] public section

noncomputable section

namespace Cert.Proof.Plain

open Idealize.ShloMosaic

/-- The row with its least entry, at equal ones the first, made infinite. -/
def dropLeast (v : Fin 128 → EReal) : Fin 128 → EReal := fun j => if nearest v = j then ⊤ else v j

/-- The row after its `n` least entries were made infinite. -/
def dropped (v : Fin 128 → EReal) : ℕ → Fin 128 → EReal
  | 0 => v
  | n + 1 => dropLeast (dropped v n)

/-- The marks of the `n` least entries. -/
def marked (v : Fin 128 → EReal) : ℕ → Fin 128 → EReal
  | 0 => fun _ => 0
  | n + 1 => fun j => if nearest (dropped v n) = j then 1 else marked v n j

/-- The comparison of two positions by their entries alone. -/
def byValue (v : Fin 128 → EReal) (a b : Fin 128) : Bool := decide (v a < v b)

/-- The comparison of two positions by their entries, at equal ones by the positions. -/
def byBoth (v : Fin 128 → EReal) (a b : Fin 128) : Bool := decide (v a < v b ∨ v a = v b ∧ a < b)

/-- A stable sort by the entries of positions in rising order never needs the positions' comparison. -/
theorem stableSort_byValue (v : Fin 128 → EReal) (l : List (Fin 128)) (hl : l.Pairwise (· < ·)) : stableSort (byValue v) l = stableSort (byBoth v) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.1 hb)
    unfold byValue byBoth
    congr 1
    simp only [eq_iff_iff]
    exact ⟨Or.inl, fun h => h.resolve_right fun h => by omega⟩

/-- Equal sorted lists give equal sorting maps. -/
theorem sortedFrom_eq {n : ℕ} (R R' : Fin n → Fin n → Bool) (h : sortPositions n R = sortPositions n R') : sortedFrom R = sortedFrom R' := by
  funext k
  unfold sortedFrom
  rw [List.get_of_eq h]
  rfl

/-- A stable sort by the entries alone is the sort by entries and positions. -/
theorem sorted_byValue (v : Fin 128 → EReal) : sortedFrom (byValue v) = sortedFrom (byBoth v) :=
  sortedFrom_eq _ _ (stableSort_byValue v _ (List.pairwise_lt_finRange 128))

/-- The sorted positions rise in the comparison by entry and position. -/
theorem sorted_rises (v : Fin 128 → EReal) {i j : Fin 128} (h : i < j) :
    v (sortedFrom (byValue v) i) < v (sortedFrom (byValue v) j)
      ∨ v (sortedFrom (byValue v) i) = v (sortedFrom (byValue v) j) ∧ sortedFrom (byValue v) i < sortedFrom (byValue v) j := by
  have hn := sortedFrom_noInversion (byBoth v) (byBoth v) (fun a b h => ?_) (fun _ _ h => h) (fun a b c h h' => ?_) i j h
  · rw [sorted_byValue]
    have hne : sortedFrom (byBoth v) i ≠ sortedFrom (byBoth v) j := fun e => absurd (sortedFrom_injective _ e) (ne_of_lt h)
    generalize sortedFrom (byBoth v) i = a at *
    generalize sortedFrom (byBoth v) j = b at *
    unfold byBoth at hn
    rw [decide_eq_false_iff_not] at hn
    push Not at hn
    rcases lt_or_eq_of_le hn.1 with h | h
    · exact Or.inl h
    · exact Or.inr ⟨h, lt_of_le_of_ne (hn.2 h.symm) hne⟩
  · unfold byBoth at *
    rw [decide_eq_true_eq] at h
    rw [decide_eq_false_iff_not]
    rintro (h' | h')
    · rcases h with h | h
      · exact lt_asymm h h'
      · exact absurd h.1 (ne_of_gt h')
    · rcases h with h | h
      · exact absurd h'.1 (ne_of_gt h)
      · omega
  · unfold byBoth at *
    rw [decide_eq_false_iff_not] at *
    push Not at *
    refine ⟨h'.1.trans h.1, fun e => ?_⟩
    have h1 : v b = v a := le_antisymm h.1 (e ▸ h'.1)
    have h2 := h.2 h1.symm
    have h3 := h'.2 (by rw [h1, e])
    omega

/-- Round `n` takes away the `n`-th of the sorted entries. -/
theorem nearest_dropped (v : Fin 128 → EReal) (hv : ∀ j, v j ≠ ⊤) (n : Fin 128)
    (hd : ∀ j, dropped v n.val j = if ∃ i, i < n ∧ sortedFrom (byValue v) i = j then ⊤ else v j) :
    nearest (dropped v n.val) = sortedFrom (byValue v) n := by
  have hn : dropped v n.val (sortedFrom (byValue v) n) = v (sortedFrom (byValue v) n) := by
    rw [hd, if_neg]
    rintro ⟨i, hi, e⟩
    exact absurd (sortedFrom_injective _ e) (ne_of_lt hi)
  symm
  have key : ∀ j, dropped v n.val (sortedFrom (byValue v) n) < dropped v n.val j
      ∨ dropped v n.val (sortedFrom (byValue v) n) = dropped v n.val j ∧ sortedFrom (byValue v) n ≤ j := by
    intro j
    rw [hn, hd j]
    split_ifs with h
    · exact Or.inl (lt_top_iff_ne_top.2 (hv _))
    · obtain ⟨i, rfl⟩ := sortedFrom_surjective (byValue v) j
      have hi : n ≤ i := not_lt.1 fun hlt => h ⟨i, hlt, rfl⟩
      rcases eq_or_lt_of_le hi with rfl | hi
      · exact Or.inr ⟨rfl, le_rfl⟩
      · exact (sorted_rises v hi).imp_right fun h => ⟨h.1, h.2.le⟩
  refine eq_nearest (fun j => (key j).elim le_of_lt fun h => h.1.le) fun j hj => (key j).elim id fun h => absurd h.2 (by omega)

/-- The positions before the `n + 1`-st are the `n`-th and those before it. -/
theorem exists_lt_succ (s : Fin 128 → Fin 128) (n : ℕ) (h : n < 128) (j : Fin 128) :
    (∃ i : Fin 128, i.val < n + 1 ∧ s i = j) ↔ s ⟨n, h⟩ = j ∨ ∃ i : Fin 128, i.val < n ∧ s i = j := by
  constructor
  · rintro ⟨i, hi, e⟩
    rcases Nat.lt_succ_iff_lt_or_eq.1 hi with h' | h'
    · exact Or.inr ⟨i, h', e⟩
    · exact Or.inl ((congrArg s (Fin.ext h'.symm)).trans e)
  · rintro (e | ⟨i, hi, e⟩)
    · exact ⟨⟨n, h⟩, Nat.lt_succ_self n, e⟩
    · exact ⟨i, by omega, e⟩

/-- After `n` rounds the first `n` of the sorted entries are infinite, and marked. -/
theorem dropped_eq (v : Fin 128 → EReal) (hv : ∀ j, v j ≠ ⊤) : ∀ n, n ≤ 128 → ∀ j,
    dropped v n j = (if ∃ i : Fin 128, i.val < n ∧ sortedFrom (byValue v) i = j then ⊤ else v j)
      ∧ marked v n j = if ∃ i : Fin 128, i.val < n ∧ sortedFrom (byValue v) i = j then (1 : EReal) else 0
  | 0, _, j => by simp [dropped, marked]
  | n + 1, h, j => by
    have ih := fun j => dropped_eq v hv n (by omega) j
    have hn := nearest_dropped v hv ⟨n, by omega⟩ fun j => (ih j).1
    dsimp only at hn
    simp only [dropped, marked, dropLeast, hn, exists_lt_succ (sortedFrom (byValue v)) n (by omega) j, (ih j).1, (ih j).2]
    generalize sortedFrom (byValue v) = s
    by_cases e : s ⟨n, by omega⟩ = j
    · simp only [e, true_or, ↓reduceIte, and_self]
    · simp only [e, false_or, ↓reduceIte, and_self]

/-! ## Real numbers among the extended ones -/

/-- The value is a real number. -/
def IsReal (x : EReal) : Prop := ∃ r : ℝ, x = r

/-- Zero is real. -/
theorem IsReal.zero : IsReal 0 := ⟨0, rfl⟩
/-- One is real. -/
theorem IsReal.one : IsReal 1 := ⟨1, rfl⟩
/-- A sum of real numbers is real. -/
theorem IsReal.add {x y : EReal} : IsReal x → IsReal y → IsReal (x + y) := by rintro ⟨a, rfl⟩ ⟨b, rfl⟩; exact ⟨a + b, (EReal.coe_add a b).symm⟩
/-- A product of real numbers is real. -/
theorem IsReal.mul {x y : EReal} : IsReal x → IsReal y → IsReal (x * y) := by rintro ⟨a, rfl⟩ ⟨b, rfl⟩; exact ⟨a * b, (EReal.coe_mul a b).symm⟩
/-- A difference of real numbers is real. -/
theorem IsReal.sub {x y : EReal} : IsReal x → IsReal y → IsReal (x - y) := by rintro ⟨a, rfl⟩ ⟨b, rfl⟩; exact ⟨a - b, (EReal.coe_sub a b).symm⟩
/-- The larger of two real numbers is real. -/
theorem IsReal.max {x y : EReal} (hx : IsReal x) (hy : IsReal y) : IsReal (max x y) := by
  rcases max_choice x y with h | h <;> rw [h] <;> assumption
/-- A finite sum of real numbers is real. -/
theorem IsReal.sum {n : ℕ} (f : Fin n → EReal) (h : ∀ l, IsReal (f l)) : IsReal (∑ l, f l) :=
  Finset.sum_induction f IsReal (fun _ _ => IsReal.add) .zero fun l _ => h l

/-- A quotient by a real number that is not zero. -/
theorem IsReal.div {x y : EReal} (hx : IsReal x) (hy : IsReal y) (h0 : y ≠ 0) : IsReal (Ideal.div x y) := by
  unfold Ideal.div
  rw [if_neg h0]
  obtain ⟨b, rfl⟩ := hy
  exact hx.mul ⟨b⁻¹, (EReal.coe_inv b).symm⟩

/-- The distance of two rows of real numbers is not infinite. -/
theorem dist_ne_top {n : ℕ} (x c : Fin n → EReal) (hx : ∀ l, IsReal (x l)) (hc : ∀ l, IsReal (c l)) : Plain.dist x c ≠ ⊤ := by
  have h2 : IsReal (Ideal.ofBits FTy.f32 1073741824#32) := by
    refine ⟨2, ?_⟩
    simp [Ideal.ofBits, Ideal.ieee]
    rw [← EReal.coe_mul]
    norm_num
  unfold Plain.dist
  have h : IsReal (max ((∑ l, x l * x l) + (∑ l, c l * c l) - Ideal.ofBits FTy.f32 1073741824#32 * ∑ l, x l * c l) 0) :=
    .max (.sub (.add (.sum _ fun l => (hx l).mul (hx l)) (.sum _ fun l => (hc l).mul (hc l))) (.mul h2 (.sum _ fun l => (hx l).mul (hc l)))) .zero
  obtain ⟨r, hr⟩ := h
  rw [hr, Ideal.sqrt_coe]
  split_ifs
  · exact bot_ne_top
  · exact EReal.coe_ne_top _

/-- One round keeps a feature real: it is a mean of pixels' features. -/
theorem round_real (x : Fin 50176 → Fin 99 → EReal) (c : Fin 128 → Fin 99 → EReal) (d : Fin 99) (h : ∀ p, IsReal (x p d)) (k : Fin 128) :
    IsReal (Plain.round x c k d) := by
  have hh : ∀ p, IsReal (hot (x p) c k) := fun p => by unfold hot; split_ifs; exacts [.one, .zero]
  refine .div (.sum _ fun p => (hh p).mul (h p)) (.max .one (.sum _ hh)) fun e => ?_
  have : (1 : EReal) ≤ 0 := e ▸ le_max_left _ _
  exact absurd this (not_le.2 zero_lt_one)

/-- All rounds do. -/
theorem rounds_real (x : Fin 50176 → Fin 99 → EReal) (c : Fin 128 → Fin 99 → EReal) (d : Fin 99) (h : ∀ p, IsReal (x p d)) (h0 : ∀ k, IsReal (c k d)) :
    ∀ n k, IsReal (rounds x c n k d)
  | 0, k => h0 k
  | n + 1, k => round_real x _ d h k

end Cert.Proof.Plain

end
-- ==== Proof.KernelIdeal.Graph.lean ====
/-
  The kernel's second result over the extended reals: the neighbour loop marks each row's eight least distances.
-/
module

public import proofs.«01_k».proof.Proof.KernelIdeal.Value
public import proofs.«01_k».proof.Proof.Graph

@[expose] public section

set_option maxRecDepth 16384

noncomputable section

namespace Cert.Proof.KernelIdeal

open Cert.KernelIdeal Cert.KernelIdeal.Gen
open Idealize.ShloMosaic Cert.Proof.Plain

/-- The centroids' distances, by their last three features. -/
def gap (c : Fin 128 → Fin 99 → EReal) (i j : Fin 128) : EReal :=
  Plain.dist (fun l : Fin 3 => c i ⟨96 + l.val, by omega⟩) (fun l : Fin 3 => c j ⟨96 + l.val, by omega⟩)

/-- The loop's mask marks the row's nearest entry. -/
theorem pay3_apply (dd : FVec Ideal S128x128 .f32) (i j : Fin 128) :
    k0_pay3 dd (ix2 i j) = BitVec.ofBool (decide (nearest (fun k => (dd (ix2 i k) : EReal)) = j)) := by
  pointwise [k0_pay3]
  rw [inf_f32, fold_minsi _ _ (fold_min _), cmpi_eq_ofNat]

/-- One step on the marks. -/
theorem pay4_apply (dd a : FVec Ideal S128x128 .f32) (i j : Fin 128) :
    (k0_pay4 dd a (ix2 i j) : EReal) = if nearest (fun k => (dd (ix2 i k) : EReal)) = j then 1 else a (ix2 i j) := by
  unfold k0_pay4
  show Scalar.select (k0_pay3 dd (ix2 i j)) (Ideal.ofBits FTy.f32 0x3F800000#32) (a (ix2 i j)) = _
  rw [pay3_apply, Ideal.ofBits_one_f32]
  by_cases h : nearest (fun k => (dd (ix2 i k) : EReal)) = j <;> simp [h, Scalar.select]

/-- One step on the distances. -/
theorem pay5_apply (dd : FVec Ideal S128x128 .f32) (i j : Fin 128) :
    (k0_pay5 dd (ix2 i j) : EReal) = dropLeast (fun k => (dd (ix2 i k) : EReal)) j := by
  unfold k0_pay5
  show Scalar.select (k0_pay3 dd (ix2 i j)) (Ideal.ofBits FTy.f32 0x7F800000#32) (dd (ix2 i j)) = _
  rw [pay3_apply, inf_f32]
  unfold dropLeast
  by_cases h : nearest (fun k => (dd (ix2 i k) : EReal)) = j <;> simp [h, Scalar.select]

/-- The masked centroids: the coordinates' lanes alone. -/
theorem pay12_apply {cK : Vec Ideal S128x128 .f32} {c : Fin 128 → Fin 99 → EReal} (hc : Lanes cK c) (k l : Fin 128) :
    (k0_pay12 cK (ix2 k l) : EReal) = if h : l.val < 99 then (if 96 ≤ l.val then c k ⟨l.val, h⟩ else 0) else 0 := by
  pointwise [k0_pay12]
  rw [cmpi_sge_ofNat l 96 (by decide), cmpi_slt_ofNat l 99 (by decide), andi_ofBool, ← Bool.decide_and, sitofp_ofBool, hc]
  by_cases h : l.val < 99
  · by_cases h' : 96 ≤ l.val
    · simp [h, h']
    · simp [h, h']
  · simp [h]

/-- A sum over the masked lanes is one over the three coordinates. -/
theorem sum_coord (f : Fin 128 → EReal) (h : ∀ l : Fin 128, ¬ (96 ≤ l.val ∧ l.val < 99) → f l = 0) :
    ∑ l, f l = ∑ l : Fin 3, f ⟨96 + l.val, by omega⟩ := by
  rw [sum_low (n := 99) (by decide) f fun l hl => h l (by omega), sum_high _ fun l hl => h _ (by rw [Fin.val_castLE]; omega)]
  rfl

/-- The distances the neighbour loop starts from. -/
theorem pay1_apply {cK : Vec Ideal S128x128 .f32} {c : Fin 128 → Fin 99 → EReal} (hc : Lanes cK c) (i j : Fin 128) :
    (k0_pay1 (k0_pay12 cK) (k0_pay13 cK) (ix2 i j) : EReal) = gap c i j := by
  have hs : ∀ a b : Fin 128, ∑ l : Fin 128, (k0_pay12 cK (ix2 a l) : EReal) * (k0_pay12 cK (ix2 b l) : EReal)
      = ∑ l : Fin 3, c a ⟨96 + l.val, by omega⟩ * c b ⟨96 + l.val, by omega⟩ := by
    intro a b
    rw [sum_coord]
    · refine Finset.sum_congr rfl fun l _ => ?_
      rw [pay12_apply hc, pay12_apply hc, dif_pos (show 96 + l.val < 99 by omega), dif_pos (show 96 + l.val < 99 by omega),
        if_pos (Nat.le_add_right _ _), if_pos (Nat.le_add_right _ _)]
    · intro l hl
      rw [pay12_apply hc]
      by_cases h : l.val < 99
      · rw [dif_pos h, if_neg (by omega), zero_mul]
      · rw [dif_neg h, zero_mul]
  have h13 : ∀ a : Fin 128, (k0_pay13 cK (ix1 a) : EReal) = ∑ l : Fin 128, (k0_pay12 cK (ix2 a l) : EReal) * (k0_pay12 cK (ix2 a l) : EReal) := by
    intro a
    pointwise [k0_pay13]
  unfold gap Plain.dist
  simp only [← hs, ← h13]
  generalize k0_pay12 cK = y
  generalize k0_pay13 cK = z
  pointwise [k0_pay1]

/-- The neighbours' loop starts from the distances and no mark. -/
theorem knn_zero (cK : Vec Ideal S128x128 .f32) : knn cK 0 = (k0_pay1 (k0_pay12 cK) (k0_pay13 cK), k0_pay2 (F := Ideal)) := rfl

/-- One trip of the neighbours' loop. -/
theorem knn_succ (cK : Vec Ideal S128x128 .f32) (n : ℕ) : knn cK (n + 1) = (k0_pay5 (knn cK n).1, k0_pay4 (knn cK n).1 (knn cK n).2) := rfl

/-- The loop's distances and marks after `n` steps. -/
theorem knn_apply {cK : Vec Ideal S128x128 .f32} {c : Fin 128 → Fin 99 → EReal} (hc : Lanes cK c) (i j : Fin 128) : ∀ n,
    ((knn cK n).1 (ix2 i j) : EReal) = dropped (gap c i) n j ∧ ((knn cK n).2 (ix2 i j) : EReal) = marked (gap c i) n j := by
  intro n
  induction n generalizing j with
  | zero =>
    have h0 : (k0_pay2 (F := Ideal) (ix2 i j) : EReal) = 0 := by pointwise [k0_pay2]
    rw [knn_zero]
    exact ⟨pay1_apply hc i j, h0⟩
  | succ n ih =>
    have e : (fun k => ((knn cK n).1 (ix2 i k) : EReal)) = dropped (gap c i) n := funext fun k => (ih k).1
    rw [knn_succ]
    dsimp only
    rw [pay5_apply, pay4_apply, e, (ih j).2]
    exact ⟨rfl, rfl⟩

/-- The kernel's second result. -/
theorem adj_apply {c0 : Vec Ideal S128x128 .f32} {c : Fin 128 → Fin 99 → EReal} (hc : PixelLanes c0 c)
    {X : Vec Ideal S50176x128 .f32} {x : Fin 50176 → Fin 99 → EReal} (hx : PixelLanes X x) (i j : Fin 128) :
    (adj X c0 (ix2 i j) : EReal)
      = if 0 < marked (gap (rounds x c 10) i) 8 j + marked (gap (rounds x c 10) j) 8 i then 1 else 0 := by
  have h := fun a b => (knn_apply (cent_lanes hc hx 10) a b 8).2
  unfold adj
  rw [← h i j, ← h j i]
  generalize (knn (cent X c0 10) 8).2 = y
  pointwise [k0_pay6]
  exact sitofp_ofBool _

end Cert.Proof.KernelIdeal

end
-- ==== Proof.ReferenceIdeal.Trip.lean ====
/-
  One trip of the reference's clustering loop over the extended reals: it is one plain round.
-/
module

public import proofs.«01_k».proof.Proof.ReferenceIdeal.Run
public import proofs.«01_k».proof.Proof.Plain

@[expose] public section

set_option maxRecDepth 16384

noncomputable section

namespace Cert.Proof.ReferenceIdeal

open Cert.ReferenceIdeal Cert.ReferenceIdeal.Gen Cert.Proof.Ssa Cert.Proof.Plain
open Idealize.ShloMosaic Idealize.ShloMosaic.TcCoe Idealize.ShloMosaic.StableHlo

/-- Over the extended reals the reference's comparison of pairs is the plain one. -/
theorem reducer_eq : (reducer_argmin_f32_i32 (F := Ideal)) = pairMin := by
  funext a b
  unfold reducer_argmin_f32_i32 pairMin
  have h1 : (FloatOps.cmpf (F := Ideal) (φ := .f32) .olt a.1 b.1) = BitVec.ofBool (decide ((a.1 : EReal) < b.1)) := rfl
  have h2 : (FloatOps.cmpf (F := Ideal) (φ := .f32) .une a.1 a.1) = BitVec.ofBool (decide ((a.1 : EReal) ≠ a.1)) := rfl
  have h3 : (FloatOps.cmpf (F := Ideal) (φ := .f32) .oeq a.1 b.1) = BitVec.ofBool (decide ((a.1 : EReal) = b.1)) := rfl
  have h4 : IntOp.cmpi .slt a.2 b.2 = BitVec.ofBool (decide (a.2.toInt < b.2.toInt)) := by
    simp [IntOp.cmpi, BitVec.slt]
  have h5 : ∀ p q : Bool, IntOp.ori (BitVec.ofBool p) (BitVec.ofBool q) = BitVec.ofBool (p || q) := by decide
  have h6 : ∀ p q : Bool, IntOp.andi (BitVec.ofBool p) (BitVec.ofBool q) = BitVec.ofBool (p && q) := by decide
  dsimp only
  rw [h1, h2, h3, h4, h5, h6, h5]
  rcases lt_trichotomy (a.1 : EReal) b.1 with h | h | h
  · simp [h, Scalar.select]
  · by_cases h' : a.2.toInt < b.2.toInt
    · simp [h, h', Scalar.select]
      exact Prod.ext h.symm rfl
    · simp [h, h', Scalar.select]
  · simp [h.ne', not_lt.2 h.le, Scalar.select]

/-- The reference's search for the nearest centroid. -/
theorem argmin_apply (v : FVec Ideal S50176x128 .f32) (p : Fin 50176) :
    (Host.argReduce reducer_argmin_f32_i32 v (iotaInDim S50176x128 32 1) (constant (F := Ideal) S_ .f32 0x7F800000#32) (constantI S_ 32 0#32)
      reducesTo_S50176x128_S50176_d1 h_S_ (ix1 p)).2 = BitVec.ofNat 32 (nearest fun k => (v (ix2 p k) : EReal)).val := by
  rw [Ideal.argReduce_eq_reduce2, Host.reduce2_eq_foldl_fiber, reducer_eq]
  have e0 : ((constant (F := Ideal) S_ .f32 0x7F800000#32) (Shape.Idx.first h_S_), (constantI S_ 32 0#32) (Shape.Idx.first h_S_)) = ((⊤ : EReal), 0#32) := by
    show ((Ideal.ofBits FTy.f32 2139095040#32 : EReal), 0#32) = _
    rw [inf_f32]
  rw [e0]
  have hdrop : ∀ i : S50176x128.Idx, reducesTo_S50176x128_S50176_d1.drop i = ix1 p ↔ (i 0).val = p.val := by
    intro i
    constructor
    · intro h
      have := congrArg (fun f => (f 0).val) h
      rwa [Shape.ReducesTo.drop_apply_val_of_eq reducesTo_S50176x128_S50176_d1 i 0 0] at this
    · intro h
      funext a
      match a with
      | 0 => exact Fin.ext ((Shape.ReducesTo.drop_apply_val_of_eq reducesTo_S50176x128_S50176_d1 i 0 0).trans h)
  apply foldl_nearest
  · intro q hq
    unfold Host.argReduceFiber at hq
    obtain ⟨n, hn, rfl⟩ := List.mem_map.1 hq
    have hn' := (hdrop _).1 (by simpa using (List.mem_filter.1 hn).2)
    generalize S50176x128.rowMajor.symm n = i at hn'
    idx_vars i
    refine ⟨i1, ?_⟩
    have : i0 = p := Fin.ext hn'
    rw [this]
    rfl
  · intro i
    unfold Host.argReduceFiber
    refine List.mem_map.2 ⟨S50176x128.rowMajor (ix2 p i), List.mem_filter.2 ⟨List.mem_finRange _, ?_⟩, ?_⟩
    · simpa using (hdrop _).2 rfl
    · rw [Equiv.symm_apply_apply]; rfl

/-- The distances of a pixel and the centroids. -/
theorem trip_dist (W : Valuation τ sig (Elt Ideal)) (h : Sats W tripOps.1) (p : Fin 50176) (k : Fin 128) :
    (W main_while0b_v102 (ix2 p k) : EReal) = Plain.dist (fun l => (W main_v34_0 (ix2 p l) : EReal)) (fun l => (W main_v34_3 (ix2 k l) : EReal)) := by
  dsimp only [tripOps, Sats] at h
  simp only [sat_nullary, sat_unary, sat_binary, sat_ternary, sat_quaternary] at h
  obtain ⟨-, -, e86, ec26, e87, e88, e89, ec27, e90, e91, e92, e93, e94, e95, e96, ec28, e97, e98, e99, ec29, e100, e101, e102, -⟩ := h
  rw [e102, e101, e100, ec29, e99, e98, e97, ec28, e96, e95, e94, e93, e92, e91, e90, ec27, e89, e88, e87, ec26, e86]
  unfold Plain.dist
  pointwise

/-- A pixel's label: the number of the nearest centroid. -/
theorem trip_label (W : Valuation τ sig (Elt Ideal)) (h : Sats W tripOps.1) (p : Fin 50176) :
    (W main_while0b_v103 (ix1 p) : BitVec 32) = BitVec.ofNat 32 (nearest fun k => (W main_while0b_v102 (ix2 p k) : EReal)).val := by
  dsimp only [tripOps, Sats] at h
  simp only [sat_nullary, sat_unary, sat_binary, sat_ternary, sat_quaternary] at h
  iterate 23 replace h := h.2
  obtain ⟨a0, a1, a2, -, e103, -⟩ := h
  have a0' : (W main_while0b_call3_v0 : (⟨S50176x128, .i32⟩ : BufTy).Contents (Elt Ideal)) = iotaInDim S50176x128 32 1 := a0
  have a1' : (W main_while0b_call3_cst : (⟨S_, .f32⟩ : BufTy).Contents (Elt Ideal)) = constant (F := Ideal) S_ .f32 0x7F800000#32 := a1
  have a2' : (W main_while0b_call3_c : (⟨S_, .i32⟩ : BufTy).Contents (Elt Ideal)) = constantI S_ 32 0#32 := a2
  have e103' : (W main_while0b_v103 : (⟨S50176, .i32⟩ : BufTy).Contents (Elt Ideal)) = fun j =>
      (Host.argReduce (F := Ideal) (reducer_argmin_f32_i32 (F := Ideal)) (W main_while0b_v102 : (⟨S50176x128, .f32⟩ : BufTy).Contents (Elt Ideal))
        (W main_while0b_call3_v0 : (⟨S50176x128, .i32⟩ : BufTy).Contents (Elt Ideal))
        (W main_while0b_call3_cst : (⟨S_, .f32⟩ : BufTy).Contents (Elt Ideal)) (W main_while0b_call3_c : (⟨S_, .i32⟩ : BufTy).Contents (Elt Ideal))
        reducesTo_S50176x128_S50176_d1 h_S_ j).2 := e103
  rw [e103', a0', a1', a2']
  exact argmin_apply _ p

/-- A pixel's row of the one-hot matrix. -/
theorem trip_hot (W : Valuation τ sig (Elt Ideal)) (h : Sats W tripOps.1) (p : Fin 50176) (k : Fin 128) :
    (W main_while0b_v104 (ix2 p k) : EReal)
      = hot (fun l => (W main_v34_0 (ix2 p l) : EReal)) (fun k l => (W main_v34_3 (ix2 k l) : EReal)) k := by
  have hl := trip_label W h p
  simp only [trip_dist W h] at hl
  dsimp only [tripOps, Sats] at h
  simp only [sat_nullary, sat_unary, sat_binary, sat_ternary, sat_quaternary] at h
  iterate 28 replace h := h.2
  obtain ⟨o0, o1, o2, o3, o4, e104, -⟩ := h
  have o0' : (W main_while0b_call4_v0 : (⟨S50176x1, .i32⟩ : BufTy).Contents (Elt Ideal))
    = broadcastInDim S50176x1 ![0] bcast_S50176_S50176x1_0 (W main_while0b_v103 : (⟨S50176, .i32⟩ : BufTy).Contents (Elt Ideal)) := o0
  have o1' : (W main_while0b_call4_v1 : (⟨S1x128, .i32⟩ : BufTy).Contents (Elt Ideal)) = iotaInDim S1x128 32 1 := o1
  have o2' : (W main_while0b_call4_v2 : (⟨S50176x128, .i32⟩ : BufTy).Contents (Elt Ideal))
    = broadcastInDim S50176x128 ![0, 1] bcast_S50176x1_S50176x128_0_1 (W main_while0b_call4_v0 : (⟨S50176x1, .i32⟩ : BufTy).Contents (Elt Ideal)) := o2
  have o3' : (W main_while0b_call4_v3 : (⟨S50176x128, .i32⟩ : BufTy).Contents (Elt Ideal))
    = broadcastInDim S50176x128 ![0, 1] bcast_S1x128_S50176x128_0_1 (W main_while0b_call4_v1 : (⟨S1x128, .i32⟩ : BufTy).Contents (Elt Ideal)) := o3
  have o4' : (W main_while0b_call4_v4 : (⟨S50176x128, .i1⟩ : BufTy).Contents (Elt Ideal))
    = cmpi .eq (W main_while0b_call4_v2 : (⟨S50176x128, .i32⟩ : BufTy).Contents (Elt Ideal)) (W main_while0b_call4_v3 : (⟨S50176x128, .i32⟩ : BufTy).Contents (Elt Ideal)) := o4
  have e104' : (W main_while0b_v104 : (⟨S50176x128, .f32⟩ : BufTy).Contents (Elt Ideal))
    = uitofp (F := Ideal) .f32 (W main_while0b_call4_v4 : (⟨S50176x128, .i1⟩ : BufTy).Contents (Elt Ideal)) := e104
  rw [e104', o4', o3', o2', o1', o0']
  pointwise
  rw [hl, cmpi_eq_ofNat, uitofp_ofBool]
  unfold hot
  with_reducible rfl

/-- One trip's new centroids are one plain round of the centroids before it. -/
theorem trip_apply (W : Valuation τ sig (Elt Ideal)) (h : Sats W tripOps.1) (k : Fin 128) (d : Fin 99) :
    (W main_while0b_v111 (ix2 k d) : EReal)
      = Plain.round (fun p l => (W main_v34_0 (ix2 p l) : EReal)) (fun k l => (W main_v34_3 (ix2 k l) : EReal)) k d := by
  have h104 := trip_hot W h
  dsimp only [tripOps, Sats] at h
  simp only [sat_nullary, sat_unary, sat_binary, sat_ternary, sat_quaternary] at h
  iterate 34 replace h := h.2
  obtain ⟨e105, e106, ec30, e107, e108, ec31, l0, l1, e109, e110, e111, -⟩ := h
  have l0' : (W main_while0b_call5_v0 : (⟨S_, .f32⟩ : BufTy).Contents (Elt Ideal)) = (W main_while0b_cst_31 : (⟨S_, .f32⟩ : BufTy).Contents (Elt Ideal)) := l0
  have l1' : (W main_while0b_call5_v1 : (⟨S128x1, .f32⟩ : BufTy).Contents (Elt Ideal))
    = broadcastInDim S128x1 ![] bcast_S_S128x1 (W main_while0b_call5_v0 : (⟨S_, .f32⟩ : BufTy).Contents (Elt Ideal)) := l1
  have e109' : (W main_while0b_v109 : (⟨S128x1, .f32⟩ : BufTy).Contents (Elt Ideal))
    = maximumf (F := Ideal) (W main_while0b_call5_v1 : (⟨S128x1, .f32⟩ : BufTy).Contents (Elt Ideal)) (W main_while0b_v108 : (⟨S128x1, .f32⟩ : BufTy).Contents (Elt Ideal)) := e109
  rw [e111, e110, e109', l1', l0', ec31, e108, e107, ec30, e106, e105]
  pointwise
  simp only [h104, Ideal.ofBits_one_f32]
  unfold Plain.round
  with_reducible rfl

end Cert.Proof.ReferenceIdeal

end
-- ==== Proof.ReferenceIdeal.Value.lean ====
/-
  What the reference's run ends with over the extended reals, in plain sums: the centroids after ten rounds, the first
  result, and the distances the second is computed from.
-/
module

public import proofs.«01_k».proof.Proof.ReferenceIdeal.Trip

@[expose] public section

set_option maxRecDepth 16384

noncomputable section

namespace Cert.Proof.ReferenceIdeal

open Cert.ReferenceIdeal Cert.ReferenceIdeal.Gen Cert.Proof.Ssa Cert.Proof.Plain
open Idealize.ShloMosaic Idealize.ShloMosaic.TcCoe Idealize.ShloMosaic.StableHlo

variable (m : (ℓ : Loc nD τ sig) → Buf (Elt Ideal) ℓ)

/-- The pixels' features. -/
def pix (c : Dev nD) (p : Fin 50176) (l : Fin 99) : EReal := entry m c main_v16 (ix2 p l)

/-- The first centroids. -/
def first (c : Dev nD) (k : Fin 128) (l : Fin 99) : EReal := entry m c main_v33 (ix2 k l)

/-- At the loop's entry the carried buffers hold the pixels and the first centroids. -/
theorem entry_carried (c : Dev nD) : entry m c main_v34_0 = entry m c main_v16 ∧ entry m c main_v34_3 = entry m c main_v33 := by
  have h := (entry_sats m c).2.2
  generalize entry m c = W at h ⊢
  dsimp only [tailOps, Sats] at h
  simp only [sat_nullary, sat_unary, sat_binary, sat_ternary] at h
  obtain ⟨-, -, -, -, -, -, -, -, -, -, -, -, h0, -, -, h3, -⟩ := h
  exact ⟨h0, h3⟩

/-- One trip ends with its new centroids in the carried buffer. -/
theorem body_centroids (V : Valuation τ sig (Elt Ideal)) :
    after bodyOps.1 V (Proc.devRef .tc main_v34_3) = after tripOps.1 V (Proc.devRef .tc main_while0b_v111) := by
  have e : after bodyOps.1 V = after copyOps.1 (after tripOps.1 V) := by rw [← after_append, ← bodyOps_eq]
  rw [e]
  dsimp only [copyOps]
  rw [after_cons, after_cons, after_cons, after_nil, unary_result, unary_result_ne, unary_result_ne]
  · rfl
  all_goals decide

/-- Before the `k`-th condition the carried centroids are those after `k` plain rounds. -/
theorem centroids_eq (c : Dev nD) : ∀ (n : ℕ) (k : Fin 128) (l : Fin 99), (atK m n c main_v34_3 (ix2 k l) : EReal) = rounds (pix m c) (first m c) n k l
  | 0, k, l => by
    show entry m c main_v34_3 (ix2 k l) = _
    rw [(entry_carried m c).2]
    rfl
  | n + 1, k, l => by
    show after bodyOps.1 (after condOps (atK m n c)) (Proc.devRef .tc main_v34_3) (ix2 k l) = _
    have h0 : (fun (p : Fin 50176) (l : Fin 99) => (after tripOps.1 (after condOps (atK m n c)) main_v34_0 (ix2 p l) : EReal)) = pix m c := by
      funext p l
      rw [tripOps_mono.keeps _ (by decide), cond_keeps _ (by decide), atK_keeps m c (by decide) n, (entry_carried m c).1]
      rfl
    have h3 : (fun (k : Fin 128) (l : Fin 99) => (after tripOps.1 (after condOps (atK m n c)) main_v34_3 (ix2 k l) : EReal))
        = rounds (pix m c) (first m c) n := by
      funext k l
      rw [tripOps_mono.keeps _ (by decide), cond_keeps _ (by decide)]
      exact centroids_eq c n k l
    rw [body_centroids, trip_apply _ (trip_sats _), h0, h3]
    rfl

/-- What the operations after the loop read. -/
theorem ending_carried (c : Dev nD) (k : Fin 128) (l : Fin 99) : (ending m c main_v34_3 (ix2 k l) : EReal) = rounds (pix m c) (first m c) 10 k l := by
  rw [← centroids_eq, ending, postOps_mono.keeps _ (by decide), cond_keeps _ (by decide)]

/-- The first result before its leading axis. -/
theorem feats_apply (c : Dev nD) (k j : Fin 128) : (ending m c main_v39 (ix2 k j) : EReal)
    = ∑ l : Fin 99, rounds (pix m c) (first m c) 10 k l * (m (c, Proc.devRef .tc main_arg1) (ix2 j l) : EReal) + (m (c, Proc.devRef .tc main_arg2) (ix1 j) : EReal) := by
  have h := postOps_mono.sats (after condOps (atK m 10 c))
  have hc := ending_carried m c k
  have h1 := ending_keeps m c (r := main_arg1) (by decide)
  have h2 := ending_keeps m c (r := main_arg2) (by decide)
  simp only [← hc, ← h1, ← h2]
  clear hc h1 h2
  change Sats (ending m c) _ at h
  generalize ending m c = W at h ⊢
  dsimp only [postOps, part0Ops, part1Ops, List.cons_append, List.nil_append, Sats] at h
  simp only [sat_nullary, sat_unary, sat_binary, sat_ternary] at h
  obtain ⟨e35, e36, e37, e38, e39, -⟩ := h
  rw [e39, e38, e37, e36, e35]
  pointwise

/-- The negated distances of the centroids, by their last three features. -/
theorem dist_apply (c : Dev nD) (i j : Fin 128) : (ending m c main_v58 (ix2 i j) : EReal)
    = -Plain.dist (fun l : Fin 3 => rounds (pix m c) (first m c) 10 i ⟨96 + l.val, by omega⟩)
        (fun l : Fin 3 => rounds (pix m c) (first m c) 10 j ⟨96 + l.val, by omega⟩) := by
  have h := postOps_mono.sats (after condOps (atK m 10 c))
  have hc := ending_carried m c
  simp only [← hc]
  clear hc
  change Sats (ending m c) _ at h
  generalize ending m c = W at h ⊢
  dsimp only [postOps, part0Ops, part1Ops, List.cons_append, List.nil_append, Sats] at h
  simp only [sat_nullary, sat_unary, sat_binary, sat_ternary] at h
  obtain ⟨-, -, -, -, -, e40, e41, c11, e42, e43, e44, c12, e45, e46, e47, e48, e49, e50, e51, c13, e52, e53, e54, c14, e55, e56, e57, e58, -⟩ := h
  rw [e58, e57, e56, e55, c14, e54, e53, e52, c13, e51, e50, e49, e48, e47, e46, e45, c12, e44, e43, e42, c11, e41, e40]
  unfold Plain.dist
  pointwise

end Cert.Proof.ReferenceIdeal

end
-- ==== Proof.Table.lean ====
/-
  Sorting, scattering and gathering, read at the entries of a table.
-/
module

public import Idealize.ShloMosaic.Lib.Pointwise
public import Idealize.ShloMosaic.Lib.Routing.OpsPair
public import Idealize.ShloMosaic.Lib.Routing.OpsSet

@[expose] public section

noncomputable section

namespace Cert.Proof.Table

open Idealize.ShloMosaic

/-- The shape of a table. -/
abbrev tbl (a n : ℕ) : Shape := ⟨2, ![a, n]⟩

/-- The two spellings of an index of two axes. -/
theorem ix2_eq {a n : ℕ} (i : Fin a) (j : Fin n) : ValueIdx.ix2 i j = ix2 i j := by
  funext d
  match d with
  | 0 => rfl
  | 1 => rfl

/-- The two spellings of an index of three axes. -/
theorem ix3_eq {a n k : ℕ} (i : Fin a) (j : Fin n) (l : Fin k) : ValueIdx.ix3 i j l = ix3 i j l := by
  funext d
  match d with
  | 0 => rfl
  | 1 => rfl
  | 2 => rfl

/-- Every place of a table is one of its rows at one of its columns. -/
theorem exists_ix2 {a n : ℕ} (k : (tbl a n).Idx) : ∃ (i : Fin a) (j : Fin n), k = ix2 i j :=
  ⟨k 0, k 1, (ValueIdx.eq_ix2 k).trans (ix2_eq _ _)⟩

/-- An index of one axis is its coordinate. -/
theorem exists_ix1 {a : ℕ} (k : (⟨1, ![a]⟩ : Shape).Idx) : ∃ i : Fin a, k = ix1 i := by
  refine ⟨k 0, ?_⟩
  funext d
  match d with
  | 0 => rfl

/-- The member of one list at another's position of it, where the lists are the same. -/
theorem getElem_idxOf {α : Type} [DecidableEq α] {L M K : List α} (hL : L = K) (hM : M = K) (x : α) (h : M.idxOf x < L.length) :
    L[M.idxOf x]'h = x := by
  subst hL
  subst hM
  exact List.getElem_idxOf h

/-- Sorting the rows of a table with their positions leaves in each row the sorted positions. -/
theorem sort_positions {α : Type} {a n : ℕ} (cmp : α × BitVec 32 → α × BitVec 32 → BitVec 1) (x : (tbl a n).Idx → α) (before : Fin n → Fin n → Bool) (i : Fin a)
    (h : ∀ k k', (cmp (x (ix2 i k), BitVec.ofNat 32 k.val) (x (ix2 i k'), BitVec.ofNat 32 k'.val) == 1#1) = before k k') (j : Fin n) :
    (Host.sort2 (tbl a n) 1 cmp x (fun y => iotaInDim (tbl a n) 32 1 y)).2 (ix2 i j) = BitVec.ofNat 32 (sortedFrom before j).val := by
  have ha : ∀ k : Fin n, Shape.Idx.along (s := tbl a n) (ix2 i j) 1 k = ix2 i k := by
    intro k
    funext b
    match b with
    | 0 => rfl
    | 1 => rfl
  have hf : (fun k k' : Fin n => cmp (x (Shape.Idx.along (s := tbl a n) (ix2 i j) 1 k), iotaInDim (tbl a n) 32 1 (Shape.Idx.along (s := tbl a n) (ix2 i j) 1 k))
      (x (Shape.Idx.along (s := tbl a n) (ix2 i j) 1 k'), iotaInDim (tbl a n) 32 1 (Shape.Idx.along (s := tbl a n) (ix2 i j) 1 k')) == 1#1) = before := by
    funext k k'
    rw [ha, ha]
    exact h k k'
  rw [← hf]
  rfl

/-- The first positions of the sorted rows are the greatest entries' positions. -/
theorem top_positions {α : Type} {a n t : ℕ} (gt : α → α → BitVec 1) (x : (tbl a n).Idx → α) (before : Fin n → Fin n → Bool) (i : Fin a)
    (h : ∀ k k', (gt (x (ix2 i k)) (x (ix2 i k')) == 1#1) = before k k') (hs : (tbl a n).Slices (fun _ => 0) (tbl a t)) (ht : t ≤ n) (j : Fin t) :
    (Host.topK (tbl a t) 1 gt x hs).2 (ix2 i j) = BitVec.ofNat 32 (sortedFrom before ⟨j.val, by omega⟩).val := by
  have e : ∀ y : IVec (tbl a n) 32, extractStridedSlice (tbl a t) (fun _ => 0) y hs (ix2 i j) = y (ix2 i ⟨j.val, by omega⟩) := by
    intro y
    unfold extractStridedSlice
    congr 1
    funext b
    match b with
    | 0 => exact Fin.ext (Nat.zero_add _)
    | 1 => exact Fin.ext (Nat.zero_add _)
  exact (e _).trans (sort_positions (fun l r => gt l.1 r.1) x before i h _)

/-- Where an update of single entries by pairs of index words lands. -/
theorem lands_pair {R C A B : ℕ} (d : ScatterDims (tbl R C) ⟨3, ![A, B, 2]⟩ (tbl A B)) (hiw : d.insertedWindowDims = [0, 1])
    (hsd : d.scatterDimsToOperandDims = [0, 1]) (hivd : d.indexVectorDim = 2) (idx : IVec ⟨3, ![A, B, 2]⟩ 32)
    (a : Fin A) (b : Fin B) (r : Fin R) (c : Fin C) :
    d.resultIdx? (ix2 a b) idx = some (ix2 r c) ↔ (idx (ix3 a b 0)).toInt = r.val ∧ (idx (ix3 a b 1)).toInt = c.val := by
  have h := Routing.scatter_lands2 d hiw hsd hivd idx a b r c
  rwa [ix2_eq, ix2_eq, ix3_eq, ix3_eq] at h

/-- Where an update of a block of columns from the first lands: at its own place. -/
theorem lands_block {R C C' : ℕ} (d : ScatterDims (tbl R C) ⟨1, ![1]⟩ (tbl R C')) (huw : d.updateWindowDims = [0, 1]) (hiw : d.insertedWindowDims = [])
    (hsd : d.scatterDimsToOperandDims = [1]) (idx : IVec ⟨1, ![1]⟩ 32) (hi : ∀ k, (idx k).toInt = 0)
    (a : Fin R) (b : Fin C') (r : Fin R) (c : Fin C) :
    d.resultIdx? (ix2 a b) idx = some (ix2 r c) ↔ a = r ∧ b.val = c.val := by
  have h0 : d.start (ix2 a b) idx 0 = 0 := by
    unfold ScatterDims.start
    rw [dif_neg fun h => by rw [hsd] at h; exact absurd (List.mem_singleton.1 h) (by decide : (0 : Fin 2) ≠ 1)]
  have h1 : d.start (ix2 a b) idx 1 = 0 := by
    unfold ScatterDims.start
    rw [dif_pos (by rw [hsd]; exact List.mem_singleton.2 rfl)]
    exact hi _
  have hk : d.sKept = [0, 1] := by
    show (tbl R C).kept d.insertedWindowDims = _
    rw [hiw]
    rfl
  have w0 : d.window (ix2 a b) 0 = a.val := by
    unfold ScatterDims.window
    rw [dif_pos (by rw [hk]; exact (by decide : (0 : Fin 2) ∈ [0, 1]))]
    exact congrArg (fun x => ((ix2 a b) x).val) (getElem_idxOf huw hk 0 _ : _ = (0 : Fin 2))
  have w1 : d.window (ix2 a b) 1 = b.val := by
    unfold ScatterDims.window
    rw [dif_pos (by rw [hk]; exact (by decide : (1 : Fin 2) ∈ [0, 1]))]
    exact congrArg (fun x => ((ix2 a b) x).val) (getElem_idxOf huw hk 1 _ : _ = (1 : Fin 2))
  have e := Routing.resultIdx?_ix2 d (ix2 a b) idx r c
  rw [ix2_eq, h0, h1, w0, w1] at e
  rw [e, Fin.ext_iff]
  omega

/-- Where an update of one column lands: in that column. -/
theorem lands_column {R C : ℕ} (d : ScatterDims (tbl R C) ⟨1, ![1]⟩ ⟨1, ![R]⟩) (hiw : d.insertedWindowDims = [1])
    (hsd : d.scatterDimsToOperandDims = [1]) (idx : IVec ⟨1, ![1]⟩ 32) (k : ℕ) (hi : ∀ j, (idx j).toInt = k)
    (a : Fin R) (r : Fin R) (c : Fin C) :
    d.resultIdx? (ix1 a) idx = some (ix2 r c) ↔ a = r ∧ c.val = k := by
  have h0 : d.start (ix1 a) idx 0 = 0 := by
    unfold ScatterDims.start
    rw [dif_neg fun h => by rw [hsd] at h; exact absurd (List.mem_singleton.1 h) (by decide : (0 : Fin 2) ≠ 1)]
  have h1 : d.start (ix1 a) idx 1 = k := by
    unfold ScatterDims.start
    rw [dif_pos (by rw [hsd]; exact List.mem_singleton.2 rfl)]
    exact hi _
  have hk : d.sKept = [0] := by
    show (tbl R C).kept d.insertedWindowDims = _
    rw [hiw]
    rfl
  have w0 : d.window (ix1 a) 0 = a.val := by
    unfold ScatterDims.window
    rw [dif_pos (by rw [hk]; exact (by decide : (0 : Fin 2) ∈ [0]))]
    have q : ∀ X : Fin 1, (ix1 a X).val = a.val := fun X => by
      obtain rfl : X = 0 := Subsingleton.elim _ _
      rfl
    exact q _
  have w1 : d.window (ix1 a) 1 = 0 := by
    unfold ScatterDims.window
    rw [dif_neg (by rw [hk]; exact (by decide : (1 : Fin 2) ∉ [0]))]
  have e := Routing.resultIdx?_ix2 d (ix1 a) idx r c
  rw [ix2_eq, h0, h1, w0, w1] at e
  rw [e, Fin.ext_iff]
  omega

/-- The row a gather of whole rows reads: the index word, clamped. -/
def row {R : ℕ} (hR : 0 < R) (v : BitVec 32) : Fin R := ⟨min v.toInt.toNat (R - 1), by omega⟩

/-- A gather of whole rows reads the row its index word says. -/
theorem gather_row {α : Type} {R C A : ℕ} (hR : 0 < R) (d : GatherDims (tbl R C) (tbl A 1) (tbl A C)) (hod : d.offsetDims = [1]) (hcs : d.collapsedSliceDims = [0])
    (hob : d.operandBatchingDims = []) (hsim : d.startIndexMap = [0]) (hivd : d.indexVectorDim = 1) (hss : d.sliceSizes 0 = 1)
    (x : (tbl R C).Idx → α) (idx : IVec (tbl A 1) 32) (k : Fin A) (l : Fin C) :
    Host.gather d x idx (ix2 k l) = x (ix2 (row hR (idx (ix2 k 0))) l) := by
  have hb : ∀ a, d.batchCoord (ix2 k l) a = 0 := fun a => d.batchCoord_eq_zero _ a (by rw [hob]; exact List.not_mem_nil)
  have hk : d.sKept = [1] := by
    show (tbl R C).kept (d.collapsedSliceDims ++ d.operandBatchingDims) = _
    rw [hcs, hob]
    rfl
  have o0 : d.offCoord (ix2 k l) 0 = 0 := d.offCoord_eq_zero _ 0 (by rw [hk]; exact (by decide : (0 : Fin 2) ∉ [1]))
  have o1 : d.offCoord (ix2 k l) 1 = l.val := by
    unfold GatherDims.offCoord
    rw [dif_pos (by rw [hk]; exact (by decide : (1 : Fin 2) ∈ [1]))]
    exact congrArg (fun x => ((ix2 k l) x).val) (getElem_idxOf hod hk 1 _ : _ = (1 : Fin 2))
  have s1 : d.start (ix2 k l) idx 1 = 0 := by
    unfold GatherDims.start
    rw [dif_neg (by rw [hsim]; exact (by decide : (1 : Fin 2) ∉ [0]))]
  have hbd : d.batchDims = [0] := by
    show (tbl A C).kept d.offsetDims = _
    rw [hod]
    rfl
  have hsk : d.siKept = [0] := by
    show (List.finRange (tbl A 1).rank).filter (fun b => b.val ≠ d.indexVectorDim) = _
    rw [hivd]
    rfl
  have s0 : d.start (ix2 k l) idx 0 = min (idx (ix2 k 0)).toInt.toNat (R - 1) := by
    unfold GatherDims.start
    have hm : (0 : Fin 2) ∈ d.startIndexMap := by rw [hsim]; exact (by decide : (0 : Fin 2) ∈ [0])
    rw [dif_pos hm]
    have hsi : d.siIdx (ix2 k l) ⟨d.startIndexMap.idxOf 0, List.idxOf_lt_length_iff.2 hm⟩ = ix2 k 0 := by
      funext b
      match b with
      | ⟨0, _⟩ =>
        apply Fin.ext
        unfold GatherDims.siIdx
        rw [dif_neg (by rw [hivd]; exact Nat.zero_ne_one)]
        unfold GatherDims.siCoord
        exact congrArg (fun x => ((ix2 k l) x).val) (getElem_idxOf hbd hsk 0 _ : _ = (0 : Fin 2))
      | ⟨1, _⟩ => exact Subsingleton.elim (α := Fin 1) _ _
    rw [hsi, hss]
    rfl
  unfold Host.gather
  congr 1
  funext a
  apply Fin.ext
  match a with
  | ⟨0, _⟩ =>
    show d.start (ix2 k l) idx 0 + d.batchCoord (ix2 k l) 0 + d.offCoord (ix2 k l) 0 = _
    rw [s0, hb, o0]
    rfl
  | ⟨1, _⟩ =>
    show d.start (ix2 k l) idx 1 + d.batchCoord (ix2 k l) 1 + d.offCoord (ix2 k l) 1 = _
    rw [s1, hb, o1]
    exact Nat.zero_add _

end Cert.Proof.Table

end
-- ==== Proof.ReferenceIdeal.Graph.lean ====
/-
  The reference's second result over the extended reals: the graph whose row marks the first eight of the sorted distances.
-/
module

public import proofs.«01_k».proof.Proof.ReferenceIdeal.Value
public import proofs.«01_k».proof.Proof.Graph
public import proofs.«01_k».proof.Proof.Table

@[expose] public section

set_option maxRecDepth 16384

noncomputable section

namespace Cert.Proof.ReferenceIdeal

open Cert.ReferenceIdeal Cert.ReferenceIdeal.Gen Cert.Proof.Ssa Cert.Proof.Plain
open Idealize.ShloMosaic Idealize.ShloMosaic.TcCoe Idealize.ShloMosaic.StableHlo

/-- The eight greatest of a row's negated entries are at the first eight of the sorted positions. -/
theorem topK_apply (x : FVec Ideal S128x128 .f32) (v : Fin 128 → EReal) (i : Fin 128) (hv : ∀ j, (x (ix2 i j) : EReal) = -v j) (t : Fin 8) :
    (Host.topK S128x8 1 (FloatOps.cmpfTotal (F := Ideal) (φ := .f32) .gt) x sliceFits_S128x128_S128x8).2 (ix2 i t)
      = BitVec.ofNat 32 (sortedFrom (byValue v) ⟨t.val, by omega⟩).val := by
  refine Table.top_positions (FloatOps.cmpfTotal (F := Ideal) (φ := .f32) .gt) x (byValue v) i (fun k k' => ?_) _ (by decide) t
  have : FloatOps.cmpfTotal (F := Ideal) (φ := .f32) .gt (x (ix2 i k)) (x (ix2 i k')) = BitVec.ofBool (decide ((x (ix2 i k) : EReal) > x (ix2 i k'))) := rfl
  rw [this, hv, hv]
  unfold byValue
  by_cases h : v k < v k' <;> simp [h]

/-- The index of a wrapped small number is itself. -/
theorem toInt_wrap (n : ℕ) (h : n < 128) :
    (Scalar.select (IntOp.cmpi .slt (BitVec.ofNat 32 n) 0#32) (IntOp.addi (BitVec.ofNat 32 n) 128#32) (BitVec.ofNat 32 n)).toInt = n := by
  rw [Routing.wrap_of_lt _ _ (by rw [BitVec.toNat_ofNat]; omega), toInt_ofNat (by omega)]

variable (m : (ℓ : Loc nD τ sig) → Buf (Elt Ideal) ℓ)

/-- The centroids' distances, by their last three features. -/
def gap (c : Fin 128 → Fin 99 → EReal) (i j : Fin 128) : EReal :=
  Plain.dist (fun l : Fin 3 => c i ⟨96 + l.val, by omega⟩) (fun l : Fin 3 => c j ⟨96 + l.val, by omega⟩)

/-- The scatter's marks: a row's eight nearest. -/
theorem marks_apply (c : Dev nD) (i j : Fin 128) : (ending m c main_v77 (ix2 i j) : EReal)
    = if ∃ s : Fin 128, s.val < 8 ∧ sortedFrom (byValue (gap (rounds (pix m c) (first m c) 10) i)) s = j then (1 : EReal) else 0 := by
  have h := postOps_mono.sats (after condOps (atK m 10 c))
  have hd := dist_apply m c
  change ∀ i j, (ending m c main_v58 (ix2 i j) : EReal) = -gap (rounds (pix m c) (first m c) 10) i j at hd
  generalize gap (rounds (pix m c) (first m c) 10) = g at hd ⊢
  change Sats (ending m c) _ at h
  generalize ending m c = W at h hd ⊢
  dsimp only [postOps, part0Ops, part1Ops, List.cons_append, List.nil_append, Sats] at h
  simp only [sat_nullary, sat_unary, sat_binary, sat_ternary] at h
  iterate 29 replace h := h.2
  obtain ⟨ei, c15, e59, e60, e61, c16, e62, e63, c17, e64, e65, e66, c18, e67, e68, c19, e69, e70, e71, e72, e73, e74, e75, c20, e76, e77, -⟩ := h
  have hi : ∀ (a : Fin 128) (b : Fin 8), (W main_indices (ix2 a b) : BitVec 32) = BitVec.ofNat 32 (sortedFrom (byValue (g a)) ⟨b.val, by omega⟩).val := by
    intro a b
    rw [ei]
    exact topK_apply _ _ a (hd a) b
  have h0 : ∀ (a : Fin 128) (b : Fin 8), (W main_v75 (ix3 a b 0) : BitVec 32).toInt = a.val := by
    intro a b
    rw [e75, e73, e72, e66, e65, e64, c17, e63, e62, c16, e61, e60]
    pointwise
    exact toInt_wrap a.val a.isLt
  have h1 : ∀ (a : Fin 128) (b : Fin 8), (W main_v75 (ix3 a b 1) : BitVec 32).toInt = (sortedFrom (byValue (g a)) ⟨b.val, by omega⟩).val := by
    intro a b
    rw [e75, e74, e71, e70, e69, c19, e68, e67, c18]
    pointwise
    rw [hi]
    exact toInt_wrap _ (Fin.isLt _)
  have hl : ∀ (a : Fin 128) (b : Fin 8), scatter_S128x128_S128x8x2_S128x8_n_01_01_2.resultIdx? (ix2 a b) (W main_v75) = some (ix2 i j)
      ↔ a = i ∧ sortedFrom (byValue (g a)) ⟨b.val, by omega⟩ = j := by
    intro a b
    refine (Table.lands_pair scatter_S128x128_S128x8x2_S128x8_n_01_01_2 rfl rfl rfl (W main_v75) a b i j).trans ?_
    rw [h0, h1]
    simp only [Fin.ext_iff, Nat.cast_inj]
  rw [e77]
  have hu : ∀ k, (W main_v76 k : EReal) = (1 : EReal) := by
    intro k
    rw [e76, c20]
    exact Ideal.ofBits_one_f32
  by_cases hs : ∃ s : Fin 128, s.val < 8 ∧ sortedFrom (byValue (g i)) s = j
  · rw [if_pos hs]
    obtain ⟨s, hs8, e⟩ := hs
    exact Routing.scatter_set_hit _ _ _ _ _ _ (fun k _ => hu k) (ix2 i ⟨s.val, hs8⟩) ((hl _ _).2 ⟨rfl, e⟩)
  · rw [if_neg hs]
    refine (Routing.scatter_set_miss _ _ _ _ _ fun k hk => hs ?_).trans ?_
    · idx_vars k
      obtain ⟨rfl, e⟩ := (hl _ _).1 hk
      exact ⟨_, k1.isLt, e⟩
    · rw [e59, c15]
      pointwise

/-- The graph of a table of marks: an edge where one of the two marks the other. -/
theorem graph_apply (y : FVec Ideal S128x128 .f32) (i j : Fin 128) :
    (uitofp (F := Ideal) .f32 (cmpf .ogt (addf y (transpose S128x128 [1, 0] y transposes_S128x128_S128x128_1_0))
      (broadcastInDim S128x128 ![] bcast_S_S128x128 (constant S_ .f32 0x00000000#32))) (ix2 i j) : EReal)
      = if (0 : EReal) < (y (ix2 i j) : EReal) + (y (ix2 j i) : EReal) then (1 : EReal) else 0 := by
  pointwise
  exact uitofp_ofBool _

/-- The second result before its leading axis. -/
theorem adj_apply (c : Dev nD) (i j : Fin 128) : (ending m c main_v82 (ix2 i j) : EReal)
    = if (0 : EReal) < @HAdd.hAdd EReal EReal EReal _ (ending m c main_v77 (ix2 i j)) (ending m c main_v77 (ix2 j i)) then (1 : EReal) else 0 := by
  have h := postOps_mono.sats (after condOps (atK m 10 c))
  change Sats (ending m c) _ at h
  generalize ending m c = W at h ⊢
  dsimp only [postOps, part0Ops, part1Ops, List.cons_append, List.nil_append, Sats] at h
  simp only [sat_nullary, sat_unary, sat_binary, sat_ternary] at h
  iterate 55 replace h := h.2
  obtain ⟨e78, e79, c21, e80, e81, e82, -⟩ := h
  rw [e82, e81, e80, c21, e79, e78]
  exact graph_apply (W main_v77) i j

/-- The results are the tables with a leading axis. -/
theorem results (c : Dev nD) :
    ending m c main_v83 = broadcastInDim S1x128x128 ![1, 2] bcast_S128x128_S1x128x128_1_2 (ending m c main_v39)
      ∧ ending m c main_v84 = broadcastInDim S1x128x128 ![1, 2] bcast_S128x128_S1x128x128_1_2 (ending m c main_v82) := by
  have h := postOps_mono.sats (after condOps (atK m 10 c))
  change Sats (ending m c) _ at h
  generalize ending m c = W at h ⊢
  dsimp only [postOps, part0Ops, part1Ops, List.cons_append, List.nil_append, Sats] at h
  simp only [sat_nullary, sat_unary, sat_binary, sat_ternary] at h
  iterate 61 replace h := h.2
  exact ⟨h.1, h.2.1⟩

/-- The program's two results and its arguments at the end of every run. -/
theorem values (ρ : Dev nD → PrngReg) : θ_run defs (onTc (τ := τ) (main (F := Ideal))) ⟨m, fun _ => 0, ρ⟩ (fun r => ∀ c : Dev nD,
      r.2.mem ((c.tc : Thread nD τ).loc main_v83) = broadcastInDim S1x128x128 ![1, 2] bcast_S128x128_S1x128x128_1_2 (ending m c main_v39)
      ∧ r.2.mem ((c.tc : Thread nD τ).loc main_v84) = broadcastInDim S1x128x128 ![1, 2] bcast_S128x128_S1x128x128_1_2 (ending m c main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v83 rfl).trans (results m c).1, (h c main_v84 rfl).trans (results m c).2,
    (h c main_arg0 rfl).trans (ending_keeps m c (by decide)), (h c main_arg1 rfl).trans (ending_keeps m c (by decide)),
    (h c main_arg2 rfl).trans (ending_keeps m c (by decide))⟩) (run_fold m ρ)

end Cert.Proof.ReferenceIdeal

end
-- ==== Proof.KernelIdeal.Order.lean ====
/-
  The kernel's host operations write every buffer once and in rising order; the contents at its launch satisfy all their
  equations.
-/
module

public import proofs.«01_k».proof.Proof.KernelIdeal.Run
public import proofs.«01_k».proof.Proof.Ssa

@[expose] public section

set_option maxRecDepth 16384
set_option maxHeartbeats 2000000

noncomputable section

namespace Cert.Proof.KernelIdeal

open Cert.KernelIdeal Cert.KernelIdeal.Gen Cert.Proof.Ssa
open Idealize.ShloMosaic Idealize.ShloMosaic.TcCoe Idealize.ShloMosaic.Tactic
open Idealize.ShloMosaic.StableHlo

variable {F : FTy → Type} [FloatOps F]

/-- The operations before the shuffle: the coordinates, the pixels' features and the padded weights. -/
abbrev headOps : List (HloOp τ sig (Elt F)) := hostOps0 ++ (hostOps0_1 ++ (hostOps0_2 ++ (hostOps0_3 ++ hostOps0_4)))

/-- They are in rising order. -/
theorem headOps_mono : Mono 3 (headOps (F := F)) 93 := by
  dsimp only [headOps, hostOps0, hostOps0_1, hostOps0_2, hostOps0_3, hostOps0_4, List.cons_append, List.nil_append]
  repeat
    first
      | exact Mono.nil (by decide)
      | (with_reducible refine Mono.cons (step_unary ?_) ?_ ?_); (· decide); (· decide)
      | (with_reducible refine Mono.cons (step_nullary) ?_ ?_); (· decide)
      | (with_reducible refine Mono.cons (step_binary ?_ ?_) ?_ ?_); (· decide); (· decide); (· decide)
      | (with_reducible refine Mono.cons (step_reshape ?_) ?_ ?_); (· decide); (· decide)
      | (with_reducible refine Mono.cons (step_ternary ?_ ?_ ?_) ?_ ?_); (· decide); (· decide); (· decide); (· decide)
      | (with_reducible refine Mono.cons (step_quaternary ?_ ?_ ?_ ?_) ?_ ?_); (· decide); (· decide); (· decide); (· decide); (· decide)
      | (with_reducible refine Mono.cons (step_nary ?_) ?_ ?_); (· decide); (· decide)

/-- The shuffle's operations are in rising order. -/
theorem shuf_mono : Mono 93 (hostOps0_5 (F := F)) 1053 := by
  dsimp only [hostOps0_5, List.cons_append, List.nil_append]
  repeat
    first
      | exact Mono.nil (by decide)
      | (with_reducible refine Mono.cons (step_unary ?_) ?_ ?_); (· decide); (· decide)
      | (with_reducible refine Mono.cons (step_nullary) ?_ ?_); (· decide)
      | (with_reducible refine Mono.cons (step_binary ?_ ?_) ?_ ?_); (· decide); (· decide); (· decide)
      | (with_reducible refine Mono.cons (step_reshape ?_) ?_ ?_); (· decide); (· decide)
      | (with_reducible refine Mono.cons (step_ternary ?_ ?_ ?_) ?_ ?_); (· decide); (· decide); (· decide); (· decide)
      | (with_reducible refine Mono.cons (step_quaternary ?_ ?_ ?_ ?_) ?_ ?_); (· decide); (· decide); (· decide); (· decide); (· decide)
      | (with_reducible refine Mono.cons (step_nary ?_) ?_ ?_); (· decide); (· decide)

/-- The operations after the shuffle are in rising order. -/
theorem tailOps_mono : Mono 1053 (hostOps0_6 (F := F)) 100000 := by
  dsimp only [hostOps0_6, List.cons_append, List.nil_append]
  repeat
    first
      | exact Mono.nil (by decide)
      | (with_reducible refine Mono.cons (step_unary ?_) ?_ ?_); (· decide); (· decide)
      | (with_reducible refine Mono.cons (step_nullary) ?_ ?_); (· decide)
      | (with_reducible refine Mono.cons (step_binary ?_ ?_) ?_ ?_); (· decide); (· decide); (· decide)
      | (with_reducible refine Mono.cons (step_reshape ?_) ?_ ?_); (· decide); (· decide)
      | (with_reducible refine Mono.cons (step_ternary ?_ ?_ ?_) ?_ ?_); (· decide); (· decide); (· decide); (· decide)

variable (m : (ℓ : Loc nD τ sig) → Buf (Elt F) ℓ)

/-- The contents at the launch satisfy the equations of all the host operations, and hold the arguments. -/
theorem launch_sats (c : Dev nD) :
    Sats (V0 m c) (headOps (F := F)) ∧ Sats (V0 m c) (hostOps0_5 (F := F)) ∧ Sats (V0 m c) (hostOps0_6 (F := F)) := by
  have h := (headOps_mono.append (shuf_mono.append tailOps_mono)).sats (fun b => m (c, b))
  have e : after (headOps ++ (hostOps0_5 ++ hostOps0_6)) (fun b => m (c, b)) = V0 m c := by
    unfold V0
    congr 1
  rw [e] at h
  have h' := Sats.append.1 h
  exact ⟨h'.1, Sats.append.1 h'.2⟩

end Cert.Proof.KernelIdeal

end
-- ==== Proof.Pixels.lean ====
/-
  The pixels' features are the same in both programs, however they are laid out on the way.
-/
module

public import proofs.«01_k».proof.Proof.KernelIdeal.Order
public import proofs.«01_k».proof.Proof.ReferenceIdeal.Order
public import Idealize.ShloMosaic.Lib.Pointwise

@[expose] public section

set_option maxRecDepth 16384

noncomputable section

namespace Cert.Proof.Pixels

open Idealize.ShloMosaic

section
open Cert.KernelIdeal Cert.KernelIdeal.Gen

/-- The kernel's layout. -/
def kernelRows (x : FVec Ideal S1x96x224x224 .f32) (z : FVec Ideal S3x224x224 .f32) : FVec Ideal S50176x99 .f32 :=
  transpose S50176x99 [1, 0] (concatenate S99x50176 0
    [⟨S96x50176, shapeCast S96x50176 (shapeCast S96x224x224 x shapeCasts_S1x96x224x224_S96x224x224) shapeCasts_S96x224x224_S96x50176⟩,
      ⟨S3x50176, mulf (shapeCast S3x50176 z shapeCasts_S3x224x224_S3x50176) (broadcastInDim S3x50176 ![] bcast_S_S3x50176 (constant S_ .f32 0x40A00000#32))⟩]
    concatenates_S96x50176_S3x50176_S99x50176_d0) transposes_S99x50176_S50176x99_1_0

end

section
open Cert.ReferenceIdeal Cert.ReferenceIdeal.Gen

/-- The reference's layout. -/
def referenceRows (x : FVec Ideal S1x96x224x224 .f32) (z : FVec Ideal S3x224x224 .f32) : FVec Ideal S50176x99 .f32 :=
  shapeCast S50176x99 (transpose S1x50176x99 [0, 2, 1] (concatenate S1x99x50176 1
    [⟨S1x96x50176, shapeCast S1x96x50176 x shapeCasts_S1x96x224x224_S1x96x50176⟩,
      ⟨S1x3x50176, mulf (shapeCast S1x3x50176 z shapeCasts_S3x224x224_S1x3x50176)
        (broadcastInDim S1x3x50176 ![] bcast_S_S1x3x50176 (constant S_ .f32 0x40A00000#32))⟩]
    concatenates_S1x96x50176_S1x3x50176_S1x99x50176_d1) transposes_S1x99x50176_S1x50176x99_0_2_1) shapeCasts_S1x50176x99_S50176x99

end

open Cert.ReferenceIdeal

/-- They hold the same features. -/
theorem rows_eq (x : FVec Ideal S1x96x224x224 .f32) (z : FVec Ideal S3x224x224 .f32) (p : Fin 50176) (l : Fin 99) :
    (kernelRows x z (ix2 p l) : EReal) = referenceRows x z (ix2 p l) := by
  pointwise [kernelRows, referenceRows]

/-- The last three features, five times the coordinates. -/
theorem coord_apply (x : FVec Ideal S1x96x224x224 .f32) (z : FVec Ideal S3x224x224 .f32) (p : Fin 50176) (l : Fin 3) :
    (referenceRows x z (ix2 p ⟨96 + l.val, by omega⟩) : EReal)
      = (z (ix3 l ⟨p.val / 224, by omega⟩ ⟨p.val % 224, by omega⟩) : EReal) * Ideal.ofBits .f32 0x40A00000#32 := by
  pointwise [referenceRows]

end Cert.Proof.Pixels

end
-- ==== Proof.KernelIdeal.Host.lean ====
/-
  What the kernel's launch finds: the pixels' features and the first centroids on 128 lanes, a one in lane 99, and the
  weights and the bias.
-/
module

public import proofs.«01_k».proof.Proof.KernelIdeal.Order
public import proofs.«01_k».proof.Proof.KernelIdeal.Value
public import proofs.«01_k».proof.Proof.Table
public import proofs.«01_k».proof.Proof.Pixels

@[expose] public section

set_option maxRecDepth 16384

noncomputable section

namespace Cert.Proof.KernelIdeal

open Cert.KernelIdeal Cert.KernelIdeal.Gen Cert.Proof.Ssa Cert.Proof.Plain
open Idealize.ShloMosaic Idealize.ShloMosaic.TcCoe Idealize.ShloMosaic.StableHlo

/-- A table scattered whole at the first columns: its entry there, the operand's after them. -/
theorem block_apply {R C' : ℕ} (hC : C' ≤ 128) (d : ScatterDims (Table.tbl R 128) ⟨1, ![1]⟩ (Table.tbl R C')) (huw : d.updateWindowDims = [0, 1]) (hiw : d.insertedWindowDims = [])
    (hsd : d.scatterDimsToOperandDims = [1]) (x : (Table.tbl R 128).Idx → EReal) (idx : IVec ⟨1, ![1]⟩ 32) (hi : ∀ k, (idx k).toInt = 0)
    (u : (Table.tbl R C').Idx → EReal) (r : Fin R) (l : Fin 128) :
    Host.scatter d (fun _ b => b) x idx u (ix2 r l) = if h : l.val < C' then u (ix2 r ⟨l.val, h⟩) else x (ix2 r l) := by
  have hl := fun (a : Fin R) (b : Fin C') => Table.lands_block d huw hiw hsd idx hi a b r l
  by_cases h : l.val < C'
  · rw [dif_pos h]
    refine Routing.scatter_set_hit d x idx u _ _ (fun k hk => ?_) (ix2 r ⟨l.val, h⟩) ((hl _ _).2 ⟨rfl, rfl⟩)
    obtain ⟨k0, k1, rfl⟩ := Table.exists_ix2 k
    obtain ⟨rfl, e⟩ := (hl _ _).1 hk
    congr 2
    exact Fin.ext e
  · rw [dif_neg h]
    refine Routing.scatter_set_miss d x idx u _ fun k hk => h ?_
    obtain ⟨k0, k1, rfl⟩ := Table.exists_ix2 k
    obtain ⟨-, e⟩ := (hl _ _).1 hk
    rw [← e]
    exact k1.isLt

/-- A column scattered whole: its entry there, the operand's elsewhere. -/
theorem column_apply {R : ℕ} (d : ScatterDims (Table.tbl R 128) ⟨1, ![1]⟩ ⟨1, ![R]⟩) (hiw : d.insertedWindowDims = [1])
    (hsd : d.scatterDimsToOperandDims = [1]) (x : (Table.tbl R 128).Idx → EReal) (idx : IVec ⟨1, ![1]⟩ 32) (n : ℕ) (hi : ∀ k, (idx k).toInt = n)
    (u : (⟨1, ![R]⟩ : Shape).Idx → EReal) (r : Fin R) (l : Fin 128) :
    Host.scatter d (fun _ b => b) x idx u (ix2 r l) = if l.val = n then u (ix1 r) else x (ix2 r l) := by
  have hl := fun (a : Fin R) => Table.lands_column d hiw hsd idx n hi a r l
  by_cases h : l.val = n
  · rw [if_pos h]
    refine Routing.scatter_set_hit d x idx u _ _ (fun k hk => ?_) (ix1 r) ((hl _).2 ⟨rfl, h⟩)
    obtain ⟨k0, rfl⟩ := Table.exists_ix1 k
    obtain ⟨rfl, -⟩ := (hl _).1 hk
    rfl
  · rw [if_neg h]
    refine Routing.scatter_set_miss d x idx u _ fun k hk => h ?_
    obtain ⟨k0, rfl⟩ := Table.exists_ix1 k
    exact ((hl _).1 hk).2

variable (m : (ℓ : Loc nD τ sig) → Buf (Elt Ideal) ℓ)

/-- The pixels' features. -/
def pix (c : Dev nD) (p : Fin 50176) (l : Fin 99) : EReal := V0 m c (Proc.devRef .tc main_v20) (ix2 p l)

/-- The launch keeps the arguments. -/
theorem launch_keeps (c : Dev nD) {r : Ref sig .tc} (h : r.idx.val < 3) : V0 m c (Proc.devRef .tc r) = m (c, Proc.devRef .tc r) := by
  have e : after (headOps ++ (hostOps0_5 ++ hostOps0_6)) (fun b => m (c, b)) = V0 m c := by
    unfold V0
    congr 1
  rw [← e, (headOps_mono.append (shuf_mono.append tailOps_mono)).keeps _ h]

/-- The equations of the operations from the coordinates on. -/
theorem coords_sats (c : Dev nD) : Sats (V0 m c) (hostOps0_4 (F := Ideal)) := by
  have h := (launch_sats m c).1
  exact (Sats.append.1 (Sats.append.1 (Sats.append.1 (Sats.append.1 h).2).2).2).2

/-- The pixels' features are the kernel's layout of the image and the coordinates. -/
theorem rows_apply (c : Dev nD) (p : Fin 50176) (l : Fin 99) :
    pix m c p l = Pixels.kernelRows (V0 m c (Proc.devRef .tc main_v0)) (V0 m c (Proc.devRef .tc main_v9)) (ix2 p l) := by
  have h := coords_sats m c
  unfold pix
  generalize V0 m c = W at h ⊢
  dsimp only [hostOps0_4, Sats] at h
  simp only [sat_nullary, sat_unary, sat_binary, sat_ternary, sat_reshape] at h
  iterate 8 replace h := h.2
  obtain ⟨e10, c4, e11, e12, -, -, -, -, -, -, e17, e18, e19, e20, -⟩ := h
  have e10' : (W (Proc.devRef .tc main_v10) : FVec Ideal S3x50176 .f32) = shapeCast S3x50176 (W (Proc.devRef .tc main_v9) : FVec Ideal S3x224x224 .f32) shapeCasts_S3x224x224_S3x50176 :=
    e10.trans (reshape_result _ _ _ _ _ _ _)
  have e17' : (W (Proc.devRef .tc main_v17) : FVec Ideal S96x224x224 .f32)
      = shapeCast S96x224x224 (W (Proc.devRef .tc main_v0) : FVec Ideal S1x96x224x224 .f32) shapeCasts_S1x96x224x224_S96x224x224 :=
    e17.trans (reshape_result _ _ _ _ _ _ _)
  have e18' : (W (Proc.devRef .tc main_v18) : FVec Ideal S96x50176 .f32)
      = shapeCast S96x50176 (W (Proc.devRef .tc main_v17) : FVec Ideal S96x224x224 .f32) shapeCasts_S96x224x224_S96x50176 :=
    e18.trans (reshape_result _ _ _ _ _ _ _)
  unfold Pixels.kernelRows
  rw [e20, e19, e18', e17', e12, e11, c4, e10']

/-- The pixels' features on 128 lanes, with a one in lane 99. -/
theorem pixels_lanes (c : Dev nD) : PixelLanes (V0 m c (Proc.devRef .tc main_v26)) (pix m c) := by
  have h := coords_sats m c
  unfold pix
  generalize V0 m c = W at h ⊢
  dsimp only [hostOps0_4, Sats] at h
  simp only [sat_nullary, sat_unary, sat_binary, sat_ternary] at h
  iterate 22 replace h := h.2
  obtain ⟨c6, e21, c7, e22, e23, c8, e24, c9, e25, e26, -⟩ := h
  intro p l
  rw [e26]
  refine (column_apply scatter_S50176x128_S1_S50176_0_1_1_0 rfl rfl _ _ 99 ?_ _ p l).trans ?_
  · intro k
    rw [e24, c8]
    rfl
  have e : (W (Proc.devRef .tc main_v23) (ix2 p l) : EReal) = if h : l.val < 99 then W (Proc.devRef .tc main_v20) (ix2 p ⟨l.val, h⟩) else (0 : EReal) := by
    rw [e23]
    refine (block_apply (by decide) scatter_S50176x128_S1_S50176x99_01_n_1_0 rfl rfl rfl _ _ ?_ _ p l).trans ?_
    · intro k
      rw [e22, c7]
      rfl
    · congr 1
      funext _
      rw [e21, c6]
      pointwise
  have e1 : (W (Proc.devRef .tc main_v25) (ix1 p) : EReal) = (1 : EReal) := by
    rw [e25, c9]
    exact Ideal.ofBits_one_f32
  refine (if_congr Iff.rfl e1 e).trans ?_
  by_cases h : l.val = 99
  · rw [if_pos h, dif_neg (by omega), if_pos h]
  · rw [if_neg h, if_neg h]

/-- The row of the pixel a centroid starts at. -/
def start (c : Dev nD) (k : Fin 128) : Fin 50176 := Table.row (by decide) (V0 m c (Proc.devRef .tc main_v42) (ix2 k (0 : Fin 1)))

/-- The first centroids on 128 lanes, with a one in lane 99. -/
theorem first_lanes (c : Dev nD) : PixelLanes (V0 m c (Proc.devRef .tc main_v43)) (fun k => pix m c (start m c k)) := by
  have h := (launch_sats m c).2.2
  have hx := pixels_lanes m c
  unfold start
  generalize pix m c = x at hx ⊢
  generalize V0 m c = W at h hx ⊢
  dsimp only [hostOps0_6, Sats] at h
  simp only [sat_nullary, sat_unary, sat_binary, sat_ternary] at h
  iterate 9 replace h := h.2
  intro k l
  rw [h.1]
  refine (Table.gather_row (by decide) gather_S50176x128_S128x1_S128x128_1_0_n_n_0_1_1128 rfl rfl rfl rfl rfl rfl _ _ k l).trans ?_
  exact hx _ l

/-- The weights on the lanes in use. -/
theorem weights_apply (c : Dev nD) (j : Fin 128) (l : Fin 99) :
    (V0 m c (Proc.devRef .tc main_v15) (ix2 j (Fin.castLE (by decide) l)) : EReal) = m (c, Proc.devRef .tc main_arg1) (ix2 j l) := by
  have h := coords_sats m c
  rw [← launch_keeps m c (r := main_arg1) (by decide)]
  generalize V0 m c = W at h ⊢
  dsimp only [hostOps0_4, Sats] at h
  simp only [sat_nullary, sat_unary, sat_binary, sat_ternary] at h
  iterate 14 replace h := h.2
  obtain ⟨c0, e14, e15, -⟩ := h
  rw [e15]
  refine (block_apply (by decide) scatter_S128x128_S1_S128x99_01_n_1_0 rfl rfl rfl _ _ ?_ _ j _).trans (dif_pos l.isLt)
  intro k
  rw [e14, c0]
  rfl

/-- The bias. -/
theorem bias_apply (c : Dev nD) (j : Fin 128) :
    (V0 m c (Proc.devRef .tc main_v16) (ix2 (0 : Fin 1) j) : EReal) = m (c, Proc.devRef .tc main_arg2) (ix1 j) := by
  have h := coords_sats m c
  rw [← launch_keeps m c (r := main_arg2) (by decide)]
  generalize V0 m c = W at h ⊢
  dsimp only [hostOps0_4, Sats] at h
  simp only [sat_nullary, sat_unary, sat_binary, sat_ternary, sat_reshape] at h
  iterate 17 replace h := h.2
  have e : (W (Proc.devRef .tc main_v16) : FVec Ideal S1x128 .f32) = shapeCast S1x128 (W (Proc.devRef .tc main_arg2) : FVec Ideal S128 .f32) shapeCasts_S128_S1x128 :=
    h.1.trans (reshape_result _ _ _ _ _ _ _)
  rw [e]
  pointwise

end Cert.Proof.KernelIdeal

end
-- ==== Proof.ReferenceIdeal.Host.lean ====
/-
  What the reference's loop starts from: the pixels' features as rows, the first centroids gathered from them.
-/
module

public import proofs.«01_k».proof.Proof.ReferenceIdeal.Value
public import proofs.«01_k».proof.Proof.Table
public import proofs.«01_k».proof.Proof.Pixels

@[expose] public section

set_option maxRecDepth 16384

noncomputable section

namespace Cert.Proof.ReferenceIdeal

open Cert.ReferenceIdeal Cert.ReferenceIdeal.Gen Cert.Proof.Ssa Cert.Proof.Plain
open Idealize.ShloMosaic Idealize.ShloMosaic.TcCoe Idealize.ShloMosaic.StableHlo

variable (m : (ℓ : Loc nD τ sig) → Buf (Elt Ideal) ℓ)

/-- The pixels' features are the reference's layout of the image and the coordinates. -/
theorem rows_apply (c : Dev nD) (p : Fin 50176) (l : Fin 99) :
    pix m c p l = Pixels.referenceRows (entry m c (Proc.devRef .tc main_v0)) (entry m c (Proc.devRef .tc main_v9)) (ix2 p l) := by
  have h := (entry_sats m c).1
  unfold pix
  generalize entry m c = W at h ⊢
  dsimp only [headOps, Sats] at h
  simp only [sat_nullary, sat_unary, sat_binary, sat_ternary, sat_reshape] at h
  iterate 55 replace h := h.2
  obtain ⟨e10, e11, c4, e12, e13, e14, e15, e16, -⟩ := h
  have e10' : (W (Proc.devRef .tc main_v10) : FVec Ideal S1x96x50176 .f32)
      = shapeCast S1x96x50176 (W (Proc.devRef .tc main_v0) : FVec Ideal S1x96x224x224 .f32) shapeCasts_S1x96x224x224_S1x96x50176 :=
    e10.trans (reshape_result _ _ _ _ _ _ _)
  have e11' : (W (Proc.devRef .tc main_v11) : FVec Ideal S1x3x50176 .f32)
      = shapeCast S1x3x50176 (W (Proc.devRef .tc main_v9) : FVec Ideal S3x224x224 .f32) shapeCasts_S3x224x224_S1x3x50176 :=
    e11.trans (reshape_result _ _ _ _ _ _ _)
  have e16' : (W (Proc.devRef .tc main_v16) : FVec Ideal S50176x99 .f32)
      = shapeCast S50176x99 (W (Proc.devRef .tc main_v15) : FVec Ideal S1x50176x99 .f32) shapeCasts_S1x50176x99_S50176x99 :=
    e16.trans (reshape_result _ _ _ _ _ _ _)
  unfold Pixels.referenceRows
  rw [e16', e15, e14, e13, e12, c4, e11', e10']

/-- The row of the pixel a centroid starts at. -/
def start (c : Dev nD) (k : Fin 128) : Fin 50176 := Table.row (by decide) (entry m c (Proc.devRef .tc main_v32) (ix2 k (0 : Fin 1)))

/-- The first centroids are pixels. -/
theorem first_apply (c : Dev nD) (k : Fin 128) (l : Fin 99) : first m c k l = pix m c (start m c k) l := by
  have h := (entry_sats m c).2.2
  unfold first pix start
  generalize entry m c = W at h ⊢
  dsimp only [tailOps, Sats] at h
  simp only [sat_nullary, sat_unary, sat_binary, sat_ternary] at h
  iterate 9 replace h := h.2
  rw [h.1]
  exact Table.gather_row (by decide) gather_S50176x99_S128x1_S128x99_1_0_n_n_0_1_199 rfl rfl rfl rfl rfl rfl _ _ k l

end Cert.Proof.ReferenceIdeal

end
-- ==== Proof.Simulate.lean ====
/-
  Two straight-line programs with the same operations, the buffers' numbers of one shifted against those of the other:
  contents that satisfy the equations of both agree at corresponding buffers.
-/
module

public import proofs.«01_k».proof.Proof.Ssa

@[expose] public section

namespace Cert.Proof.Ssa

open Idealize.ShloMosaic Idealize.ShloMosaic.StableHlo

variable {τ τ' : Topo} {sig sig' : RefSig} {Val : EltTy → Type}

/-- A buffer is the one of its number in its space. -/
theorem ref_eq {r y : Ref sig .tc} (hs : r.space = y.space) (hi : r.idx.val = y.idx.val) : r = y := by
  cases r
  cases y
  dsimp only at hs
  subst hs
  dsimp only at hi
  congr
  exact Fin.ext hi

/-- The buffers correspond: both in the large memory, the second numbered from `lo` on and below `n`, the first `δ` more. -/
abbrev Corr (δ lo n : ℕ) (r : Ref sig .tc) (r' : Ref sig' .tc) : Prop :=
  r.space = .hbm ∧ r'.space = .hbm ∧ lo ≤ r'.idx.val ∧ r'.idx.val < n ∧ r.idx.val = r'.idx.val + δ

/-- The contents agree at corresponding buffers. -/
def Agree (δ lo n : ℕ) (W : Valuation τ sig Val) (W' : Valuation τ' sig' Val) : Prop :=
  ∀ (r : Ref sig .tc) (r' : Ref sig' .tc), Corr δ lo n r r' → HEq (W (Proc.devRef .tc r)) (W' (Proc.devRef .tc r'))

/-- The two operations keep the agreement, and carry it on to the next buffer. -/
def Match (δ lo n n' : ℕ) (op : HloOp τ sig Val) (op' : HloOp τ' sig' Val) : Prop :=
  ∀ W W', Agree δ lo n W W' → Sat W op → Sat W' op' → Agree δ lo n' W W'

/-- The operations match one by one, from buffer `n` up to `hi`; either list may begin with others. -/
inductive Sim (δ lo : ℕ) : ℕ → List (HloOp τ sig Val) → List (HloOp τ' sig' Val) → ℕ → Prop
  | stop {n hi l l'} (h : hi ≤ n) : Sim δ lo n l l' hi
  | skip {n hi op l l'} (ht : Sim δ lo n l l' hi) : Sim δ lo n (op :: l) l' hi
  | skip' {n hi op' l l'} (ht : Sim δ lo n l l' hi) : Sim δ lo n l (op' :: l') hi
  | cons {n n' hi op op' l l'} (hm : Match δ lo n n' op op') (ht : Sim δ lo n' l l' hi) : Sim δ lo n (op :: l) (op' :: l') hi

/-- Agreement up to a buffer holds up to any earlier one. -/
theorem Agree.lower {δ lo n n' : ℕ} {W : Valuation τ sig Val} {W' : Valuation τ' sig' Val} (h : Agree δ lo n W W') (hn : n' ≤ n) : Agree δ lo n' W W' :=
  fun r r' hc => h r r' ⟨hc.1, hc.2.1, hc.2.2.1, by have := hc.2.2.2.1; omega, hc.2.2.2.2⟩

/-- Over no buffers any contents agree. -/
theorem Agree.empty {δ n : ℕ} {W : Valuation τ sig Val} {W' : Valuation τ' sig' Val} : Agree δ n n W W' :=
  fun r r' hc => absurd hc.2.2.1 (by have := hc.2.2.2.1; omega)

/-- Contents that satisfy both lists' equations agree up to the end. -/
theorem Sim.agree {δ lo n hi : ℕ} {l : List (HloOp τ sig Val)} {l' : List (HloOp τ' sig' Val)} (h : Sim δ lo n l l' hi)
    {W : Valuation τ sig Val} {W' : Valuation τ' sig' Val} (hl : Sats W l) (hl' : Sats W' l') (ha : Agree δ lo n W W') : Agree δ lo hi W W' := by
  induction h with
  | stop h => exact ha.lower h
  | skip _ ih => exact ih hl.2 hl' ha
  | skip' _ ih => exact ih hl hl'.2 ha
  | cons hm _ ih => exact ih hl.2 hl'.2 (hm _ _ ha hl.1 hl'.1)

/-- A new pair of buffers with the same contents carries the agreement on. -/
theorem Agree.next {δ lo n : ℕ} {W : Valuation τ sig Val} {W' : Valuation τ' sig' Val} (h : Agree δ lo n W W') (y : Ref sig .tc) (y' : Ref sig' .tc)
    (hy : y.space = .hbm ∧ y'.space = .hbm ∧ y'.idx.val = n ∧ y.idx.val = n + δ) (he : HEq (W (Proc.devRef .tc y)) (W' (Proc.devRef .tc y'))) :
    Agree δ lo (y'.idx.val + 1) W W' := by
  rw [hy.2.2.1]
  intro r r' ⟨h1, h2, h3, h4, h5⟩
  by_cases e : r'.idx.val < n
  · exact h r r' ⟨h1, h2, h3, e, h5⟩
  · have e' : r'.idx.val = n := by omega
    have er' : r' = y' := ref_eq (h2.trans hy.2.1.symm) (e'.trans hy.2.2.1.symm)
    have er : r = y := ref_eq (h1.trans hy.1.symm) (by rw [h5, e', hy.2.2.2])
    rw [er, er']
    exact he

/-- Moving a value into its buffer's type changes its type alone. -/
theorem toBuf_heq {T : BufTy} (x : TRef sig T) (x' : TRef sig' T) (v : T.Contents Val) : HEq (x.toBuf v) (x'.toBuf v) :=
  (cast_heq _ _).trans (cast_heq _ _).symm

/-- Equal contents, read at the common type, are equal. -/
theorem ofBuf_eq {T : BufTy} {x : TRef sig T} {x' : TRef sig' T} {v : x.ref.ty.Contents Val} {v' : x'.ref.ty.Contents Val} (h : HEq v v') : x.ofBuf v = x'.ofBuf v' :=
  eq_of_heq ((cast_heq _ _).trans (h.trans (cast_heq _ _).symm))

/-- Reshapes of equal contents are equal, along equal types. -/
theorem heq_reshape {X X' Y Y' : BufTy} (hX : X = X') (hY : Y = Y') {he : X.elt = Y.elt} {he' : X'.elt = Y'.elt} {hn : X.shape.ShapeCasts Y.shape}
    {hn' : X'.shape.ShapeCasts Y'.shape} {v : X.Contents Val} {v' : X'.Contents Val} (h : HEq v v') :
    HEq (show Y.Contents Val from fun i => he ▸ shapeCast Y.shape v hn i) (show Y'.Contents Val from fun i => he' ▸ shapeCast Y'.shape v' hn' i) := by
  subst hX
  subst hY
  rw [eq_of_heq h]

section Kinds

variable {δ lo n : ℕ}

/-- The new pair of buffers is the next one. -/
abbrev Next (δ n : ℕ) (y : Ref sig .tc) (y' : Ref sig' .tc) : Prop := y.space = .hbm ∧ y'.space = .hbm ∧ y'.idx.val = n ∧ y.idx.val = n + δ

/-- Two constants of the same value match. -/
theorem match_nullary {T : BufTy} {y : TRef sig T} {y' : TRef sig' T} {v : T.Contents Val} (hy : Next δ n y.ref y'.ref) :
    Match δ lo n (y'.ref.idx.val + 1) (TRef.nullary (τ := τ) y v) (TRef.nullary (τ := τ') y' v) := by
  intro W W' h hs hs'
  rw [TRef.nullary, sat_nullary] at hs hs'
  refine h.next _ _ hy ?_
  rw [hs, hs']
  exact toBuf_heq _ _ _

/-- Two operations of one operand with the same function match. -/
theorem match_unary {Tx T : BufTy} {x : TRef sig Tx} {x' : TRef sig' Tx} {y : TRef sig T} {y' : TRef sig' T} {f : Tx.Contents Val → T.Contents Val}
    (hx : Corr δ lo n x.ref x'.ref) (hy : Next δ n y.ref y'.ref) :
    Match δ lo n (y'.ref.idx.val + 1) (TRef.unary (τ := τ) x y f) (TRef.unary (τ := τ') x' y' f) := by
  intro W W' h hs hs'
  rw [TRef.unary, sat_unary] at hs hs'
  refine h.next _ _ hy ?_
  rw [hs, hs', ofBuf_eq (h _ _ hx)]
  exact toBuf_heq _ _ _

/-- Two operations of two operands with the same function match. -/
theorem match_binary {Ta Tb T : BufTy} {a : TRef sig Ta} {a' : TRef sig' Ta} {b : TRef sig Tb} {b' : TRef sig' Tb} {y : TRef sig T} {y' : TRef sig' T}
    {f : Ta.Contents Val → Tb.Contents Val → T.Contents Val} (ha : Corr δ lo n a.ref a'.ref) (hb : Corr δ lo n b.ref b'.ref) (hy : Next δ n y.ref y'.ref) :
    Match δ lo n (y'.ref.idx.val + 1) (TRef.binary (τ := τ) a b y f) (TRef.binary (τ := τ') a' b' y' f) := by
  intro W W' h hs hs'
  rw [TRef.binary, sat_binary] at hs hs'
  refine h.next _ _ hy ?_
  rw [hs, hs', ofBuf_eq (h _ _ ha), ofBuf_eq (h _ _ hb)]
  exact toBuf_heq _ _ _

/-- Two reshapes to the same shape match. -/
theorem match_reshape {Tx T : BufTy} {x : TRef sig Tx} {x' : TRef sig' Tx} {y : TRef sig T} {y' : TRef sig' T} {he : Tx.elt = T.elt} {hn : Tx.shape.ShapeCasts T.shape}
    (hx : Corr δ lo n x.ref x'.ref) (hy : Next δ n y.ref y'.ref) :
    Match δ lo n (y'.ref.idx.val + 1) (TRef.reshape (τ := τ) (Val := Val) x y he hn) (TRef.reshape (τ := τ') (Val := Val) x' y' he hn) := by
  intro W W' h hs hs'
  rw [TRef.reshape, sat_reshape, reshape_result] at hs hs'
  refine h.next _ _ hy ?_
  rw [hs, hs']
  exact heq_reshape (x.ty_eq.trans x'.ty_eq.symm) (y.ty_eq.trans y'.ty_eq.symm) (h _ _ hx)

end Kinds

end Cert.Proof.Ssa
-- ==== Proof.ReferenceIdeal.Linspace.lean ====
/-
  The coordinates a linspace writes are real numbers.
-/
module

public import proofs.«01_k».proof.Proof.ReferenceIdeal.Run
public import proofs.«01_k».proof.Proof.Simulate
public import proofs.«01_k».proof.Proof.Graph
public import Idealize.ShloMosaic.Lib.Pointwise

@[expose] public section

set_option maxRecDepth 16384
set_option maxHeartbeats 1000000

noncomputable section

namespace Cert.Proof.ReferenceIdeal

open Cert.ReferenceIdeal Cert.ReferenceIdeal.Gen Cert.Proof.Ssa Cert.Proof.Plain
open Idealize.ShloMosaic Idealize.ShloMosaic.TcCoe Idealize.ShloMosaic.StableHlo

section Called

variable {W : Valuation τ sig (Elt Ideal)} {Ta Tb T : BufTy} {x : TRef sig Ta} {z : TRef sig Tb} {y : TRef sig T}

/-- What a called function's reference holds, at its own type. -/
abbrev held (W : Valuation τ sig (Elt Ideal)) {T : BufTy} (y : TRef sig T) : T.Contents (Elt Ideal) := y.ofBuf (W (Proc.devRef .tc y.ref))

/-- What an operation of one operand leaves, at its own type. -/
theorem held_unary {f : Ta.Contents (Elt Ideal) → T.Contents (Elt Ideal)} (h : Sat W (TRef.unary x y f)) : held W y = f (held W x) := by
  rw [TRef.unary, sat_unary] at h
  rw [held, h, TRef.ofBuf_toBuf]

/-- What a constant leaves, at its own type. -/
theorem held_nullary {v : T.Contents (Elt Ideal)} (h : Sat W (TRef.nullary y v)) : held W y = v := by
  rw [TRef.nullary, sat_nullary] at h
  rw [held, h, TRef.ofBuf_toBuf]

/-- What an operation of two operands leaves, at its own type. -/
theorem held_binary {f : Ta.Contents (Elt Ideal) → Tb.Contents (Elt Ideal) → T.Contents (Elt Ideal)} (h : Sat W (TRef.binary x z y f)) :
    held W y = f (held W x) (held W z) := by
  rw [TRef.binary, sat_binary] at h
  rw [held, h, TRef.ofBuf_toBuf]

/-- A reshape's entries are entries of what it reads. -/
theorem held_reshape {s s' : Shape} {x : TRef sig ⟨s, .f32⟩} {y : TRef sig ⟨s', .f32⟩} {he : _} {hn : s.ShapeCasts s'}
    (h : Sat W (TRef.reshape x y he hn)) : held W y = shapeCast s' (held W x) hn := by
  rw [TRef.reshape, sat_reshape, reshape_result] at h
  rw [held, h]
  have e := heq_reshape (X' := ⟨s, .f32⟩) (Y' := ⟨s', .f32⟩) (he := by rw [x.ty_eq, y.ty_eq]) (he' := rfl) (hn := by rw [x.ty_eq, y.ty_eq]; exact hn) (hn' := hn) x.ty_eq y.ty_eq
    (v' := held W x) (cast_heq _ _).symm
  exact eq_of_heq ((cast_heq _ _).trans e)

end Called

/-- Every entry is a real number. -/
def Reals {s : Shape} (v : FVec Ideal s .f32) : Prop := ∀ i, IsReal (v i)

/-- A quotient of real numbers by others than zero is of real numbers. -/
theorem Reals.div {s : Shape} {x y : FVec Ideal s .f32} (hx : Reals x) (hy : Reals y) (h0 : ∀ i, y i ≠ (0 : EReal)) : Reals (Host.divf x y) :=
  fun i => IsReal.div (hx i) (hy i) (h0 i)

/-- The number of steps, 223, is a real number and not zero. -/
theorem steps_real : IsReal (Ideal.ofBits .f32 0x435F0000#32) ∧ Ideal.ofBits .f32 0x435F0000#32 ≠ 0 := by
  have h : Ideal.ofBits .f32 0x435F0000#32 = ((223 : ℝ) : EReal) := by
    simp [Ideal.ofBits, Ideal.ieee]
    rw [← EReal.coe_mul]
    norm_num
  rw [h]
  exact ⟨⟨_, rfl⟩, by norm_cast⟩

/-- The word of zero is a real number. -/
theorem zero_real : IsReal (Ideal.ofBits .f32 0x00000000#32) := by
  refine ⟨0, ?_⟩
  simp [Ideal.ofBits, Ideal.ieee]

/-- The word of one is a real number. -/
theorem one_real : IsReal (Ideal.ofBits .f32 0x3F800000#32) := by
  refine ⟨1, ?_⟩
  simp [Ideal.ofBits, Ideal.ieee]
  rw [← EReal.coe_mul]
  norm_num

/-- Two vectors of real numbers end to end. -/
theorem joined_real (a : FVec Ideal S223 .f32) (b : FVec Ideal S1 .f32) (ha : Reals a) (hb : Reals b) :
    Reals (concatenate S224 0 [⟨S223, a⟩, ⟨S1, b⟩] concatenates_S223_S1_S224_d0 : FVec Ideal S224 .f32) := by
  intro i
  idx_vars i
  pointwise
  split_ifs
  · exact ha _
  · exact hb _
  · exact absurd rfl ‹_›

/-- A linspace between real numbers is of real numbers. -/
theorem linspace_real (a0 a1 : TRef sig ⟨S_, .f32⟩) (φ : fn_linspace.Bufs) (W : Valuation τ sig (Elt Ideal)) (h : Sats W (linspaceOps a0 a1 φ).1)
    (h0 : Reals (held W a0)) (h1 : Reals (held W a1)) : Reals (s := S224) (held W φ.v17) := by
  dsimp only [linspaceOps, Sats] at h
  obtain ⟨e0, e1, -, -, -, e4, c0, e5, e6, e7, c1, e8, e9, e10, e11, e12, e13, e14, e15, e16, e17, -⟩ := h
  have r0 : Reals (held W φ.v0) := by rw [held_unary e0]; exact h0
  have r1 : Reals (held W φ.v1) := by rw [held_unary e1]; exact h1
  have r4 : Reals (held W φ.v4) := by rw [held_nullary e4]; exact fun i => ⟨_, rfl⟩
  have r6 : Reals (held W φ.v6) := by
    rw [held_binary e6, held_unary e5, held_nullary c0]
    exact r4.div (fun i => steps_real.1) fun i => steps_real.2
  have r8 : Reals (held W φ.v8) := by
    rw [held_unary e8, held_nullary c1]
    exact fun i => one_real
  have r9 : Reals (held W φ.v9) := by rw [held_binary e9]; exact fun i => (r8 i).sub (r6 i)
  have r10 : Reals (held W φ.v10) := by rw [held_unary e10, held_reshape e7]; exact fun i => r0 _
  have r13 : Reals (held W φ.v13) := by rw [held_unary e13, held_reshape e12]; exact fun i => r1 _
  have r11 : Reals (held W φ.v11) := by rw [held_binary e11]; exact fun i => (r10 i).mul (r9 i)
  have r14 : Reals (held W φ.v14) := by rw [held_binary e14]; exact fun i => (r13 i).mul (r6 i)
  have r15 : Reals (held W φ.v15) := by rw [held_binary e15]; exact fun i => (r11 i).add (r14 i)
  have r16 : Reals (held W φ.v16) := by rw [held_unary e16]; exact fun i => r1 _
  rw [held_binary e17]
  exact joined_real _ _ r15 r16

variable (m : (ℓ : Loc nD τ sig) → Buf (Elt Ideal) ℓ)

/-- The first and the second coordinates are real numbers. -/
theorem lines_real (c : Dev nD) : Reals (entry m c (Proc.devRef .tc main_v1) : FVec Ideal S224 .f32) ∧
    Reals (entry m c (Proc.devRef .tc main_v2) : FVec Ideal S224 .f32) := by
  have h := (entry_sats m c).1
  generalize entry m c = W at h ⊢
  dsimp only [headOps, Sats] at h
  obtain ⟨-, a, b, e0, e1, e2, e3, e4, e5, e6, e7, e8, e9, e10, e11, e12, e13, e14, e15, e16, e17, e18, e19, e20,
    a', b', f0, f1, f2, f3, f4, f5, f6, f7, f8, f9, f10, f11, f12, f13, f14, f15, f16, f17, f18, f19, f20, -⟩ := h
  rw [sat_nullary] at a b a' b'
  have ra : Reals (W (Proc.devRef .tc main_cst) : FVec Ideal S_ .f32) := by rw [a]; exact fun i => zero_real
  have ra' : Reals (W (Proc.devRef .tc main_cst_1) : FVec Ideal S_ .f32) := by rw [a']; exact fun i => zero_real
  have rb : Reals (W (Proc.devRef .tc main_cst_0) : FVec Ideal S_ .f32) := by rw [b]; exact fun i => one_real
  have rb' : Reals (W (Proc.devRef .tc main_cst_2) : FVec Ideal S_ .f32) := by rw [b']; exact fun i => one_real
  constructor
  · refine linspace_real (.of main_cst) (.of main_cst_0) main_call0 W ?_ ra rb
    dsimp only [linspaceOps, Sats]
    exact ⟨e0, e1, e2, e3, e4, e5, e6, e7, e8, e9, e10, e11, e12, e13, e14, e15, e16, e17, e18, e19, e20, trivial⟩
  · refine linspace_real (.of main_cst_1) (.of main_cst_2) main_call1 W ?_ ra' rb'
    dsimp only [linspaceOps, Sats]
    exact ⟨f0, f1, f2, f3, f4, f5, f6, f7, f8, f9, f10, f11, f12, f13, f14, f15, f16, f17, f18, f19, f20, trivial⟩

end Cert.Proof.ReferenceIdeal

end
-- ==== Proof.Coords.lean ====
/-
  The pixels' coordinates are the same in both programs, and are real numbers.
-/
module

public import proofs.«01_k».proof.Proof.KernelIdeal.Host
public import proofs.«01_k».proof.Proof.ReferenceIdeal.Host
public import proofs.«01_k».proof.Proof.ReferenceIdeal.Linspace
public import proofs.«01_k».proof.Proof.Simulate
public import proofs.«01_k».proof.Proof.Graph
public import Idealize.ShloMosaic.Lib.Pointwise

@[expose] public section

set_option maxRecDepth 16384
set_option maxHeartbeats 1000000

noncomputable section

namespace Cert.Proof.Coords

open Cert.Proof.Ssa Cert.Proof.Plain
open Idealize.ShloMosaic Idealize.ShloMosaic.TcCoe Idealize.ShloMosaic.StableHlo

/-- The first linspace is operation by operation the same. -/
theorem lin_sim : Sim 0 4 6 (Cert.KernelIdeal.Gen.hostOps0_1 (F := Ideal)) (ReferenceIdeal.headOps (F := Ideal)).1 27 := by
  dsimp only [Cert.KernelIdeal.Gen.hostOps0_1, ReferenceIdeal.headOps]
  iterate 3 with_reducible refine Sim.skip' ?_
  repeat
    first
      | (with_reducible refine Sim.cons (match_unary ?_ ?_) ?_); (· decide); (· decide)
      | (with_reducible refine Sim.cons (match_nullary ?_) ?_); (· decide)
      | (with_reducible refine Sim.cons (match_binary ?_ ?_ ?_) ?_); (· decide); (· decide); (· decide)
      | (with_reducible refine Sim.cons (match_reshape ?_ ?_) ?_); (· decide); (· decide)
      | exact Sim.stop (by decide)

/-- The second linspace too. -/
theorem lin_sim' : Sim 0 4 29 (Cert.KernelIdeal.Gen.hostOps0_3 (F := Ideal)) (ReferenceIdeal.headOps (F := Ideal)).1 50 := by
  dsimp only [Cert.KernelIdeal.Gen.hostOps0_3, ReferenceIdeal.headOps]
  iterate 26 with_reducible refine Sim.skip' ?_
  repeat
    first
      | (with_reducible refine Sim.cons (match_unary ?_ ?_) ?_); (· decide); (· decide)
      | (with_reducible refine Sim.cons (match_nullary ?_) ?_); (· decide)
      | (with_reducible refine Sim.cons (match_binary ?_ ?_ ?_) ?_); (· decide); (· decide); (· decide)
      | (with_reducible refine Sim.cons (match_reshape ?_ ?_) ?_); (· decide); (· decide)
      | exact Sim.stop (by decide)

/-- A table of coordinates: a half, the first numbers down the rows, the second along them. -/
def coords (u v : FVec Ideal Cert.ReferenceIdeal.S224 .f32) (l : Fin 3) (h w : Fin 224) : EReal :=
  if l.val < 1 then Ideal.ofBits .f32 0x3F000000#32 else if l.val - 1 < 1 then u (ix1 h) else v (ix1 w)

section
open Cert.KernelIdeal Cert.KernelIdeal.Gen

variable (m : (ℓ : Loc nD τ sig) → Buf (Elt Ideal) ℓ)

/-- The kernel's coordinate planes are the table of coordinates. -/
theorem kernel_coords (c : Dev nD) (l : Fin 3) (h w : Fin 224) : (V0 m c (Proc.devRef .tc main_v9) (ix3 l h w) : EReal)
    = coords (V0 m c (Proc.devRef .tc main_v1)) (V0 m c (Proc.devRef .tc main_v2)) l h w := by
  have hs := (KernelIdeal.launch_sats m c).1
  replace hs := (Sats.append.1 (Sats.append.1 (Sats.append.1 (Sats.append.1 hs).2).2).2).2
  generalize V0 m c = W at hs ⊢
  dsimp only [hostOps0_4, Sats] at hs
  simp only [sat_nullary, sat_unary, sat_binary, sat_ternary, sat_nary] at hs
  obtain ⟨e3, e4, c3, e5, e6, e7, e8, e9, -⟩ := hs
  rw [e9]
  have h6 : (W (Proc.devRef .tc main_v6) : FVec Ideal S1x224x224 .f32) = fun _ => Ideal.ofBits .f32 0x3F000000#32 := by
    rw [e6, e5, c3]
    rfl
  have h7 : ∀ i : S1x224x224.Idx, (W (Proc.devRef .tc main_v7) i : EReal) = W (Proc.devRef .tc main_v1) (ix1 (i 1)) := by
    intro i
    idx_vars i
    rw [e7, e3]
    pointwise
  have h8 : ∀ i : S1x224x224.Idx, (W (Proc.devRef .tc main_v8) i : EReal) = W (Proc.devRef .tc main_v2) (ix1 (i 2)) := by
    intro i
    idx_vars i
    rw [e8, e4]
    pointwise
  show (concatenate S3x224x224 0 [⟨S1x224x224, (W (Proc.devRef .tc main_v6) : FVec Ideal S1x224x224 .f32)⟩, ⟨S1x224x224, (W (Proc.devRef .tc main_v7) : FVec Ideal S1x224x224 .f32)⟩, ⟨S1x224x224, (W (Proc.devRef .tc main_v8) : FVec Ideal S1x224x224 .f32)⟩] _ : FVec Ideal S3x224x224 .f32) (ix3 l h w) = _
  generalize (W (Proc.devRef .tc main_v6) : FVec Ideal S1x224x224 .f32) = a6 at h6 ⊢
  generalize (W (Proc.devRef .tc main_v7) : FVec Ideal S1x224x224 .f32) = a7 at h7 ⊢
  generalize (W (Proc.devRef .tc main_v8) : FVec Ideal S1x224x224 .f32) = a8 at h8 ⊢
  pointwise
  unfold coords
  split_ifs <;> first | (exfalso; omega) | (rw [h6]; done) | exact h7 _ | exact h8 _

end

section
open Cert.ReferenceIdeal Cert.ReferenceIdeal.Gen Cert.Proof.ReferenceIdeal

variable (m : (ℓ : Loc nD τ sig) → Buf (Elt Ideal) ℓ)

/-- The reference's coordinate planes are the table of coordinates. -/
theorem reference_coords (c : Dev nD) (l : Fin 3) (h w : Fin 224) : (entry m c (Proc.devRef .tc main_v9) (ix3 l h w) : EReal)
    = coords (entry m c (Proc.devRef .tc main_v1)) (entry m c (Proc.devRef .tc main_v2)) l h w := by
  have hs := (entry_sats m c).1
  generalize entry m c = W at hs ⊢
  dsimp only [headOps, Sats] at hs
  simp only [sat_nullary, sat_unary, sat_binary, sat_ternary, sat_nary] at hs
  iterate 47 replace hs := hs.2
  obtain ⟨e3, e4, c3, e5, e6, e7, e8, e9, -⟩ := hs
  rw [e9]
  have h6 : (W (Proc.devRef .tc main_v6) : FVec Ideal S1x224x224 .f32) = fun _ => Ideal.ofBits .f32 0x3F000000#32 := by
    rw [e6, e5, c3]
    rfl
  have h7 : ∀ i : S1x224x224.Idx, (W (Proc.devRef .tc main_v7) i : EReal) = W (Proc.devRef .tc main_v1) (ix1 (i 1)) := by
    intro i
    idx_vars i
    rw [e7, e3]
    pointwise
  have h8 : ∀ i : S1x224x224.Idx, (W (Proc.devRef .tc main_v8) i : EReal) = W (Proc.devRef .tc main_v2) (ix1 (i 2)) := by
    intro i
    idx_vars i
    rw [e8, e4]
    pointwise
  show (concatenate S3x224x224 0 [⟨S1x224x224, (W (Proc.devRef .tc main_v6) : FVec Ideal S1x224x224 .f32)⟩, ⟨S1x224x224, (W (Proc.devRef .tc main_v7) : FVec Ideal S1x224x224 .f32)⟩, ⟨S1x224x224, (W (Proc.devRef .tc main_v8) : FVec Ideal S1x224x224 .f32)⟩] _ : FVec Ideal S3x224x224 .f32) (ix3 l h w) = _
  generalize (W (Proc.devRef .tc main_v6) : FVec Ideal S1x224x224 .f32) = a6 at h6 ⊢
  generalize (W (Proc.devRef .tc main_v7) : FVec Ideal S1x224x224 .f32) = a7 at h7 ⊢
  generalize (W (Proc.devRef .tc main_v8) : FVec Ideal S1x224x224 .f32) = a8 at h8 ⊢
  pointwise
  unfold coords
  split_ifs <;> first | (exfalso; omega) | (rw [h6]; done) | exact h7 _ | exact h8 _

end

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The linspaces' results are the same in both programs. -/
theorem lines_eq (c : Dev Cert.KernelIdeal.nD) :
    (Cert.KernelIdeal.Gen.V0 m c (Proc.devRef .tc Cert.KernelIdeal.main_v1) : FVec Ideal Cert.ReferenceIdeal.S224 .f32)
        = ReferenceIdeal.entry m' c (Proc.devRef .tc Cert.ReferenceIdeal.main_v1)
      ∧ (Cert.KernelIdeal.Gen.V0 m c (Proc.devRef .tc Cert.KernelIdeal.main_v2) : FVec Ideal Cert.ReferenceIdeal.S224 .f32)
        = ReferenceIdeal.entry m' c (Proc.devRef .tc Cert.ReferenceIdeal.main_v2) := by
  obtain ⟨k0, k⟩ := Sats.append.1 (KernelIdeal.launch_sats m c).1
  obtain ⟨k1, k⟩ := Sats.append.1 k
  obtain ⟨k2, k⟩ := Sats.append.1 k
  obtain ⟨k3, -⟩ := Sats.append.1 k
  have h := (ReferenceIdeal.entry_sats m' c).1
  generalize Cert.KernelIdeal.Gen.V0 m c = W at *
  generalize ReferenceIdeal.entry m' c = W' at *
  have h' := h
  dsimp only [ReferenceIdeal.headOps, Sats] at h'
  dsimp only [Cert.KernelIdeal.Gen.hostOps0, Sats] at k0
  dsimp only [Cert.KernelIdeal.Gen.hostOps0_2, Sats] at k2
  simp only [sat_nullary] at k0 k2
  obtain ⟨-, a, b, h'⟩ := h'
  iterate 21 replace h' := h'.2
  obtain ⟨a', b', -⟩ := h'
  rw [sat_nullary] at a b a' b'
  have g4 : (W (Proc.devRef .tc Cert.KernelIdeal.main_cst) : FVec Ideal Cert.ReferenceIdeal.S_ .f32) = W' (Proc.devRef .tc Cert.ReferenceIdeal.main_cst) :=
    k0.2.1.trans a.symm
  have g5 : (W (Proc.devRef .tc Cert.KernelIdeal.main_cst_0) : FVec Ideal Cert.ReferenceIdeal.S_ .f32) = W' (Proc.devRef .tc Cert.ReferenceIdeal.main_cst_0) :=
    k0.2.2.1.trans b.symm
  have g27 : (W (Proc.devRef .tc Cert.KernelIdeal.main_cst_1) : FVec Ideal Cert.ReferenceIdeal.S_ .f32) = W' (Proc.devRef .tc Cert.ReferenceIdeal.main_cst_1) :=
    k2.1.trans a'.symm
  have g28 : (W (Proc.devRef .tc Cert.KernelIdeal.main_cst_2) : FVec Ideal Cert.ReferenceIdeal.S_ .f32) = W' (Proc.devRef .tc Cert.ReferenceIdeal.main_cst_2) :=
    k2.2.1.trans b'.symm
  have s4 : Agree 0 4 5 W W' := (Agree.empty (n := 4)).next Cert.KernelIdeal.main_cst Cert.ReferenceIdeal.main_cst (by decide) (heq_of_eq g4)
  have s5 : Agree 0 4 6 W W' := s4.next Cert.KernelIdeal.main_cst_0 Cert.ReferenceIdeal.main_cst_0 (by decide) (heq_of_eq g5)
  have s26 : Agree 0 4 27 W W' := lin_sim.agree k1 h s5
  have s27 : Agree 0 4 28 W W' := s26.next Cert.KernelIdeal.main_cst_1 Cert.ReferenceIdeal.main_cst_1 (by decide) (heq_of_eq g27)
  have s28 : Agree 0 4 29 W W' := s27.next Cert.KernelIdeal.main_cst_2 Cert.ReferenceIdeal.main_cst_2 (by decide) (heq_of_eq g28)
  have s49 : Agree 0 4 50 W W' := lin_sim'.agree k3 h s28
  exact ⟨eq_of_heq (s49 _ _ (by decide)), eq_of_heq (s49 _ _ (by decide))⟩

/-- The images as the programs lay them out are the same. -/
theorem image_eq (c : Dev Cert.KernelIdeal.nD)
    (h0 : (m' (c, Proc.devRef .tc Cert.ReferenceIdeal.main_arg0) : FVec Ideal Cert.ReferenceIdeal.S1x96x1x224x224 .f32)
      = m (c, Proc.devRef .tc Cert.KernelIdeal.main_arg0)) :
    (Cert.KernelIdeal.Gen.V0 m c (Proc.devRef .tc Cert.KernelIdeal.main_v0) : FVec Ideal Cert.ReferenceIdeal.S1x96x224x224 .f32)
      = ReferenceIdeal.entry m' c (Proc.devRef .tc Cert.ReferenceIdeal.main_v0) := by
  obtain ⟨k0, -⟩ := Sats.append.1 (KernelIdeal.launch_sats m c).1
  have h := (ReferenceIdeal.entry_sats m' c).1
  have hk : (Cert.KernelIdeal.Gen.V0 m c (Proc.devRef .tc Cert.KernelIdeal.main_arg0) : FVec Ideal Cert.ReferenceIdeal.S1x96x1x224x224 .f32) = _ :=
    KernelIdeal.launch_keeps m c (r := Cert.KernelIdeal.main_arg0) (by decide)
  have hr : (ReferenceIdeal.entry m' c (Proc.devRef .tc Cert.ReferenceIdeal.main_arg0) : FVec Ideal Cert.ReferenceIdeal.S1x96x1x224x224 .f32) = _ :=
    ReferenceIdeal.preOps_mono.keeps (fun b => m' (c, b)) (r := Cert.ReferenceIdeal.main_arg0) (by decide)
  generalize Cert.KernelIdeal.Gen.V0 m c = W at *
  generalize ReferenceIdeal.entry m' c = W' at *
  dsimp only [ReferenceIdeal.headOps, Sats] at h
  dsimp only [Cert.KernelIdeal.Gen.hostOps0, Sats] at k0
  simp only [sat_reshape] at k0
  replace h := h.1
  rw [sat_reshape] at h
  replace k0 := k0.1
  have ek : (W (Proc.devRef .tc Cert.KernelIdeal.main_v0) : FVec Ideal Cert.ReferenceIdeal.S1x96x224x224 .f32)
      = shapeCast Cert.ReferenceIdeal.S1x96x224x224 (W (Proc.devRef .tc Cert.KernelIdeal.main_arg0) : FVec Ideal Cert.ReferenceIdeal.S1x96x1x224x224 .f32)
          Cert.ReferenceIdeal.Gen.shapeCasts_S1x96x1x224x224_S1x96x224x224 := k0.trans (reshape_result _ _ _ _ _ _ _)
  have er : (W' (Proc.devRef .tc Cert.ReferenceIdeal.main_v0) : FVec Ideal Cert.ReferenceIdeal.S1x96x224x224 .f32)
      = shapeCast Cert.ReferenceIdeal.S1x96x224x224 (W' (Proc.devRef .tc Cert.ReferenceIdeal.main_arg0) : FVec Ideal Cert.ReferenceIdeal.S1x96x1x224x224 .f32)
          Cert.ReferenceIdeal.Gen.shapeCasts_S1x96x1x224x224_S1x96x224x224 := h.trans (reshape_result _ _ _ _ _ _ _)
  rw [ek, er, hk, hr, h0]

/-- The pixels' features are the same. -/
theorem pix_eq (c : Dev Cert.KernelIdeal.nD)
    (h0 : (m' (c, Proc.devRef .tc Cert.ReferenceIdeal.main_arg0) : FVec Ideal Cert.ReferenceIdeal.S1x96x1x224x224 .f32)
      = m (c, Proc.devRef .tc Cert.KernelIdeal.main_arg0)) : KernelIdeal.pix m c = ReferenceIdeal.pix m' c := by
  funext p l
  have hz : (Cert.KernelIdeal.Gen.V0 m c (Proc.devRef .tc Cert.KernelIdeal.main_v9) : FVec Ideal Cert.ReferenceIdeal.S3x224x224 .f32)
      = ReferenceIdeal.entry m' c (Proc.devRef .tc Cert.ReferenceIdeal.main_v9) := by
    funext i
    idx_vars i
    refine (kernel_coords m c _ _ _).trans (Eq.trans ?_ (reference_coords m' c _ _ _).symm)
    rw [← (lines_eq m m' c).1, ← (lines_eq m m' c).2]
  rw [KernelIdeal.rows_apply, ReferenceIdeal.rows_apply, ← hz, ← image_eq m m' c h0]
  exact Pixels.rows_eq _ _ p l

/-- The last three features of every pixel are real numbers. -/
theorem pix_real (c : Dev Cert.ReferenceIdeal.nD) (p : Fin 50176) (l : Fin 3) :
    IsReal (ReferenceIdeal.pix m' c p ⟨96 + l.val, by omega⟩) := by
  rw [ReferenceIdeal.rows_apply, Pixels.coord_apply]
  refine IsReal.mul ?_ ?_
  · rw [reference_coords]
    unfold coords
    split_ifs
    · refine ⟨1 / 2, ?_⟩
      simp [Ideal.ofBits, Ideal.ieee]
      rw [← EReal.coe_mul]
      norm_num
    · exact (ReferenceIdeal.lines_real m' c).1 _
    · exact (ReferenceIdeal.lines_real m' c).2 _
  · refine ⟨5, ?_⟩
    simp [Ideal.ofBits, Ideal.ieee]
    rw [← EReal.coe_mul]
    norm_num

end Cert.Proof.Coords

end
-- ==== Proof.Shuffle.lean ====
/-
  The two programs' host stretches with the same operations: the shuffle.
-/
module

public import proofs.«01_k».proof.Proof.KernelIdeal.Order
public import proofs.«01_k».proof.Proof.ReferenceIdeal.Order
public import proofs.«01_k».proof.Proof.Simulate
public import Idealize.ShloMosaic.Lib.Pointwise

@[expose] public section

set_option maxRecDepth 16384
set_option maxHeartbeats 4000000

noncomputable section

namespace Cert.Proof.Shuffle

open Cert.Proof.Ssa
open Idealize.ShloMosaic Idealize.ShloMosaic.TcCoe Idealize.ShloMosaic.StableHlo

/-- Both programs sort by the same comparator. -/
theorem comparator_eq : Cert.KernelIdeal.comparator_i32_i32_d0 = Cert.ReferenceIdeal.comparator_i32_i32_d0 := rfl

/-- The shuffles are operation by operation the same. -/
theorem shuf_sim : Sim 16 75 77 (Cert.KernelIdeal.Gen.hostOps0_5 (F := Ideal)) (ReferenceIdeal.shufOps (F := Ideal)) 1037 := by
  dsimp only [Cert.KernelIdeal.Gen.hostOps0_5, ReferenceIdeal.shufOps, ReferenceIdeal.shuffleOps, List.cons_append, List.nil_append]
  rw [comparator_eq]
  repeat
    (with_reducible apply Sim.cons)
    · first
        | (with_reducible refine match_unary ?_ ?_) <;> decide
        | (with_reducible refine match_binary ?_ ?_ ?_) <;> decide
        | (with_reducible refine match_nullary ?_) <;> decide
        | (with_reducible refine match_reshape ?_ ?_) <;> decide
  exact Sim.stop (by decide)

end Cert.Proof.Shuffle

end
-- ==== Proof.Start.lean ====
/-
  The pixels the centroids start at are the same in both programs.
-/
module

public import proofs.«01_k».proof.Proof.KernelIdeal.Host
public import proofs.«01_k».proof.Proof.ReferenceIdeal.Host
public import proofs.«01_k».proof.Proof.Shuffle

@[expose] public section

set_option maxRecDepth 16384
set_option maxHeartbeats 1000000

noncomputable section

namespace Cert.Proof.Start

open Cert.Proof.Ssa
open Idealize.ShloMosaic Idealize.ShloMosaic.TcCoe Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The shuffles begin with the same key and the same pixels' numbers. -/
theorem key_eq (c : Dev Cert.KernelIdeal.nD) :
    (Cert.KernelIdeal.Gen.V0 m c (Proc.devRef .tc Cert.KernelIdeal.main_v33) : IVec Cert.ReferenceIdeal.S2 32)
        = ReferenceIdeal.entry m' c (Proc.devRef .tc Cert.ReferenceIdeal.main_v23)
      ∧ (Cert.KernelIdeal.Gen.V0 m c (Proc.devRef .tc Cert.KernelIdeal.main_v34) : IVec Cert.ReferenceIdeal.S50176 32)
        = ReferenceIdeal.entry m' c (Proc.devRef .tc Cert.ReferenceIdeal.main_v24) := by
  have k := KernelIdeal.coords_sats m c
  have h := (ReferenceIdeal.entry_sats m' c).1
  generalize Cert.KernelIdeal.Gen.V0 m c = W at *
  generalize ReferenceIdeal.entry m' c = W' at *
  dsimp only [ReferenceIdeal.headOps, Sats] at h
  iterate 63 replace h := h.2
  dsimp only [Cert.KernelIdeal.Gen.hostOps0_4, Sats] at k
  iterate 32 replace k := k.2
  simp only [sat_nullary, sat_unary, sat_binary] at h k
  obtain ⟨c0, c5, e17, e18, e19, c6, e20, e21, e22, e23, e24, -⟩ := h
  obtain ⟨c10, c11, e27, e28, e29, c12, e30, e31, e32, e33, e34, -⟩ := k
  constructor
  · rw [e33, e29, e28, e27, c10, c11, e32, e31, e30, c10, c12, e23, e19, e18, e17, c0, c5, e22, e21, e20, c0, c6]
  · rw [e34, e24]

/-- The shuffled pixels are the same. -/
theorem shuffled_eq (c : Dev Cert.KernelIdeal.nD) :
    (Cert.KernelIdeal.Gen.V0 m c (Proc.devRef .tc Cert.KernelIdeal.main_v35) : IVec Cert.ReferenceIdeal.S50176 32)
        = ReferenceIdeal.entry m' c (Proc.devRef .tc Cert.ReferenceIdeal.main_v25) := by
  obtain ⟨g33, g34⟩ := key_eq m m' c
  have k := (KernelIdeal.launch_sats m c).2.1
  have h := (ReferenceIdeal.entry_sats m' c).2.1
  generalize Cert.KernelIdeal.Gen.V0 m c = W at *
  generalize ReferenceIdeal.entry m' c = W' at *
  have s75 : Agree 16 75 76 W W' := (Agree.empty (n := 75)).next Cert.KernelIdeal.main_v33 Cert.ReferenceIdeal.main_v23 (by decide) (heq_of_eq g33)
  have s76 : Agree 16 75 77 W W' := s75.next Cert.KernelIdeal.main_v34 Cert.ReferenceIdeal.main_v24 (by decide) (heq_of_eq g34)
  have s : Agree 16 75 1037 W W' := Shuffle.shuf_sim.agree k h s76
  exact eq_of_heq (s _ _ (by decide))

/-- The first hundred and twenty eight of them, wrapped, are the same. -/
theorem index_eq (c : Dev Cert.KernelIdeal.nD) :
    (Cert.KernelIdeal.Gen.V0 m c (Proc.devRef .tc Cert.KernelIdeal.main_v42) : IVec Cert.ReferenceIdeal.S128x1 32)
        = ReferenceIdeal.entry m' c (Proc.devRef .tc Cert.ReferenceIdeal.main_v32) := by
  have g := shuffled_eq m m' c
  have k := (KernelIdeal.launch_sats m c).2.2
  have h := (ReferenceIdeal.entry_sats m' c).2.2
  generalize Cert.KernelIdeal.Gen.V0 m c = W at *
  generalize ReferenceIdeal.entry m' c = W' at *
  dsimp only [ReferenceIdeal.tailOps, Sats] at h
  dsimp only [Cert.KernelIdeal.Gen.hostOps0_6, Sats] at k
  simp only [sat_nullary, sat_unary, sat_binary, sat_ternary] at h k
  obtain ⟨e26, c7, e27, e28, c8, e29, e30, e31, e32, -⟩ := h
  obtain ⟨e36, c13, e37, e38, c14, e39, e40, e41, e42, -⟩ := k
  rw [e42, e41, e40, e39, c14, e38, e37, c13, e36, e32, e31, e30, e29, c8, e28, e27, c7, e26, ← g]

/-- Every centroid starts at the same pixel. -/
theorem start_eq (c : Dev Cert.KernelIdeal.nD) : KernelIdeal.start m c = ReferenceIdeal.start m' c := by
  funext k
  unfold KernelIdeal.start ReferenceIdeal.start
  rw [← index_eq m m' c]

end Cert.Proof.Start

end
-- ==== Proof.Same.lean ====
/-
  The two programs' results, read entry by entry, are the same.
-/
module

public import proofs.«01_k».proof.Proof.KernelIdeal.Graph
public import proofs.«01_k».proof.Proof.ReferenceIdeal.Graph
public import proofs.«01_k».proof.Proof.Coords
public import proofs.«01_k».proof.Proof.Start

@[expose] public section

set_option maxRecDepth 16384

noncomputable section

namespace Cert.Proof.Same

open Cert.Proof.Plain
open Idealize.ShloMosaic Idealize.ShloMosaic.TcCoe Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The arguments agree on a device. -/
abbrev Args (c : Dev Cert.KernelIdeal.nD) : Prop :=
  (m' (c, Proc.devRef .tc Cert.ReferenceIdeal.main_arg0) : FVec Ideal Cert.ReferenceIdeal.S1x96x1x224x224 .f32) = m (c, Proc.devRef .tc Cert.KernelIdeal.main_arg0)
    ∧ (m' (c, Proc.devRef .tc Cert.ReferenceIdeal.main_arg1) : FVec Ideal Cert.ReferenceIdeal.S128x99 .f32) = m (c, Proc.devRef .tc Cert.KernelIdeal.main_arg1)
    ∧ (m' (c, Proc.devRef .tc Cert.ReferenceIdeal.main_arg2) : FVec Ideal Cert.ReferenceIdeal.S128 .f32) = m (c, Proc.devRef .tc Cert.KernelIdeal.main_arg2)

/-- The kernel's first centroids, as the pixels they are, are the reference's. -/
theorem first_eq (c : Dev Cert.KernelIdeal.nD) (h : Args m m' c) :
    (fun k => KernelIdeal.pix m c (KernelIdeal.start m c k)) = ReferenceIdeal.first m' c := by
  funext k l
  rw [ReferenceIdeal.first_apply, Coords.pix_eq m m' c h.1, Start.start_eq m m' c]

/-- The reference's distances between the final centroids are not infinite. -/
theorem gap_ne_top (c : Dev Cert.ReferenceIdeal.nD) (i j : Fin 128) :
    ReferenceIdeal.gap (rounds (ReferenceIdeal.pix m' c) (ReferenceIdeal.first m' c) 10) i j ≠ ⊤ := by
  have hr : ∀ (k : Fin 128) (l : Fin 3), IsReal (rounds (ReferenceIdeal.pix m' c) (ReferenceIdeal.first m' c) 10 k ⟨96 + l.val, by omega⟩) := fun k l =>
    rounds_real _ _ _ (fun p => Coords.pix_real m' c p l) (fun k => by rw [ReferenceIdeal.first_apply]; exact Coords.pix_real m' c _ l) 10 k
  exact dist_ne_top _ _ (hr i) (hr j)

/-- The first results agree. -/
theorem feats_eq (c : Dev Cert.KernelIdeal.nD) (h : Args m m' c) :
    (KernelIdeal.feats (Cert.KernelIdeal.Gen.V m c Cert.KernelIdeal.main_v26) (Cert.KernelIdeal.Gen.V m c Cert.KernelIdeal.main_v43) (Cert.KernelIdeal.Gen.V m c Cert.KernelIdeal.main_v15)
        (Cert.KernelIdeal.Gen.V m c Cert.KernelIdeal.main_v16) : FVec Ideal Cert.ReferenceIdeal.S128x128 .f32)
      = ReferenceIdeal.ending m' c (Proc.devRef .tc Cert.ReferenceIdeal.main_v39) := by
  funext i
  idx_vars i
  refine (KernelIdeal.feats_apply (KernelIdeal.first_lanes m c) (KernelIdeal.pixels_lanes m c) _ _ _ _).trans
    (Eq.trans ?_ (ReferenceIdeal.feats_apply m' c _ _).symm)
  rw [first_eq m m' c h, Coords.pix_eq m m' c h.1, h.2.1, h.2.2]
  refine congr (congrArg _ (Finset.sum_congr rfl fun l _ => congrArg _ ?_)) ?_
  · exact KernelIdeal.weights_apply m c _ l
  · exact KernelIdeal.bias_apply m c _

/-- Both sides measure centroids alike. -/
theorem gap_eq : KernelIdeal.gap = ReferenceIdeal.gap := rfl

/-- The second results agree. -/
theorem adj_eq (c : Dev Cert.KernelIdeal.nD) (h : Args m m' c) :
    (KernelIdeal.adj (Cert.KernelIdeal.Gen.V m c Cert.KernelIdeal.main_v26) (Cert.KernelIdeal.Gen.V m c Cert.KernelIdeal.main_v43) : FVec Ideal Cert.ReferenceIdeal.S128x128 .f32)
      = ReferenceIdeal.ending m' c (Proc.devRef .tc Cert.ReferenceIdeal.main_v82) := by
  funext i
  idx_vars i
  refine (KernelIdeal.adj_apply (KernelIdeal.first_lanes m c) (KernelIdeal.pixels_lanes m c) _ _).trans
    (Eq.trans ?_ (ReferenceIdeal.adj_apply m' c _ _).symm)
  rw [ReferenceIdeal.marks_apply, ReferenceIdeal.marks_apply, first_eq m m' c h, Coords.pix_eq m m' c h.1,
    gap_eq, (dropped_eq _ (gap_ne_top m' c i0) 8 (by decide) i1).2, (dropped_eq _ (gap_ne_top m' c i1) 8 (by decide) i0).2]

/-- Equal tables stay equal under a leading axis. -/
theorem lifted_eq {a b : FVec Ideal Cert.ReferenceIdeal.S128x128 .f32} (h : a = b) :
    (broadcastInDim Cert.ReferenceIdeal.S1x128x128 ![1, 2] Cert.ReferenceIdeal.Gen.bcast_S128x128_S1x128x128_1_2 b : FVec Ideal Cert.ReferenceIdeal.S1x128x128 .f32)
      = broadcastInDim Cert.KernelIdeal.S1x128x128 ![1, 2] Cert.KernelIdeal.Gen.bcast_S128x128_S1x128x128_1_2 a := by
  rw [h]

end Cert.Proof.Same

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.ReferenceIdeal.Run
public import proofs.«01_k».proof.Proof.Same

@[expose] public section

noncomputable section

namespace Cert.Proof

open Idealize.ShloMosaic Idealize.ShloMosaic.TcCoe Idealize.ShloMosaic.StableHlo Idealize.SL.Sem

/-- From memories with the same arguments, the idealized kernel and the idealized reference end with the same
    features and the same graph, and leave the arguments as they were. -/
theorem algebraic : Cert.algebraic_KernelIdeal_ReferenceIdeal (hKernelIdeal := Cert.KernelIdeal.Gen.facts)
    (hReferenceIdeal := Cert.ReferenceIdeal.Gen.facts) := by
  intro m g m' g' _ h
  refine ⟨_, _, KernelIdeal.values m g, (θ_run _ _ _).mono (fun r hr c => ?_) (ReferenceIdeal.values m' g')⟩
  obtain ⟨r0, r1, hk⟩ := hr c
  refine ⟨r0.trans ?_, r1.trans ?_, hk⟩
  · exact Same.lifted_eq (Same.feats_eq m m' c (h c))
  · exact Same.lifted_eq (Same.adj_eq m m' c (h c))

/-- The claim: the three programs come to rest with their arguments unchanged, and the printed kernel
    and its idealized form are the same program, and the idealized kernel computes what the idealized
    reference does. -/
theorem claim : Cert.Claim :=
  ⟨Cert.Kernel.Gen.facts, Cert.KernelIdeal.Gen.facts, Cert.ReferenceIdeal.Gen.facts,
    fun m g _ => Kernel.frame_quiet m g,
    fun m g _ => KernelIdeal.frame_quiet m g,
    fun m g _ => ReferenceIdeal.frame_quiet m g,
    trivial, algebraic⟩

end Cert.Proof

end
